-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_core6 : Cert.Pre_core6.Facts] (m : (ℓ : Loc Cert.Kernel6.nD Cert.Kernel6.τ Cert.Kernel6.sig) → Buf (Elt Bits) ℓ) : Prop :=
  ∀ c : Dev Cert.Kernel6.nD,
    (Cert.Pre_core6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2))) = (fun _ => 1#1)

def Pre_Kernel6Ideal [hPre_core6 : Cert.Pre_core6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_core6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_core6 [hPre_core6 : Cert.Pre_core6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_core6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 [hPre_core7 : Cert.Pre_core7.Facts] (m : (ℓ : Loc Cert.Kernel7.nD Cert.Kernel7.τ Cert.Kernel7.sig) → Buf (Elt Bits) ℓ) : Prop :=
  ∀ c : Dev Cert.Kernel7.nD,
    (Cert.Pre_core7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))) = (fun _ => 1#1)

def Pre_Kernel7Ideal [hPre_core7 : Cert.Pre_core7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_core7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_core7 [hPre_core7 : Cert.Pre_core7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_core7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_tables : Cert.Pre_tables.Facts] (m : (ℓ : Loc Cert.Kernel10.nD Cert.Kernel10.τ Cert.Kernel10.sig) → Buf (Elt Bits) ℓ) : Prop :=
  ∀ c : Dev Cert.Kernel10.nD,
    (Cert.Pre_tables.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5)) (m ((c.tc : Thread Cert.Kernel10.nD Cert.Kernel10.τ).loc Cert.Kernel10.main_arg6))) = (fun _ => 1#1)

def Pre_Kernel10Ideal [hPre_tables : Cert.Pre_tables.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_tables.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 [hPre_core15 : Cert.Pre_core15.Facts] (m : (ℓ : Loc Cert.Kernel15.nD Cert.Kernel15.τ Cert.Kernel15.sig) → Buf (Elt Bits) ℓ) : Prop :=
  ∀ c : Dev Cert.Kernel15.nD,
    (Cert.Pre_core15.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2))) = (fun _ => 1#1)

def Pre_Kernel15Ideal [hPre_core15 : Cert.Pre_core15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_core15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_core15 [hPre_core15 : Cert.Pre_core15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_core15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 [hPre_core16 : Cert.Pre_core16.Facts] (m : (ℓ : Loc Cert.Kernel16.nD Cert.Kernel16.τ Cert.Kernel16.sig) → Buf (Elt Bits) ℓ) : Prop :=
  ∀ c : Dev Cert.Kernel16.nD,
    (Cert.Pre_core16.fn (F := Bits) (m ((c.tc : Thread Cert.Kernel16.nD Cert.Kernel16.τ).loc Cert.Kernel16.main_arg0)) (m ((c.tc : Thread Cert.Kernel16.nD Cert.Kernel16.τ).loc Cert.Kernel16.main_arg1)) (m ((c.tc : Thread Cert.Kernel16.nD Cert.Kernel16.τ).loc Cert.Kernel16.main_arg2)) (m ((c.tc : Thread Cert.Kernel16.nD Cert.Kernel16.τ).loc Cert.Kernel16.main_arg3))) = (fun _ => 1#1)

def Pre_Kernel16Ideal [hPre_core16 : Cert.Pre_core16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_core16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_core16 [hPre_core16 : Cert.Pre_core16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_core16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_core6 : Cert.Pre_core6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] [hPre_core6 : Cert.Pre_core6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_core6 [hReference6Ideal : Cert.Reference6Ideal.Facts] [hPre_core6 : Cert.Pre_core6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_core6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] [hPre_core7 : Cert.Pre_core7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_core7 : Cert.Pre_core7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_core7 [hReference7Ideal : Cert.Reference7Ideal.Facts] [hPre_core7 : Cert.Pre_core7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_core7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] [hPre_tables : Cert.Pre_tables.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] [hPre_tables : Cert.Pre_tables.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] [hPre_core15 : Cert.Pre_core15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_core15 [hReference15Ideal : Cert.Reference15Ideal.Facts] [hPre_core15 : Cert.Pre_core15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_core15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] [hPre_core16 : Cert.Pre_core16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_core16 [hReference16Ideal : Cert.Reference16Ideal.Facts] [hPre_core16 : Cert.Pre_core16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_core16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v65) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] [hPre_core6 : Cert.Pre_core6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] [hPre_core7 : Cert.Pre_core7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_v75) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v66) = v0 c
          ∧ r.2.mem ((c.tc : Thread Cert.Reference12Ideal.nD Cert.Reference12Ideal.τ).loc Cert.Reference12Ideal.main_v68) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] [hPre_core15 : Cert.Pre_core15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] [hPre_core16 : Cert.Pre_core16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v38) = v0 c
          ∧ r.2.mem ((c.tc : Thread Cert.Reference29Ideal.nD Cert.Reference29Ideal.τ).loc Cert.Reference29Ideal.main_v39) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite2 : Cert.Pre_finite2.Facts) (hPre_core6 : Cert.Pre_core6.Facts) (hPre_core7 : Cert.Pre_core7.Facts) (hPre_tables : Cert.Pre_tables.Facts) (hPre_finite10 : Cert.Pre_finite10.Facts) (hPre_core15 : Cert.Pre_core15.Facts) (hPre_core16 : Cert.Pre_core16.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_core6 := hPre_core6)
    ∧ quiescent_Kernel6Ideal (hKernel6Ideal := hKernel6Ideal) (hPre_core6 := hPre_core6)
    ∧ quiescent_Reference6Ideal (hReference6Ideal := hReference6Ideal)
    ∧ quiescent_Reference6Ideal_pre_core6 (hReference6Ideal := hReference6Ideal) (hPre_core6 := hPre_core6)
    ∧ quiescent_Kernel7 (hKernel7 := hKernel7) (hPre_core7 := hPre_core7)
    ∧ quiescent_Kernel7Ideal (hKernel7Ideal := hKernel7Ideal) (hPre_core7 := hPre_core7)
    ∧ quiescent_Reference7Ideal (hReference7Ideal := hReference7Ideal)
    ∧ quiescent_Reference7Ideal_pre_core7 (hReference7Ideal := hReference7Ideal) (hPre_core7 := hPre_core7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_tables := hPre_tables)
    ∧ quiescent_Kernel10Ideal (hKernel10Ideal := hKernel10Ideal) (hPre_tables := hPre_tables)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15) (hPre_core15 := hPre_core15)
    ∧ quiescent_Kernel15Ideal (hKernel15Ideal := hKernel15Ideal) (hPre_core15 := hPre_core15)
    ∧ quiescent_Reference15Ideal (hReference15Ideal := hReference15Ideal)
    ∧ quiescent_Reference15Ideal_pre_core15 (hReference15Ideal := hReference15Ideal) (hPre_core15 := hPre_core15)
    ∧ quiescent_Kernel16 (hKernel16 := hKernel16) (hPre_core16 := hPre_core16)
    ∧ quiescent_Kernel16Ideal (hKernel16Ideal := hKernel16Ideal) (hPre_core16 := hPre_core16)
    ∧ quiescent_Reference16Ideal (hReference16Ideal := hReference16Ideal)
    ∧ quiescent_Reference16Ideal_pre_core16 (hReference16Ideal := hReference16Ideal) (hPre_core16 := hPre_core16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_core6 := hPre_core6)
    ∧ preserves_Kernel7_Kernel7Ideal
    ∧ algebraic_Kernel7Ideal_Reference7Ideal (hKernel7Ideal := hKernel7Ideal) (hReference7Ideal := hReference7Ideal) (hPre_core7 := hPre_core7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal) (hPre_core15 := hPre_core15)
    ∧ preserves_Kernel16_Kernel16Ideal
    ∧ algebraic_Kernel16Ideal_Reference16Ideal (hKernel16Ideal := hKernel16Ideal) (hReference16Ideal := hReference16Ideal) (hPre_core16 := hPre_core16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_core15.lean ====
abbrev S4096x4096 : Shape := ⟨2, ![4096, 4096]⟩
abbrev S_ : Shape := ⟨0, ![]⟩

class Facts : Prop where

variable [Facts]

def fn {F : FTy → Type} [FloatOps F] (main_arg0 : FVec F S4096x4096 .bf16) (main_arg1 : FVec F S4096x4096 .bf16) (main_arg2 : IVec S_ 32) : IVec S_ 1 :=
  let main_c : IVec S_ 32 := constantI S_ 32 0#32
  let main_v0 : IVec S_ 1 := cmpi .eq main_arg2 main_c
  let main_c_0 : IVec S_ 32 := constantI S_ 32 1#32
  let main_v1 : IVec S_ 1 := cmpi .eq main_arg2 main_c_0
  let main_v2 : IVec S_ 1 := ori main_v0 main_v1
  main_v2
-- ==== Pre_core16.lean ====
abbrev S4096x4096 : Shape := ⟨2, ![4096, 4096]⟩
abbrev S_ : Shape := ⟨0, ![]⟩
abbrev S4x512x4096 : Shape := ⟨3, ![4, 512, 4096]⟩

class Facts : Prop where

variable [Facts]

def fn {F : FTy → Type} [FloatOps F] (main_arg0 : FVec F S4096x4096 .bf16) (main_arg1 : FVec F S4096x4096 .bf16) (main_arg2 : IVec S_ 32) (main_arg3 : FVec F S4x512x4096 .bf16) : IVec S_ 1 :=
  let main_c : IVec S_ 32 := constantI S_ 32 0#32
  let main_v0 : IVec S_ 1 := cmpi .eq main_arg2 main_c
  let main_c_0 : IVec S_ 32 := constantI S_ 32 1#32
  let main_v1 : IVec S_ 1 := cmpi .eq main_arg2 main_c_0
  let main_v2 : IVec S_ 1 := ori main_v0 main_v1
  main_v2
-- ==== Pre_core6.lean ====
abbrev S4096x11264 : Shape := ⟨2, ![4096, 11264]⟩
abbrev S4096x4096 : Shape := ⟨2, ![4096, 4096]⟩
abbrev S_ : Shape := ⟨0, ![]⟩

class Facts : Prop where

variable [Facts]

def fn {F : FTy → Type} [FloatOps F] (main_arg0 : FVec F S4096x11264 .bf16) (main_arg1 : FVec F S4096x4096 .bf16) (main_arg2 : IVec S_ 32) : IVec S_ 1 :=
  let main_c : IVec S_ 32 := constantI S_ 32 0#32
  let main_v0 : IVec S_ 1 := cmpi .eq main_arg2 main_c
  let main_c_0 : IVec S_ 32 := constantI S_ 32 1#32
  let main_v1 : IVec S_ 1 := cmpi .eq main_arg2 main_c_0
  let main_v2 : IVec S_ 1 := ori main_v0 main_v1
  main_v2
-- ==== Pre_core7.lean ====
abbrev S4096x11264 : Shape := ⟨2, ![4096, 11264]⟩
abbrev S4096x4096 : Shape := ⟨2, ![4096, 4096]⟩
abbrev S_ : Shape := ⟨0, ![]⟩
abbrev S4x1408x4096 : Shape := ⟨3, ![4, 1408, 4096]⟩

class Facts : Prop where

variable [Facts]

def fn {F : FTy → Type} [FloatOps F] (main_arg0 : FVec F S4096x11264 .bf16) (main_arg1 : FVec F S4096x4096 .bf16) (main_arg2 : IVec S_ 32) (main_arg3 : FVec F S4x1408x4096 .bf16) : IVec S_ 1 :=
  let main_c : IVec S_ 32 := constantI S_ 32 0#32
  let main_v0 : IVec S_ 1 := cmpi .eq main_arg2 main_c
  let main_c_0 : IVec S_ 32 := constantI S_ 32 1#32
  let main_v1 : IVec S_ 1 := cmpi .eq main_arg2 main_c_0
  let main_v2 : IVec S_ 1 := ori main_v0 main_v1
  main_v2
-- ==== Pre_finite10.lean ====
abbrev S36 : Shape := ⟨1, ![36]⟩
abbrev S8 : Shape := ⟨1, ![8]⟩
abbrev S4096x2048 : Shape := ⟨2, ![4096, 2048]⟩
abbrev S4096x10240 : Shape := ⟨2, ![4096, 10240]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  reducesTo_S36_S_d0 : S36.ReducesTo [0] S_

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn_part1 {F : FTy → Type} [FloatOps F] (main_arg0 : IVec S36 32) (main_arg1 : IVec S36 32) (main_c : IVec S36 32) (main_c_0 : IVec S36 32) (main_v3 : IVec S_ 1) (main_v7 : IVec S_ 1) (main_v11 : IVec S_ 1) (main_v14 : IVec S4096x2048 1) : IVec S_ 1 :=
  let main_c_7 : IVec S_ 1 := constantI S_ 1 1#1
  let main_v15 : IVec S_ 1 := (fun x v => Host.reduce IntOp.andi x v reducesTo_S4096x2048_S_d0_1 h_S_) main_v14 main_c_7
  let main_v16 : IVec S36 1 := cmpi .eq main_arg0 main_c
  let main_c_8 : IVec S_ 1 := constantI S_ 1 1#1
  let main_v17 : IVec S_ 1 := (fun x v => Host.reduce IntOp.andi x v reducesTo_S36_S_d0 h_S_) main_v16 main_c_8
  let main_v18 : IVec S36 1 := cmpi .eq main_arg1 main_c_0
  let main_c_9 : IVec S_ 1 := constantI S_ 1 1#1
  let main_v19 : IVec S_ 1 := (fun x v => Host.reduce IntOp.andi x v reducesTo_S36_S_d0 h_S_) main_v18 main_c_9
  let main_v20 : IVec S_ 1 := andi main_v17 main_v19
  let main_v21 : IVec S_ 1 := andi main_v20 main_v3
  let main_v22 : IVec S_ 1 := andi main_v21 main_v7
  let main_v23 : IVec S_ 1 := andi main_v22 main_v11
  let main_v24 : IVec S_ 1 := andi main_v23 main_v15
  main_v24

def fn {F : FTy → Type} [FloatOps F] (main_arg0 : IVec S36 32) (main_arg1 : IVec S36 32) (main_arg2 : FVec F S8 .f32) (main_arg3 : FVec F S4096x2048 .bf16) (main_arg4 : FVec F S4096x2048 .bf16) (main_arg5 : FVec F S4096x2048 .bf16) (main_arg6 : FVec F S4096x10240 .f32) : IVec S_ 1 :=
  let main_c : IVec S36 32 := fun i => lit0 (S36.rowMajor i)
  let main_c_0 : IVec S36 32 := fun i => lit1 (S36.rowMajor i)
  let main_v0 : FVec F S8 .f32 := Host.absf main_arg2
  let main_cst : FVec F S_ .f32 := constant S_ .f32 0x7F800000#32
  let main_v1 : FVec F S8 .f32 := broadcastInDim S8 ![] bcast_S_S8 main_cst
  let main_v2 : IVec S8 1 := cmpf .olt main_v0 main_v1
  let main_c_1 : IVec S_ 1 := constantI S_ 1 1#1
  let main_v3 : IVec S_ 1 := (fun x v => Host.reduce IntOp.andi x v reducesTo_S8_S_d0 h_S_) main_v2 main_c_1
  let main_v4 : FVec F S4096x2048 .bf16 := Host.absf main_arg3
  let main_cst_2 : FVec F S_ .bf16 := constant S_ .bf16 0x7F80#16
  let main_v5 : FVec F S4096x2048 .bf16 := broadcastInDim S4096x2048 ![] bcast_S_S4096x2048 main_cst_2
  let main_v6 : IVec S4096x2048 1 := cmpf .olt main_v4 main_v5
  let main_c_3 : IVec S_ 1 := constantI S_ 1 1#1
  let main_v7 : IVec S_ 1 := (fun x v => Host.reduce IntOp.andi x v reducesTo_S4096x2048_S_d0_1 h_S_) main_v6 main_c_3
  let main_v8 : FVec F S4096x2048 .bf16 := Host.absf main_arg4
  let main_cst_4 : FVec F S_ .bf16 := constant S_ .bf16 0x7F80#16
  let main_v9 : FVec F S4096x2048 .bf16 := broadcastInDim S4096x2048 ![] bcast_S_S4096x2048 main_cst_4
  let main_v10 : IVec S4096x2048 1 := cmpf .olt main_v8 main_v9
  let main_c_5 : IVec S_ 1 := constantI S_ 1 1#1
  let main_v11 : IVec S_ 1 := (fun x v => Host.reduce IntOp.andi x v reducesTo_S4096x2048_S_d0_1 h_S_) main_v10 main_c_5
  let main_v12 : FVec F S4096x2048 .bf16 := Host.absf main_arg5
  let main_cst_6 : FVec F S_ .bf16 := constant S_ .bf16 0x7F80#16
  let main_v13 : FVec F S4096x2048 .bf16 := broadcastInDim S4096x2048 ![] bcast_S_S4096x2048 main_cst_6
  let main_v14 : IVec S4096x2048 1 := cmpf .olt main_v12 main_v13
  fn_part1 (F := F) main_arg0 main_arg1 main_c main_c_0 main_v3 main_v7 main_v11 main_v14
-- ==== Pre_finite2.lean ====
abbrev S4096x2048 : Shape := ⟨2, ![4096, 2048]⟩
abbrev S4096x10240 : Shape := ⟨2, ![4096, 10240]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x10240 : S_.BroadcastsInDim S4096x10240 (![] : Fin 0 → Fin S4096x10240.rank)
  reducesTo_S4096x10240_S_d0_1 : S4096x10240.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x2048 .f32) (main_arg1 : FVec F S4096x10240 .f32) (main_arg2 : FVec F S4096x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x10240 .f32 := Host.absf main_arg1
  let main_cst_0 : FVec F S_ .f32 := constant S_ .f32 0x7F800000#32
  let main_v5 : FVec F S4096x10240 .f32 := broadcastInDim S4096x10240 ![] bcast_S_S4096x10240 main_cst_0
  let main_v6 : IVec S4096x10240 1 := cmpf .olt main_v4 main_v5
  let main_c_1 : IVec S_ 1 := constantI S_ 1 1#1
  let main_v7 : IVec S_ 1 := (fun x v => Host.reduce IntOp.andi x v reducesTo_S4096x10240_S_d0_1 h_S_) main_v6 main_c_1
  let main_v8 : FVec F S4096x4096 .f32 := Host.absf main_arg2
  let main_cst_2 : FVec F S_ .f32 := constant S_ .f32 0x7F800000#32
  let main_v9 : FVec F S4096x4096 .f32 := broadcastInDim S4096x4096 ![] bcast_S_S4096x4096 main_cst_2
  let main_v10 : IVec S4096x4096 1 := cmpf .olt main_v8 main_v9
  let main_c_3 : IVec S_ 1 := constantI S_ 1 1#1
  let main_v11 : IVec S_ 1 := (fun x v => Host.reduce IntOp.andi x v reducesTo_S4096x4096_S_d0_1 h_S_) main_v10 main_c_3
  let main_v12 : IVec S_ 1 := andi main_v3 main_v7
  let main_v13 : IVec S_ 1 := andi main_v12 main_v11
  main_v13
-- ==== Pre_tables.lean ====
abbrev S36 : Shape := ⟨1, ![36]⟩
abbrev S8 : Shape := ⟨1, ![8]⟩
abbrev S4096x2048 : Shape := ⟨2, ![4096, 2048]⟩
abbrev S4096x10240 : Shape := ⟨2, ![4096, 10240]⟩
abbrev S_ : Shape := ⟨0, ![]⟩

class Facts : Prop where
  reducesTo_S36_S_d0 : S36.ReducesTo [0] S_
  h_S_ : 0 < S_.numel

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn {F : FTy → Type} [FloatOps F] (main_arg0 : IVec S36 32) (main_arg1 : IVec S36 32) (main_arg2 : FVec F S8 .f32) (main_arg3 : FVec F S4096x2048 .bf16) (main_arg4 : FVec F S4096x2048 .bf16) (main_arg5 : FVec F S4096x2048 .bf16) (main_arg6 : FVec F S4096x10240 .f32) : IVec S_ 1 :=
  let main_c : IVec S36 32 := fun i => lit0 (S36.rowMajor i)
  let main_c_0 : IVec S36 32 := fun i => lit1 (S36.rowMajor i)
  let main_v0 : IVec S36 1 := cmpi .eq main_arg0 main_c
  let main_c_1 : IVec S_ 1 := constantI S_ 1 1#1
  let main_v1 : IVec S_ 1 := (fun x v => Host.reduce IntOp.andi x v reducesTo_S36_S_d0 h_S_) main_v0 main_c_1
  let main_v2 : IVec S36 1 := cmpi .eq main_arg1 main_c_0
  let main_c_2 : IVec S_ 1 := constantI S_ 1 1#1
  let main_v3 : IVec S_ 1 := (fun x v => Host.reduce IntOp.andi x v reducesTo_S36_S_d0 h_S_) main_v2 main_c_2
  let main_v4 : IVec S_ 1 := andi main_v1 main_v3
  main_v4
-- ==== Kernel2.lean ====
abbrev S4096x2048 : Shape := ⟨2, ![4096, 2048]⟩
abbrev S4096x10240 : Shape := ⟨2, ![4096, 10240]⟩
abbrev S4096x4096 : Shape := ⟨2, ![4096, 4096]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x10240, .f32⟩
  | .hbm, ⟨2, _⟩ => ⟨S4096x4096, .f32⟩
  | .hbm, ⟨3, _⟩ => ⟨S4096x2048, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4096x2048 : Shape := ⟨2, ![4096, 2048]⟩
abbrev S4096x10240 : Shape := ⟨2, ![4096, 10240]⟩
abbrev S4096x4096 : Shape := ⟨2, ![4096, 4096]⟩
abbrev S1x4096x8x256 : Shape := ⟨4, ![1, 4096, 8, 256]⟩
abbrev S_ : Shape := ⟨0, ![]⟩
abbrev S1x4096x8 : Shape := ⟨3, ![1, 4096, 8]⟩
abbrev S1x4096x8x1 : Shape := ⟨4, ![1, 4096, 8, 1]⟩
abbrev S1x4096x2048 : Shape := ⟨3, ![1, 4096, 2048]⟩
abbrev S4096x8 : Shape := ⟨2, ![4096, 8]⟩

abbrev nBuf : Space → Nat
  | .hbm => 99
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x10240, .f32⟩
  | .hbm, ⟨2, _⟩ => ⟨S4096x4096, .f32⟩
  | .hbm, ⟨3, _⟩ => ⟨S4096x2048, .f32⟩
  | .hbm, ⟨4, _⟩ => ⟨S1x4096x8x256, .f32⟩
  | .hbm, ⟨5, _⟩ => ⟨S_, .f32⟩
  | .hbm, ⟨6, _⟩ => ⟨S1x4096x8, .f32⟩
  | .hbm, ⟨7, _⟩ => ⟨S1x4096x8x1, .f32⟩
  | .hbm, ⟨8, _⟩ => ⟨S_, .f32⟩
  | .hbm, ⟨9, _⟩ => ⟨S1x4096x8x1, .f32⟩
  | .hbm, ⟨10, _⟩ => ⟨S1x4096x8x1, .f32⟩
  | .hbm, ⟨11, _⟩ => ⟨S1x4096x8x256, .f32⟩
  | .hbm, ⟨12, _⟩ => ⟨S1x4096x8x256, .f32⟩
  | .hbm, ⟨13, _⟩ => ⟨S1x4096x8x256, .f32⟩
  | .hbm, ⟨14, _⟩ => ⟨S_, .f32⟩
  | .hbm, ⟨15, _⟩ => ⟨S1x4096x8x256, .f32⟩
  | .hbm, ⟨16, _⟩ => ⟨S1x4096x8x256, .f32⟩
  | .hbm, ⟨17, _⟩ => ⟨S_, .f32⟩
  | .hbm, ⟨18, _⟩ => ⟨S1x4096x8, .f32⟩
  | .hbm, ⟨19, _⟩ => ⟨S1x4096x8x1, .f32⟩
  | .hbm, ⟨20, _⟩ => ⟨S_, .f32⟩
  | .hbm, ⟨21, _⟩ => ⟨S1x4096x8x1, .f32⟩
  | .hbm, ⟨22, _⟩ => ⟨S1x4096x8x1, .f32⟩
  | .hbm, ⟨23, _⟩ => ⟨S1x4096x8x256, .f32⟩
  | .hbm, ⟨24, _⟩ => ⟨S1x4096x8x256, .f32⟩
  | .hbm, ⟨25, _⟩ => ⟨S_, .f32⟩
  | .hbm, ⟨26, _⟩ => ⟨S1x4096x8x1, .f32⟩
  | .hbm, ⟨27, _⟩ => ⟨S1x4096x8x1, .f32⟩
  | .hbm, ⟨28, _⟩ => ⟨S1x4096x8x1, .f32⟩
  | .hbm, ⟨29, _⟩ => ⟨S1x4096x8x1, .f32⟩
  | .hbm, ⟨30, _⟩ => ⟨S_, .f32⟩
  | .hbm, ⟨31, _⟩ => ⟨S1x4096x8x1, .f32⟩
  | .hbm, ⟨32, _⟩ => ⟨S1x4096x8x1, .f32⟩
  | .hbm, ⟨33, _⟩ => ⟨S1x4096x8x256, .f32⟩
  | .hbm, ⟨34, _⟩ => ⟨S1x4096x8x256, .f32⟩
  | .hbm, ⟨35, _⟩ => ⟨S1x4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S1x4096x2048, .f32⟩
  | .hbm, ⟨50, _⟩ => ⟨S1x4096x2048, .f32⟩
  | .hbm, ⟨51, _⟩ => ⟨S4096x2048, .f32⟩
  | .hbm, ⟨52, _⟩ => ⟨S4096x2048, .f32⟩
  | .hbm, ⟨53, _⟩ => ⟨S1x4096x2048, .f32⟩
  | .hbm, ⟨54, _⟩ => ⟨S1x4096x2048, .f32⟩
  | .hbm, ⟨55, _⟩ => ⟨S1x4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S1x4096x8x256, .f32⟩
  | .hbm, ⟨63, _⟩ => ⟨S1x4096x8x256, .f32⟩
  | .hbm, ⟨64, _⟩ => ⟨S_, .f32⟩
  | .hbm, ⟨65, _⟩ => ⟨S1x4096x8, .f32⟩
  | .hbm, ⟨66, _⟩ => ⟨S1x4096x8x1, .f32⟩
  | .hbm, ⟨67, _⟩ => ⟨S1x4096x8x256, .f32⟩
  | .hbm, ⟨68, _⟩ => ⟨S1x4096x8x256, .f32⟩
  | .hbm, ⟨69, _⟩ => ⟨S1x4096x8x1, .f32⟩
  | .hbm, ⟨70, _⟩ => ⟨S1x4096x8x256, .f32⟩
  | .hbm, ⟨71, _⟩ => ⟨S_, .f32⟩
  | .hbm, ⟨72, _⟩ => ⟨S1x4096x8, .f32⟩
  | .hbm, ⟨73, _⟩ => ⟨S1x4096x8x1, .f32⟩
  | .hbm, ⟨74, _⟩ => ⟨S_, .f32⟩
  | .hbm, ⟨75, _⟩ => ⟨S1x4096x8x1, .f32⟩
  | .hbm, ⟨76, _⟩ => ⟨S1x4096x8x1, .f32⟩
  | .hbm, ⟨77, _⟩ => ⟨S_, .f32⟩
  | .hbm, ⟨78, _⟩ => ⟨S4096x8, .f32⟩
  | .hbm, ⟨79, _⟩ => ⟨S1x4096x8, .f32⟩
  | .hbm, ⟨80, _⟩ => ⟨S1x4096x8x256, .f32⟩
  | .hbm, ⟨81, _⟩ => ⟨S1x4096x8x256, .f32⟩
  | .hbm, ⟨82, _⟩ => ⟨S1x4096x8x256, .f32⟩
  | .hbm, ⟨83, _⟩ => ⟨S_, .f32⟩
  | .hbm, ⟨84, _⟩ => ⟨S1x4096x8, .f32⟩
  | .hbm, ⟨85, _⟩ => ⟨S1x4096x8x1, .f32⟩
  | .hbm, ⟨86, _⟩ => ⟨S1x4096x8x256, .f32⟩
  | .hbm, ⟨87, _⟩ => ⟨S1x4096x8x1, .f32⟩
  | .hbm, ⟨88, _⟩ => ⟨S_, .f32⟩
  | .hbm, ⟨89, _⟩ => ⟨S1x4096x8x1, .f32⟩
  | .hbm, ⟨90, _⟩ => ⟨S1x4096x8x1, .f32⟩
  | .hbm, ⟨91, _⟩ => ⟨S_, .f32⟩
  | .hbm, ⟨92, _⟩ => ⟨S4096x8, .f32⟩
  | .hbm, ⟨93, _⟩ => ⟨S1x4096x8, .f32⟩
  | .hbm, ⟨94, _⟩ => ⟨S1x4096x8x256, .f32⟩
  | .hbm, ⟨95, _⟩ => ⟨S1x4096x8x256, .f32⟩
  | .hbm, ⟨96, _⟩ => ⟨S4096x2048, .f32⟩
  | .hbm, ⟨97, _⟩ => ⟨S4096x2048, .bf16⟩
  | .hbm, ⟨98, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v26_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v26_1 : Ref sig .tc := ⟨.hbm, 47, rfl⟩
abbrev main_v26_0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Kernel3.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x4096 : Shape := ⟨2, ![4096, 4096]⟩
abbrev S11264x4096 : Shape := ⟨2, ![11264, 4096]⟩
abbrev S_ : Shape := ⟨0, ![]⟩
abbrev S4096x11264 : Shape := ⟨2, ![4096, 11264]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S_, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x11264 : Shape := ⟨2, ![4096, 11264]⟩
abbrev S11264x4096 : Shape := ⟨2, ![11264, 4096]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S_, .f32⟩
  | .hbm, ⟨3, _⟩ => ⟨S4096x4096, .f32⟩
  | .hbm, ⟨4, _⟩ => ⟨S11264x4096, .f32⟩
  | .hbm, ⟨5, _⟩ => ⟨S4096x11264, .f32⟩
  | .hbm, ⟨6, _⟩ => ⟨S4096x11264, .f32⟩
  | .hbm, ⟨7, _⟩ => ⟨S4096x11264, .f32⟩
  | .hbm, ⟨8, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x11264 : Shape := ⟨2, ![4096, 11264]⟩
abbrev S11264x4096 : Shape := ⟨2, ![11264, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S11264x4096, .f32⟩
  | .hbm, ⟨6, _⟩ => ⟨S4096x11264, .f32⟩
  | .hbm, ⟨7, _⟩ => ⟨S4096x11264, .f32⟩
  | .hbm, ⟨8, _⟩ => ⟨S4096x11264, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S4096x11264 : Shape := ⟨2, ![4096, 11264]⟩
abbrev S4096x4096 : Shape := ⟨2, ![4096, 4096]⟩
abbrev S_ : Shape := ⟨0, ![]⟩
abbrev S1 : Shape := ⟨1, ![1]⟩
abbrev S4x1408x4096 : Shape := ⟨3, ![4, 1408, 4096]⟩
abbrev S4096x1408 : Shape := ⟨2, ![4096, 1408]⟩
abbrev S4096x512 : Shape := ⟨2, ![4096, 512]⟩
abbrev S1x1408x512 : Shape := ⟨3, ![1, 1408, 512]⟩
abbrev S1408x512 : Shape := ⟨2, ![1408, 512]⟩

abbrev nBuf : Space → Nat
  | .hbm => 4
  | .vmem => 6
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .i32⟩
  | .hbm, ⟨3, _⟩ => ⟨S4x1408x4096, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1408x512, .bf16⟩
  | .local _ .vmem, ⟨5, _⟩ => ⟨S1x1408x512, .bf16⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩
abbrev S4x2x1408x4096 : Shape := ⟨4, ![4, 2, 1408, 4096]⟩
abbrev S4x1x1408x4096 : Shape := ⟨4, ![4, 1, 1408, 4096]⟩
abbrev S4x1408x4096 : Shape := ⟨3, ![4, 1408, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .i32⟩
  | .hbm, ⟨3, _⟩ => ⟨S_, .f32⟩
  | .hbm, ⟨4, _⟩ => ⟨S11264x4096, .f32⟩
  | .hbm, ⟨5, _⟩ => ⟨S4096x11264, .f32⟩
  | .hbm, ⟨6, _⟩ => ⟨S4096x4096, .f32⟩
  | .hbm, ⟨7, _⟩ => ⟨S4096x4096, .f32⟩
  | .hbm, ⟨8, _⟩ => ⟨S4096x11264, .f32⟩
  | .hbm, ⟨9, _⟩ => ⟨S11264x4096, .f32⟩
  | .hbm, ⟨10, _⟩ => ⟨S4x2x1408x4096, .f32⟩
  | .hbm, ⟨11, _⟩ => ⟨S_, .i32⟩
  | .hbm, ⟨12, _⟩ => ⟨S_, .i1⟩
  | .hbm, ⟨13, _⟩ => ⟨S4x1x1408x4096, .f32⟩
  | .hbm, ⟨14, _⟩ => ⟨S4x1408x4096, .f32⟩
  | .hbm, ⟨15, _⟩ => ⟨S4x1x1408x4096, .f32⟩
  | .hbm, ⟨16, _⟩ => ⟨S4x1408x4096, .f32⟩
  | .hbm, ⟨17, _⟩ => ⟨S4x1408x4096, .f32⟩
  | .hbm, ⟨18, _⟩ => ⟨S4x1408x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S4096x11264 : Shape := ⟨2, ![4096, 11264]⟩
abbrev S4096x4096 : Shape := ⟨2, ![4096, 4096]⟩
abbrev S_ : Shape := ⟨0, ![]⟩
abbrev S4x1408x4096 : Shape := ⟨3, ![4, 1408, 4096]⟩
abbrev S1 : Shape := ⟨1, ![1]⟩
abbrev S4096x1408 : Shape := ⟨2, ![4096, 1408]⟩
abbrev S4096x512 : Shape := ⟨2, ![4096, 512]⟩
abbrev S1x1408x512 : Shape := ⟨3, ![1, 1408, 512]⟩
abbrev S1408x512 : Shape := ⟨2, ![1408, 512]⟩

abbrev nBuf : Space → Nat
  | .hbm => 5
  | .vmem => 8
  | .smem => 1
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .i32⟩
  | .hbm, ⟨3, _⟩ => ⟨S4x1408x4096, .bf16⟩
  | .hbm, ⟨4, _⟩ => ⟨S4x1408x4096, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1408x512, .bf16⟩
  | .local _ .vmem, ⟨5, _⟩ => ⟨S1x1408x512, .bf16⟩
  | .local _ .vmem, ⟨6, _⟩ => ⟨S1x1408x512, .bf16⟩
  | .local _ .vmem, ⟨7, _⟩ => ⟨S1x1408x512, .bf16⟩
  | .local _ .smem, ⟨0, _⟩ => ⟨S1, .i32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x11264 : Shape := ⟨2, ![4096, 11264]⟩
abbrev S4096x4096 : Shape := ⟨2, ![4096, 4096]⟩
abbrev S_ : Shape := ⟨0, ![]⟩
abbrev S4x1408x4096 : Shape := ⟨3, ![4, 1408, 4096]⟩
abbrev S11264x4096 : Shape := ⟨2, ![11264, 4096]⟩
abbrev S4x2x1408x4096 : Shape := ⟨4, ![4, 2, 1408, 4096]⟩
abbrev S4x1x1408x4096 : Shape := ⟨4, ![4, 1, 1408, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S_, .i32⟩
  | .hbm, ⟨3, _⟩ => ⟨S4x1408x4096, .bf16⟩
  | .hbm, ⟨4, _⟩ => ⟨S4x1408x4096, .f32⟩
  | .hbm, ⟨5, _⟩ => ⟨S_, .f32⟩
  | .hbm, ⟨6, _⟩ => ⟨S11264x4096, .f32⟩
  | .hbm, ⟨7, _⟩ => ⟨S4096x11264, .f32⟩
  | .hbm, ⟨8, _⟩ => ⟨S4096x4096, .f32⟩
  | .hbm, ⟨9, _⟩ => ⟨S4096x4096, .f32⟩
  | .hbm, ⟨10, _⟩ => ⟨S4096x11264, .f32⟩
  | .hbm, ⟨11, _⟩ => ⟨S11264x4096, .f32⟩
  | .hbm, ⟨12, _⟩ => ⟨S4x2x1408x4096, .f32⟩
  | .hbm, ⟨13, _⟩ => ⟨S_, .i32⟩
  | .hbm, ⟨14, _⟩ => ⟨S_, .i1⟩
  | .hbm, ⟨15, _⟩ => ⟨S4x1x1408x4096, .f32⟩
  | .hbm, ⟨16, _⟩ => ⟨S4x1408x4096, .f32⟩
  | .hbm, ⟨17, _⟩ => ⟨S4x1x1408x4096, .f32⟩
  | .hbm, ⟨18, _⟩ => ⟨S4x1408x4096, .f32⟩
  | .hbm, ⟨19, _⟩ => ⟨S4x1408x4096, .f32⟩
  | .hbm, ⟨20, _⟩ => ⟨S4x1408x4096, .f32⟩
  | .hbm, ⟨21, _⟩ => ⟨S4x1408x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x4096 : Shape := ⟨2, ![4096, 4096]⟩
abbrev S11264x4096 : Shape := ⟨2, ![11264, 4096]⟩
abbrev S4096x11264 : Shape := ⟨2, ![4096, 11264]⟩
abbrev S3x11264 : Shape := ⟨2, ![3, 11264]⟩
abbrev S1x11264 : Shape := ⟨2, ![1, 11264]⟩
abbrev S1024x4096 : Shape := ⟨2, ![1024, 4096]⟩
abbrev S512x4096 : Shape := ⟨2, ![512, 4096]⟩
abbrev S1024x512 : Shape := ⟨2, ![1024, 512]⟩
abbrev S16x512 : Shape := ⟨2, ![16, 512]⟩
abbrev S3x512 : Shape := ⟨2, ![3, 512]⟩
abbrev S1x512 : Shape := ⟨2, ![1, 512]⟩
abbrev S8x512 : Shape := ⟨2, ![8, 512]⟩
abbrev S1016x512 : Shape := ⟨2, ![1016, 512]⟩

abbrev nBuf : Space → Nat
  | .hbm => 7
  | .vmem => 16
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S3x11264, .f32⟩
  | .hbm, ⟨4, _⟩ => ⟨S1x11264, .f32⟩
  | .hbm, ⟨5, _⟩ => ⟨S4096x11264, .bf16⟩
  | .hbm, ⟨6, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S16x512, .bf16⟩
  | .local _ .vmem, ⟨7, _⟩ => ⟨S16x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S4096x4096 : Shape := ⟨2, ![4096, 4096]⟩
abbrev S11264x4096 : Shape := ⟨2, ![11264, 4096]⟩
abbrev S4096x11264 : Shape := ⟨2, ![4096, 11264]⟩
abbrev S3x11264 : Shape := ⟨2, ![3, 11264]⟩
abbrev S1x11264 : Shape := ⟨2, ![1, 11264]⟩
abbrev S11264 : Shape := ⟨1, ![11264]⟩
abbrev S_ : Shape := ⟨0, ![]⟩
abbrev S2x11264 : Shape := ⟨2, ![2, 11264]⟩
abbrev S4098x11264 : Shape := ⟨2, ![4098, 11264]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S3x11264, .f32⟩
  | .hbm, ⟨4, _⟩ => ⟨S1x11264, .f32⟩
  | .hbm, ⟨5, _⟩ => ⟨S4096x4096, .f32⟩
  | .hbm, ⟨6, _⟩ => ⟨S11264x4096, .f32⟩
  | .hbm, ⟨7, _⟩ => ⟨S4096x11264, .f32⟩
  | .hbm, ⟨8, _⟩ => ⟨S4096x11264, .f32⟩
  | .hbm, ⟨9, _⟩ => ⟨S4096x11264, .f32⟩
  | .hbm, ⟨10, _⟩ => ⟨S11264, .f32⟩
  | .hbm, ⟨11, _⟩ => ⟨S_, .f32⟩
  | .hbm, ⟨12, _⟩ => ⟨S2x11264, .f32⟩
  | .hbm, ⟨13, _⟩ => ⟨S4098x11264, .f32⟩
  | .hbm, ⟨14, _⟩ => ⟨S4096x11264, .f32⟩
  | .hbm, ⟨15, _⟩ => ⟨S1x11264, .f32⟩
  | .hbm, ⟨16, _⟩ => ⟨S11264, .f32⟩
  | .hbm, ⟨17, _⟩ => ⟨S1x11264, .f32⟩
  | .hbm, ⟨18, _⟩ => ⟨S4096x11264, .f32⟩
  | .hbm, ⟨19, _⟩ => ⟨S4096x11264, .f32⟩
  | .hbm, ⟨20, _⟩ => ⟨S1x11264, .f32⟩
  | .hbm, ⟨21, _⟩ => ⟨S4096x11264, .f32⟩
  | .hbm, ⟨22, _⟩ => ⟨S4096x11264, .f32⟩
  | .hbm, ⟨23, _⟩ => ⟨S4096x11264, .f32⟩
  | .hbm, ⟨24, _⟩ => ⟨S1x11264, .f32⟩
  | .hbm, ⟨25, _⟩ => ⟨S11264, .f32⟩
  | .hbm, ⟨26, _⟩ => ⟨S1x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .f32⟩
  | .hbm, ⟨31, _⟩ => ⟨S1x11264, .f32⟩
  | .hbm, ⟨32, _⟩ => ⟨S11264, .f32⟩
  | .hbm, ⟨33, _⟩ => ⟨S1x11264, .f32⟩
  | .hbm, ⟨34, _⟩ => ⟨S4096x11264, .f32⟩
  | .hbm, ⟨35, _⟩ => ⟨S4096x11264, .f32⟩
  | .hbm, ⟨36, _⟩ => ⟨S4096x11264, .f32⟩
  | .hbm, ⟨37, _⟩ => ⟨S4096x11264, .bf16⟩
  | .hbm, ⟨38, _⟩ => ⟨S4096x11264, .f32⟩
  | .hbm, ⟨39, _⟩ => ⟨S4096x11264, .f32⟩
  | .hbm, ⟨40, _⟩ => ⟨S_, .f32⟩
  | .hbm, ⟨41, _⟩ => ⟨S4096x11264, .f32⟩
  | .hbm, ⟨42, _⟩ => ⟨S4096x11264, .f32⟩
  | .hbm, ⟨43, _⟩ => ⟨S_, .f32⟩
  | .hbm, ⟨44, _⟩ => ⟨S4096x11264, .f32⟩
  | .hbm, ⟨45, _⟩ => ⟨S4096x11264, .f32⟩
  | .hbm, ⟨46, _⟩ => ⟨S4096x11264, .f32⟩
  | .hbm, ⟨47, _⟩ => ⟨S4096x11264, .f32⟩
  | .hbm, ⟨48, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel10.lean ====
abbrev S36 : Shape := ⟨1, ![36]⟩
abbrev S8 : Shape := ⟨1, ![8]⟩
abbrev S4096x2048 : Shape := ⟨2, ![4096, 2048]⟩
abbrev S4096x10240 : Shape := ⟨2, ![4096, 10240]⟩
abbrev S512x2048 : Shape := ⟨2, ![512, 2048]⟩
abbrev S1 : Shape := ⟨1, ![1]⟩
abbrev S8x512x256 : Shape := ⟨3, ![8, 512, 256]⟩
abbrev S512x256 : Shape := ⟨2, ![512, 256]⟩
abbrev S512x512 : Shape := ⟨2, ![512, 512]⟩
abbrev S512x1 : Shape := ⟨2, ![512, 1]⟩
abbrev S1x512 : Shape := ⟨2, ![1, 512]⟩
abbrev S1x512x256 : Shape := ⟨3, ![1, 512, 256]⟩
abbrev S512 : Shape := ⟨1, ![512]⟩

abbrev nBuf : Space → Nat
  | .hbm => 7
  | .vmem => 13
  | .smem => 3
  | _ => 0

abbrev bufTy : (tb : Table) → Fin (tcTables nBuf tb) → BufTy
  | .hbm, ⟨0, _⟩ => ⟨S8, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x10240, .f32⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S8x512x256, .f32⟩
  | .local _ .smem, ⟨0, _⟩ => ⟨S36, .i32⟩
  | .local _ .smem, ⟨1, _⟩ => ⟨S36, .i32⟩
  | .local _ .smem, ⟨2, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_3 : BitVec 32) : Fin 1 → Nat :=
  let arg0 : BitVec 32 := BitVec.ofNat 32 (i 0).val
  let c8_i32 : BitVec 32 := 8#32
  let v13 : BitVec 32 := Scalar.muli arg0 c8_i32
  let v14 : BitVec 32 := Scalar.addi v13 c0_i32_3
  let v15 : Index := Scalar.indexCast v14
  ![v15.toNat]
def k0_off3 (i : grid0.Coords) (c0_i32_3 : BitVec 32) : Fin 1 → Nat :=
  let arg0 : BitVec 32 := BitVec.ofNat 32 (i 0).val
  let c8_i32 : BitVec 32 := 8#32
  let v13 : BitVec 32 := Scalar.muli arg0 c8_i32
  let v14 : BitVec 32 := Scalar.addi v13 c0_i32_3
  let v15 : Index := Scalar.indexCast v14
  ![v15.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c3_i32 : BitVec 32 := 3#32
  let v2 : BitVec 32 := Scalar.addi arg0 c3_i32
  let c0_i32 : BitVec 32 := 0#32
  ![v1.toNat, v2.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S36 : Shape := ⟨1, ![36]⟩
abbrev S8 : Shape := ⟨1, ![8]⟩
abbrev S4096x2048 : Shape := ⟨2, ![4096, 2048]⟩
abbrev S4096x10240 : Shape := ⟨2, ![4096, 10240]⟩
abbrev S1x4096x8x256 : Shape := ⟨4, ![1, 4096, 8, 256]⟩
abbrev S64 : Shape := ⟨1, ![64]⟩
abbrev S8x1x1 : Shape := ⟨3, ![8, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S8x1 : Shape := ⟨2, ![8, 1]⟩
abbrev S_ : Shape := ⟨0, ![]⟩
abbrev S8x64 : Shape := ⟨2, ![8, 64]⟩
abbrev S8x64x1 : Shape := ⟨3, ![8, 64, 1]⟩
abbrev S1x8x256x256 : Shape := ⟨4, ![1, 8, 256, 256]⟩
abbrev S1x64x64x8x256 : Shape := ⟨5, ![1, 64, 64, 8, 256]⟩
abbrev S64x1x8x64x256 : Shape := ⟨5, ![64, 1, 8, 64, 256]⟩
abbrev S1x1x8x64x256 : Shape := ⟨5, ![1, 1, 8, 64, 256]⟩
abbrev S1x8x64x256 : Shape := ⟨4, ![1, 8, 64, 256]⟩
abbrev S1x8x64x64 : Shape := ⟨4, ![1, 8, 64, 64]⟩
abbrev S1x8x64x1 : Shape := ⟨4, ![1, 8, 64, 1]⟩
abbrev S1x8x1x1 : Shape := ⟨4, ![1, 8, 1, 1]⟩
abbrev S1x4096x8 : Shape := ⟨3, ![1, 4096, 8]⟩
abbrev S1x4096x8x1 : Shape := ⟨4, ![1, 4096, 8, 1]⟩

abbrev nBuf : Space → Nat
  | .hbm => 156
  | .vmem => 0
  | .smem => 0
  | _ => 0

abbrev hbmTy0_0 (i : Nat) : BufTy := match i % 128 with
  | 0 => ⟨S36, .i32⟩
  | 1 => ⟨S36, .i32⟩
  | 2 => ⟨S8, .f32⟩
  | 3 => ⟨S4096x2048, .bf16⟩
  | 4 => ⟨S4096x2048, .bf16⟩
  | 5 => ⟨S4096x2048, .bf16⟩
  | 6 => ⟨S4096x10240, .f32⟩
  | 7 => ⟨S4096x2048, .f32⟩
  | 8 => ⟨S1x4096x8x256, .f32⟩
  | 9 => ⟨S4096x2048, .f32⟩
  | 10 => ⟨S1x4096x8x256, .f32⟩
  | 11 => ⟨S4096x2048, .f32⟩
  | 12 => ⟨S1x4096x8x256, .f32⟩
  | 13 => ⟨S64, .f32⟩
  | 14 => ⟨S8x1x1, .f32⟩
  | 15 => ⟨S64x1, .f32⟩
  | 16 => ⟨S1x64, .f32⟩
  | 17 => ⟨S64x64, .f32⟩
  | 18 => ⟨S64x64, .f32⟩
  | 19 => ⟨S64x64, .f32⟩
  | 20 => ⟨S64x64, .f32⟩
  | 21 => ⟨S1x64x64, .f32⟩
  | 22 => ⟨S8x64x64, .f32⟩
  | 23 => ⟨S8x64x64, .f32⟩
  | 24 => ⟨S8x64x64, .f32⟩
  | 25 => ⟨S8x64x64, .f32⟩
  | 26 => ⟨S8x1, .f32⟩
  | 27 => ⟨S_, .f32⟩
  | 28 => ⟨S64, .f32⟩
  | 29 => ⟨S64, .f32⟩
  | 30 => ⟨S1x64, .f32⟩
  | 31 => ⟨S8x64, .f32⟩
  | 32 => ⟨S8x64, .f32⟩
  | 33 => ⟨S8x64, .f32⟩
  | 34 => ⟨S8x64, .f32⟩
  | 35 => ⟨S8x64x1, .f32⟩
  | 36 => ⟨S8x1, .f32⟩
  | 37 => ⟨S_, .f32⟩
  | 38 => ⟨S64, .f32⟩
  | 39 => ⟨S64, .f32⟩
  | 40 => ⟨S1x64, .f32⟩
  | 41 => ⟨S8x64, .f32⟩
  | 42 => ⟨S8x64, .f32⟩
  | 43 => ⟨S8x64, .f32⟩
  | 44 => ⟨S8x64, .f32⟩
  | 45 => ⟨S8x64x1, .f32⟩
  | 46 => ⟨S_, .f32⟩
  | 47 => ⟨S8, .f32⟩
  | 48 => ⟨S8, .f32⟩
  | 49 => ⟨S8, .f32⟩
  | 50 => ⟨S8x1x1, .f32⟩
  | 51 => ⟨S_, .f32⟩
  | 52 => ⟨S1x8x256x256, .f32⟩
  | 53 => ⟨S1x64x64x8x256, .f32⟩
  | 54 => ⟨S64x1x8x64x256, .f32⟩
  | 55 => ⟨S1x64x64x8x256, .f32⟩
  | 56 => ⟨S64x1x8x64x256, .f32⟩
  | 57 => ⟨S1x64x64x8x256, .f32⟩
  | 58 => ⟨S64x1x8x64x256, .f32⟩
  | 59 => ⟨S_, .f32⟩
  | 60 => ⟨S64x1x8x64x256, .f32⟩
  | 61 => ⟨S_, .i32⟩
  | 62 => ⟨S64x1x8x64x256, .f32⟩
  | 63 => ⟨S64x1x8x64x256, .f32⟩
  | 64 => ⟨S64x1x8x64x256, .f32⟩
  | 65 => ⟨S8x64x64, .f32⟩
  | 66 => ⟨S8x64x1, .f32⟩
  | 67 => ⟨S8x1x1, .f32⟩
  | 68 => ⟨S8x64x1, .f32⟩
  | 69 => ⟨S_, .i32⟩
  | 70 => ⟨S1x8x256x256, .f32⟩
  | 71 => ⟨S64x1x8x64x256, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1x1x8x64x256, .f32⟩
  | 79 => ⟨S1x8x64x256, .f32⟩
  | 80 => ⟨S_, .i32⟩
  | 81 => ⟨S_, .i32⟩
  | 82 => ⟨S_, .i32⟩
  | 83 => ⟨S_, .i32⟩
  | 84 => ⟨S1x1x8x64x256, .f32⟩
  | 85 => ⟨S1x8x64x256, .f32⟩
  | 86 => ⟨S_, .i32⟩
  | 87 => ⟨S_, .i32⟩
  | 88 => ⟨S_, .i32⟩
  | 89 => ⟨S_, .i32⟩
  | 90 => ⟨S1x1x8x64x256, .f32⟩
  | 91 => ⟨S1x8x64x256, .f32⟩
  | 92 => ⟨S1x8x64x64, .f32⟩
  | 93 => ⟨S1x8x64x64, .f32⟩
  | 94 => ⟨S1x8x64x64, .f32⟩
  | 95 => ⟨S1x8x64x256, .f32⟩
  | 96 => ⟨S1x8x64x1, .f32⟩
  | 97 => ⟨S1x8x64x256, .f32⟩
  | 98 => ⟨S1x8x64x256, .f32⟩
  | 99 => ⟨S1x8x64x256, .f32⟩
  | 100 => ⟨S1x8x64x256, .f32⟩
  | 101 => ⟨S1x8x1x1, .f32⟩
  | 102 => ⟨S1x8x256x256, .f32⟩
  | 103 => ⟨S1x8x256x256, .f32⟩
  | 104 => ⟨S1x8x64x1, .f32⟩
  | 105 => ⟨S1x8x64x256, .f32⟩
  | 106 => ⟨S1x8x64x256, .f32⟩
  | 107 => ⟨S1x8x256x256, .f32⟩
  | 108 => ⟨S1x8x256x256, .f32⟩
  | 109 => ⟨S1x1x8x64x256, .f32⟩
  | 110 => ⟨S_, .i32⟩
  | 111 => ⟨S_, .i32⟩
  | 112 => ⟨S_, .i32⟩
  | 113 => ⟨S_, .i32⟩
  | 114 => ⟨S64x1x8x64x256, .f32⟩
  | 115 => ⟨S_, .i32⟩
  | 116 => ⟨S_, .i32⟩
  | 117 => ⟨S1x64x64x8x256, .f32⟩
  | 118 => ⟨S1x4096x8x256, .f32⟩
  | 119 => ⟨S_, .f32⟩
  | 120 => ⟨S1x4096x8, .f32⟩
  | 121 => ⟨S1x4096x8x1, .f32⟩
  | 122 => ⟨S_, .f32⟩
  | 123 => ⟨S1x4096x8x1, .f32⟩
  | 124 => ⟨S1x4096x8x1, .f32⟩
  | 125 => ⟨S1x4096x8x256, .f32⟩
  | 126 => ⟨S1x4096x8x256, .f32⟩
  | 127 => ⟨S1x4096x8x256, .f32⟩
  | _ => ⟨S36, .i32⟩

abbrev hbmTy0_1 (i : Nat) : BufTy := match i % 128 with
  | 0 => ⟨S_, .f32⟩
  | 1 => ⟨S1x4096x8, .f32⟩
  | 2 => ⟨S1x4096x8x1, .f32⟩
  | 3 => ⟨S_, .f32⟩
  | 4 => ⟨S1x4096x8x1, .f32⟩
  | 5 => ⟨S1x4096x8x1, .f32⟩
  | 6 => ⟨S1x4096x8x256, .f32⟩
  | 7 => ⟨S1x4096x8x256, .f32⟩
  | 8 => ⟨S_, .f32⟩
  | 9 => ⟨S1x4096x8x1, .f32⟩
  | 10 => ⟨S1x4096x8x1, .f32⟩
  | 11 => ⟨S1x4096x8x1, .f32⟩
  | 12 => ⟨S1x4096x8x256, .f32⟩
  | 13 => ⟨S1x4096x8x256, .f32⟩
  | 14 => ⟨S4096x2048, .f32⟩
  | 15 => ⟨S4096x2048, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S4096x2048, .f32⟩
  | 27 => ⟨S4096x2048, .bf16⟩
  | _ => ⟨S36, .i32⟩

abbrev hbmTy (i : Nat) : BufTy := match i / 128 with
  | 0 => hbmTy0_0 i
  | 1 => hbmTy0_1 i
  | _ => ⟨S36, .i32⟩

abbrev bufTy : (tb : Table) → Fin (tcTables nBuf tb) → BufTy
  | .hbm, ⟨i, _⟩ => hbmTy i
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_c : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev main_v49_3 : Ref sig .tc := ⟨.hbm, 65, rfl⟩
abbrev main_v49_4 : Ref sig .tc := ⟨.hbm, 66, rfl⟩
abbrev main_v49_5 : Ref sig .tc := ⟨.hbm, 67, rfl⟩
abbrev main_v49_6 : Ref sig .tc := ⟨.hbm, 68, rfl⟩
abbrev main_v49_7 : Ref sig .tc := ⟨.hbm, 69, rfl⟩
abbrev main_v49_8 : Ref sig .tc := ⟨.hbm, 70, rfl⟩
abbrev main_v49_9 : Ref sig .tc := ⟨.hbm, 71, rfl⟩
abbrev main_while0c_c_18 : Ref sig .tc := ⟨.hbm, 72, rfl⟩
abbrev main_while0c_v76 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_c_1 : Ref sig .tc := ⟨.hbm, 76, rfl⟩
abbrev main_while0b_call0_c_2 : Ref sig .tc := ⟨.hbm, 77, rfl⟩
abbrev main_while0b_call0_v0 : Ref sig .tc := ⟨.hbm, 78, rfl⟩
abbrev main_while0b_v76 : Ref sig .tc := ⟨.hbm, 79, rfl⟩
abbrev main_while0b_call1_c : Ref sig .tc := ⟨.hbm, 80, rfl⟩
abbrev main_while0b_call1_c_0 : Ref sig .tc := ⟨.hbm, 81, rfl⟩
abbrev main_while0b_call1_c_1 : Ref sig .tc := ⟨.hbm, 82, rfl⟩
abbrev main_while0b_call1_c_2 : Ref sig .tc := ⟨.hbm, 83, rfl⟩
abbrev main_while0b_call1_v0 : Ref sig .tc := ⟨.hbm, 84, rfl⟩
abbrev main_while0b_v77 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v78 : Ref sig .tc := ⟨.hbm, 91, rfl⟩
abbrev main_while0b_v79 : Ref sig .tc := ⟨.hbm, 92, rfl⟩
abbrev main_while0b_v80 : Ref sig .tc := ⟨.hbm, 93, rfl⟩
abbrev main_while0b_v81 : Ref sig .tc := ⟨.hbm, 94, rfl⟩
abbrev main_while0b_v82 : Ref sig .tc := ⟨.hbm, 95, rfl⟩
abbrev main_while0b_v83 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_call3_v0 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_v96 : Ref sig .tc := ⟨.hbm, 114, rfl⟩
abbrev main_while0b_c_18 : Ref sig .tc := ⟨.hbm, 115, rfl⟩
abbrev main_while0b_v97 : Ref sig .tc := ⟨.hbm, 116, rfl⟩
abbrev main_v50 : Ref sig .tc := ⟨.hbm, 117, rfl⟩
abbrev main_v51 : Ref sig .tc := ⟨.hbm, 118, rfl⟩
abbrev main_cst_4 : Ref sig .tc := ⟨.hbm, 119, rfl⟩
abbrev main_v52 : Ref sig .tc := ⟨.hbm, 120, rfl⟩
abbrev main_v53 : Ref sig .tc := ⟨.hbm, 121, rfl⟩
abbrev main_cst_5 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_6 : Ref sig .tc := ⟨.hbm, 128, rfl⟩
abbrev main_v59 : Ref sig .tc := ⟨.hbm, 129, rfl⟩
abbrev main_v60 : Ref sig .tc := ⟨.hbm, 130, rfl⟩
abbrev main_cst_7 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_8 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩

abbrev nD : Nat := 1
abbrev τ : Topo := Topo.v7x

variable {F : FTy → Type} [FloatOps F]

abbrev main_while0_count : Scf.Loop 32 := ⟨0#32, 64#32, 1#32⟩
-- ==== Kernel11.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .bf16⟩
  | .hbm, ⟨53, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel12.lean ====
abbrev S4096x2048 : Shape := ⟨2, ![4096, 2048]⟩
abbrev S4096x128 : Shape := ⟨2, ![4096, 128]⟩
abbrev S256x2048 : Shape := ⟨2, ![256, 2048]⟩
abbrev S256x128 : Shape := ⟨2, ![256, 128]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x128, .f32⟩
  | .hbm, ⟨3, _⟩ => ⟨S4096x128, .f32⟩
  | .hbm, ⟨4, _⟩ => ⟨S4096x2048, .bf16⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x2048 : Shape := ⟨2, ![4096, 2048]⟩
abbrev S4096x128 : Shape := ⟨2, ![4096, 128]⟩
abbrev S_ : Shape := ⟨0, ![]⟩
abbrev S1x4096x8x256 : Shape := ⟨4, ![1, 4096, 8, 256]⟩
abbrev S1x4096x8x128 : Shape := ⟨4, ![1, 4096, 8, 128]⟩
abbrev S1x4096x1x128 : Shape := ⟨4, ![1, 4096, 1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S1x4096x8x256, .f32⟩
  | .hbm, ⟨6, _⟩ => ⟨S1x4096x8x128, .f32⟩
  | .hbm, ⟨7, _⟩ => ⟨S1x4096x8x128, .f32⟩
  | .hbm, ⟨8, _⟩ => ⟨S1x4096x1x128, .f32⟩
  | .hbm, ⟨9, _⟩ => ⟨S1x4096x1x128, .f32⟩
  | .hbm, ⟨10, _⟩ => ⟨S1x4096x8x128, .f32⟩
  | .hbm, ⟨11, _⟩ => ⟨S1x4096x8x128, .f32⟩
  | .hbm, ⟨12, _⟩ => ⟨S1x4096x8x128, .f32⟩
  | .hbm, ⟨13, _⟩ => ⟨S1x4096x8x128, .f32⟩
  | .hbm, ⟨14, _⟩ => ⟨S1x4096x8x128, .f32⟩
  | .hbm, ⟨15, _⟩ => ⟨S1x4096x8x128, .f32⟩
  | .hbm, ⟨16, _⟩ => ⟨S1x4096x8x128, .f32⟩
  | .hbm, ⟨17, _⟩ => ⟨S1x4096x8x128, .f32⟩
  | .hbm, ⟨18, _⟩ => ⟨S1x4096x8x128, .f32⟩
  | .hbm, ⟨19, _⟩ => ⟨S1x4096x8x128, .f32⟩
  | .hbm, ⟨20, _⟩ => ⟨S1x4096x8x256, .f32⟩
  | .hbm, ⟨21, _⟩ => ⟨S1x4096x8x128, .f32⟩
  | .hbm, ⟨22, _⟩ => ⟨S1x4096x8x128, .f32⟩
  | .hbm, ⟨23, _⟩ => ⟨S1x4096x1x128, .f32⟩
  | .hbm, ⟨24, _⟩ => ⟨S1x4096x1x128, .f32⟩
  | .hbm, ⟨25, _⟩ => ⟨S1x4096x8x128, .f32⟩
  | .hbm, ⟨26, _⟩ => ⟨S1x4096x8x128, .f32⟩
  | .hbm, ⟨27, _⟩ => ⟨S1x4096x8x128, .f32⟩
  | .hbm, ⟨28, _⟩ => ⟨S1x4096x8x128, .f32⟩
  | .hbm, ⟨29, _⟩ => ⟨S1x4096x8x128, .f32⟩
  | .hbm, ⟨30, _⟩ => ⟨S1x4096x8x128, .f32⟩
  | .hbm, ⟨31, _⟩ => ⟨S1x4096x8x128, .f32⟩
  | .hbm, ⟨32, _⟩ => ⟨S1x4096x8x128, .f32⟩
  | .hbm, ⟨33, _⟩ => ⟨S1x4096x8x128, .f32⟩
  | .hbm, ⟨34, _⟩ => ⟨S1x4096x8x128, .f32⟩
  | .hbm, ⟨35, _⟩ => ⟨S1x4096x8x256, .f32⟩
  | .hbm, ⟨36, _⟩ => ⟨S_, .f32⟩
  | .hbm, ⟨37, _⟩ => ⟨S1x4096x8x256, .f32⟩
  | .hbm, ⟨38, _⟩ => ⟨S1x4096x8x256, .f32⟩
  | .hbm, ⟨39, _⟩ => ⟨S1x4096x8x256, .f32⟩
  | .hbm, ⟨40, _⟩ => ⟨S1x4096x8x256, .f32⟩
  | .hbm, ⟨41, _⟩ => ⟨S_, .f32⟩
  | .hbm, ⟨42, _⟩ => ⟨S1x4096x8x256, .f32⟩
  | .hbm, ⟨43, _⟩ => ⟨S1x4096x8x256, .f32⟩
  | .hbm, ⟨44, _⟩ => ⟨S1x4096x8x128, .f32⟩
  | .hbm, ⟨45, _⟩ => ⟨S1x4096x8x128, .f32⟩
  | .hbm, ⟨46, _⟩ => ⟨S1x4096x8x128, .f32⟩
  | .hbm, ⟨47, _⟩ => ⟨S1x4096x8x128, .f32⟩
  | .hbm, ⟨48, _⟩ => ⟨S1x4096x8x128, .f32⟩
  | .hbm, ⟨49, _⟩ => ⟨S1x4096x8x128, .f32⟩
  | .hbm, ⟨50, _⟩ => ⟨S1x4096x8x128, .f32⟩
  | .hbm, ⟨51, _⟩ => ⟨S1x4096x8x128, .f32⟩
  | .hbm, ⟨52, _⟩ => ⟨S1x4096x8x128, .f32⟩
  | .hbm, ⟨53, _⟩ => ⟨S1x4096x8x128, .f32⟩
  | .hbm, ⟨54, _⟩ => ⟨S1x4096x8x128, .f32⟩
  | .hbm, ⟨55, _⟩ => ⟨S1x4096x8x128, .f32⟩
  | .hbm, ⟨56, _⟩ => ⟨S1x4096x8x128, .f32⟩
  | .hbm, ⟨57, _⟩ => ⟨S1x4096x8x256, .f32⟩
  | .hbm, ⟨58, _⟩ => ⟨S1x4096x8x128, .f32⟩
  | .hbm, ⟨59, _⟩ => ⟨S1x4096x8x128, .f32⟩
  | .hbm, ⟨60, _⟩ => ⟨S1x4096x8x128, .f32⟩
  | .hbm, ⟨61, _⟩ => ⟨S1x4096x8x128, .f32⟩
  | .hbm, ⟨62, _⟩ => ⟨S1x4096x8x128, .f32⟩
  | .hbm, ⟨63, _⟩ => ⟨S1x4096x8x128, .f32⟩
  | .hbm, ⟨64, _⟩ => ⟨S1x4096x8x128, .f32⟩
  | .hbm, ⟨65, _⟩ => ⟨S1x4096x8x128, .f32⟩
  | .hbm, ⟨66, _⟩ => ⟨S1x4096x8x128, .f32⟩
  | .hbm, ⟨67, _⟩ => ⟨S1x4096x8x128, .f32⟩
  | .hbm, ⟨68, _⟩ => ⟨S1x4096x8x128, .f32⟩
  | .hbm, ⟨69, _⟩ => ⟨S1x4096x8x128, .f32⟩
  | .hbm, ⟨70, _⟩ => ⟨S1x4096x8x128, .f32⟩
  | .hbm, ⟨71, _⟩ => ⟨S1x4096x8x256, .f32⟩
  | .hbm, ⟨72, _⟩ => ⟨S4096x2048, .f32⟩
  | .hbm, ⟨73, _⟩ => ⟨S4096x2048, .bf16⟩
  | .hbm, ⟨74, _⟩ => ⟨S4096x2048, .f32⟩
  | .hbm, ⟨75, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩

abbrev nD : Nat := 1
abbrev τ : Topo := Topo.v7x

variable {F : FTy → Type} [FloatOps F]
-- ==== Kernel13.lean ====
abbrev S4096x10240 : Shape := ⟨2, ![4096, 10240]⟩
abbrev S10240x2048 : Shape := ⟨2, ![10240, 2048]⟩
abbrev S4096x2048 : Shape := ⟨2, ![4096, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S10240x2048, .bf16⟩
  | .hbm, ⟨2, _⟩ => ⟨S4096x2048, .bf16⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x10240 : Shape := ⟨2, ![4096, 10240]⟩
abbrev S10240x2048 : Shape := ⟨2, ![10240, 2048]⟩
abbrev S_ : Shape := ⟨0, ![]⟩
abbrev S4096x2048 : Shape := ⟨2, ![4096, 2048]⟩
abbrev S2048x10240 : Shape := ⟨2, ![2048, 10240]⟩

abbrev nBuf : Space → Nat
  | .hbm => 10
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S10240x2048, .bf16⟩
  | .hbm, ⟨2, _⟩ => ⟨S_, .f32⟩
  | .hbm, ⟨3, _⟩ => ⟨S4096x2048, .f32⟩
  | .hbm, ⟨4, _⟩ => ⟨S10240x2048, .f32⟩
  | .hbm, ⟨5, _⟩ => ⟨S2048x10240, .f32⟩
  | .hbm, ⟨6, _⟩ => ⟨S4096x10240, .f32⟩
  | .hbm, ⟨7, _⟩ => ⟨S4096x10240, .f32⟩
  | .hbm, ⟨8, _⟩ => ⟨S4096x2048, .f32⟩
  | .hbm, ⟨9, _⟩ => ⟨S4096x2048, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x10240 : Shape := ⟨2, ![4096, 10240]⟩
abbrev S4096x4096 : Shape := ⟨2, ![4096, 4096]⟩
abbrev S10240x4096 : Shape := ⟨2, ![10240, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x10240, .bf16⟩
  | .hbm, ⟨1, _⟩ => ⟨S4096x4096, .bf16⟩
  | .hbm, ⟨2, _⟩ => ⟨S10240x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x10240 : Shape := ⟨2, ![4096, 10240]⟩
abbrev S4096x4096 : Shape := ⟨2, ![4096, 4096]⟩
abbrev S_ : Shape := ⟨0, ![]⟩
abbrev S10240x4096 : Shape := ⟨2, ![10240, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x4096, .bf16⟩
  | .hbm, ⟨2, _⟩ => ⟨S_, .f32⟩
  | .hbm, ⟨3, _⟩ => ⟨S10240x4096, .f32⟩
  | .hbm, ⟨4, _⟩ => ⟨S4096x4096, .f32⟩
  | .hbm, ⟨5, _⟩ => ⟨S4096x10240, .f32⟩
  | .hbm, ⟨6, _⟩ => ⟨S4096x10240, .f32⟩
  | .hbm, ⟨7, _⟩ => ⟨S4096x10240, .f32⟩
  | .hbm, ⟨8, _⟩ => ⟨S10240x4096, .f32⟩
  | .hbm, ⟨9, _⟩ => ⟨S4096x10240, .f32⟩
  | .hbm, ⟨10, _⟩ => ⟨S10240x4096, .f32⟩
  | .hbm, ⟨11, _⟩ => ⟨S10240x4096, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S4096x4096 : Shape := ⟨2, ![4096, 4096]⟩
abbrev S_ : Shape := ⟨0, ![]⟩
abbrev S1 : Shape := ⟨1, ![1]⟩
abbrev S4x512x4096 : Shape := ⟨3, ![4, 512, 4096]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S4x512x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x4096 : Shape := ⟨2, ![4096, 4096]⟩
abbrev S_ : Shape := ⟨0, ![]⟩
abbrev S4x2x512x4096 : Shape := ⟨4, ![4, 2, 512, 4096]⟩
abbrev S4x1x512x4096 : Shape := ⟨4, ![4, 1, 512, 4096]⟩
abbrev S4x512x4096 : Shape := ⟨3, ![4, 512, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2x512x4096, .f32⟩
  | .hbm, ⟨11, _⟩ => ⟨S_, .i32⟩
  | .hbm, ⟨12, _⟩ => ⟨S_, .i1⟩
  | .hbm, ⟨13, _⟩ => ⟨S4x1x512x4096, .f32⟩
  | .hbm, ⟨14, _⟩ => ⟨S4x512x4096, .f32⟩
  | .hbm, ⟨15, _⟩ => ⟨S4x1x512x4096, .f32⟩
  | .hbm, ⟨16, _⟩ => ⟨S4x512x4096, .f32⟩
  | .hbm, ⟨17, _⟩ => ⟨S4x512x4096, .f32⟩
  | .hbm, ⟨18, _⟩ => ⟨S4x512x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S4096x4096 : Shape := ⟨2, ![4096, 4096]⟩
abbrev S_ : Shape := ⟨0, ![]⟩
abbrev S4x512x4096 : Shape := ⟨3, ![4, 512, 4096]⟩
abbrev S1 : Shape := ⟨1, ![1]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S4x512x4096, .bf16⟩
  | .hbm, ⟨4, _⟩ => ⟨S4x512x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S4096x4096 : Shape := ⟨2, ![4096, 4096]⟩
abbrev S_ : Shape := ⟨0, ![]⟩
abbrev S4x512x4096 : Shape := ⟨3, ![4, 512, 4096]⟩
abbrev S4x2x512x4096 : Shape := ⟨4, ![4, 2, 512, 4096]⟩
abbrev S4x1x512x4096 : Shape := ⟨4, ![4, 1, 512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S4x512x4096, .bf16⟩
  | .hbm, ⟨4, _⟩ => ⟨S4x512x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4x2x512x4096, .f32⟩
  | .hbm, ⟨13, _⟩ => ⟨S_, .i32⟩
  | .hbm, ⟨14, _⟩ => ⟨S_, .i1⟩
  | .hbm, ⟨15, _⟩ => ⟨S4x1x512x4096, .f32⟩
  | .hbm, ⟨16, _⟩ => ⟨S4x512x4096, .f32⟩
  | .hbm, ⟨17, _⟩ => ⟨S4x1x512x4096, .f32⟩
  | .hbm, ⟨18, _⟩ => ⟨S4x512x4096, .f32⟩
  | .hbm, ⟨19, _⟩ => ⟨S4x512x4096, .f32⟩
  | .hbm, ⟨20, _⟩ => ⟨S4x512x4096, .f32⟩
  | .hbm, ⟨21, _⟩ => ⟨S4x512x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel17.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x2048 : Shape := ⟨2, ![4096, 2048]⟩
abbrev S10240x2048 : Shape := ⟨2, ![10240, 2048]⟩
abbrev S4096x10240 : Shape := ⟨2, ![4096, 10240]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S10240x2048, .bf16⟩
  | .hbm, ⟨2, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S10240x2048 : Shape := ⟨2, ![10240, 2048]⟩
abbrev S2048x10240 : Shape := ⟨2, ![2048, 10240]⟩
abbrev S4096x10240 : Shape := ⟨2, ![4096, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S10240x2048, .bf16⟩
  | .hbm, ⟨2, _⟩ => ⟨S4096x2048, .f32⟩
  | .hbm, ⟨3, _⟩ => ⟨S10240x2048, .f32⟩
  | .hbm, ⟨4, _⟩ => ⟨S2048x10240, .f32⟩
  | .hbm, ⟨5, _⟩ => ⟨S4096x10240, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x2048 : Shape := ⟨2, ![4096, 2048]⟩
abbrev S10240x2048 : Shape := ⟨2, ![10240, 2048]⟩
abbrev S4096x10240 : Shape := ⟨2, ![4096, 10240]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S10240x2048, .bf16⟩
  | .hbm, ⟨2, _⟩ => ⟨S4096x10240, .f32⟩
  | .hbm, ⟨3, _⟩ => ⟨S4096x10240, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x2048 : Shape := ⟨2, ![4096, 2048]⟩
abbrev S10240x2048 : Shape := ⟨2, ![10240, 2048]⟩
abbrev S4096x10240 : Shape := ⟨2, ![4096, 10240]⟩
abbrev S2048x10240 : Shape := ⟨2, ![2048, 10240]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S10240x2048, .bf16⟩
  | .hbm, ⟨2, _⟩ => ⟨S4096x10240, .f32⟩
  | .hbm, ⟨3, _⟩ => ⟨S4096x2048, .f32⟩
  | .hbm, ⟨4, _⟩ => ⟨S10240x2048, .f32⟩
  | .hbm, ⟨5, _⟩ => ⟨S2048x10240, .f32⟩
  | .hbm, ⟨6, _⟩ => ⟨S4096x10240, .f32⟩
  | .hbm, ⟨7, _⟩ => ⟨S4096x10240, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel22.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4096x512 : Shape := ⟨2, ![4096, 512]⟩
abbrev S4096x4096 : Shape := ⟨2, ![4096, 4096]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x512 : Shape := ⟨2, ![4096, 512]⟩
abbrev S512x4096 : Shape := ⟨2, ![512, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .f32⟩
  | .hbm, ⟨3, _⟩ => ⟨S4096x512, .f32⟩
  | .hbm, ⟨4, _⟩ => ⟨S512x4096, .f32⟩
  | .hbm, ⟨5, _⟩ => ⟨S4096x4096, .f32⟩
  | .hbm, ⟨6, _⟩ => ⟨S4096x4096, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel25.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4096x4096 : Shape := ⟨2, ![4096, 4096]⟩
abbrev S4096x512 : Shape := ⟨2, ![4096, 512]⟩
abbrev S1024x4096 : Shape := ⟨2, ![1024, 4096]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S4096x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x4096 : Shape := ⟨2, ![4096, 4096]⟩
abbrev S4096x512 : Shape := ⟨2, ![4096, 512]⟩
abbrev S_ : Shape := ⟨0, ![]⟩
abbrev S512x4096 : Shape := ⟨2, ![512, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x512, .bf16⟩
  | .hbm, ⟨2, _⟩ => ⟨S_, .f32⟩
  | .hbm, ⟨3, _⟩ => ⟨S4096x512, .f32⟩
  | .hbm, ⟨4, _⟩ => ⟨S4096x512, .f32⟩
  | .hbm, ⟨5, _⟩ => ⟨S512x4096, .f32⟩
  | .hbm, ⟨6, _⟩ => ⟨S4096x4096, .f32⟩
  | .hbm, ⟨7, _⟩ => ⟨S4096x4096, .f32⟩
  | .hbm, ⟨8, _⟩ => ⟨S4096x512, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x256 : Shape := ⟨2, ![4096, 256]⟩
abbrev S4096x4096 : Shape := ⟨2, ![4096, 4096]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x4096, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x256 : Shape := ⟨2, ![4096, 256]⟩
abbrev S256x4096 : Shape := ⟨2, ![256, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x256, .bf16⟩
  | .hbm, ⟨2, _⟩ => ⟨S4096x256, .f32⟩
  | .hbm, ⟨3, _⟩ => ⟨S4096x256, .f32⟩
  | .hbm, ⟨4, _⟩ => ⟨S256x4096, .f32⟩
  | .hbm, ⟨5, _⟩ => ⟨S4096x4096, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel29.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_14 : BitVec 32 := 0#32
  let v38 : BitVec 1 := Scalar.cmpi .ne v37 c0_i32_14
  v38

def k0_cond2 (i : grid0.Coords) : BitVec 1 :=
  let arg0 : BitVec 32 := BitVec.ofNat 32 (i 0).val
  let c0_i32_15 : BitVec 32 := 0#32
  let v39 : BitVec 1 := Scalar.cmpi .sgt arg0 c0_i32_15
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference29Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .bf16⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Lift.lean ====
module

public import Idealize.ShloMosaic.Lib.Pointwise
public import Idealize.ShloMosaic.Lib.ReduceAll

@[expose] public section

/-! Extended reals that are real numbers: the operations of the ideal instance on them are the operations of
    the real numbers, so an identity between two programs on finite inputs is an identity of real arithmetic. -/

noncomputable section

namespace Cert.Lift

open Idealize.ShloMosaic

/-- A finite sum of real numbers, taken in the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two real numbers whose divisor is not zero. -/
theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

theorem exp_coe (a : ℝ) : Ideal.exp (a : EReal) = ((Real.exp a : ℝ) : EReal) := rfl

/-- The inverse square root of a positive real number. -/
theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr ha.le), if_neg ha.ne']

/-- An extended real whose magnitude is below `⊤` is a real number. -/
theorem real_of_abs_lt (x : EReal) (h : max x (-x) < ⊤) : x = ((x.toReal : ℝ) : EReal) := by
  refine (EReal.coe_toReal ?_ ?_).symm
  · rintro rfl; simp at h
  · rintro rfl; simp at h

theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

theorem ofBits_256 : Ideal.ofBits .f32 0x43800000#32 = ((256 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num

/-- The small constant added to a variance: a positive real number. -/
def eps : ℝ := 8796093 / 2 ^ 43
theorem eps_pos : 0 < eps := by unfold eps; norm_num
theorem ofBits_eps : Ideal.ofBits .f32 0x358637BD#32 = ((eps : ℝ) : EReal) := by
  simp [Ideal.ofBits, Ideal.ieee, -EReal.coe_mul, eps]; norm_num

/-- The logistic function. -/
def sig (x : ℝ) : ℝ := 1 / (1 + Real.exp (-x))

theorem one_add_exp_ne (x : ℝ) : (1 + Real.exp x) ≠ 0 := by positivity

theorem sig_div (x : ℝ) : Ideal.div (1 : EReal) (1 + Ideal.exp (-(x : EReal))) = ((sig x : ℝ) : EReal) := by
  rw [← EReal.coe_neg, exp_coe, ← EReal.coe_one, ← EReal.coe_add, div_coe _ _ (one_add_exp_ne _)]; rfl

theorem sig_div' (x : ℝ) : Ideal.div (1 : EReal) (1 + Ideal.exp (0 - (x : EReal))) = ((sig x : ℝ) : EReal) := by
  rw [zero_sub, sig_div]

/-- What a predicate "every magnitude is below infinity" says of an array, element by element. -/
theorem all_real {s t u : Shape} {axes : List (Fin s.rank)} {φ : FTy} [Subsingleton t.Idx] (x : FVec Ideal s φ) (b : FVec Ideal s φ) (hb : ∀ i, b i = ⊤)
    (init : u.Idx → BitVec 1) (h : s.ReducesTo axes t) (hu : 0 < u.numel) (j : t.Idx)
    (hx : Host.reduce IntOp.andi (cmpf .olt (Host.absf x) b) init h hu j = 1#1) (i : s.Idx) : x i = (((x i).toReal : ℝ) : EReal) := by
  refine real_of_abs_lt _ ?_
  have := Host.reduce_andi_all _ init h hu j hx i
  rw [show cmpf CmpFPredicate.olt (Host.absf x) b i = Ideal.cmp .olt (max (x i) (-(x i))) (b i) from rfl, hb] at this
  by_contra hn
  simp [Ideal.cmp, hn] at this

end Cert.Lift

end
-- ==== Proof.GateMath.lean ====
module

public import proofs.«01_k».proof.Proof.Lift

@[expose] public section

/-! The gradient of the retention's head norm and output gate for one head of one row, over the real numbers: the
    form the kernel computes (`DO`, `DG`) and the form the differentiated reference computes (`DO'`), and that they
    are the same. -/

noncomputable section

namespace Cert.Gate

open Idealize.ShloMosaic Cert.Lift

variable (o g d : Fin 256 → ℝ)

/-- The row's mean. -/
def mu : ℝ := (∑ j, o j) / 256
/-- The centred row. -/
def cen (j : Fin 256) : ℝ := o j - mu o
/-- The variance, with the small constant added. -/
def var : ℝ := (∑ j, cen o j * cen o j) / 256 + eps
/-- One over its square root. -/
def rs : ℝ := (Real.sqrt (var o))⁻¹
/-- The gradient of the normalised row. -/
def dhn (j : Fin 256) : ℝ := d j * (g j * sig (g j))

/-- The gate's gradient. -/
def DG (j : Fin 256) : ℝ := d j * (cen o j * rs o) * (sig (g j) * (1 + g j * (1 - sig (g j))))
/-- The row's gradient as the kernel computes it. -/
def DO (j : Fin 256) : ℝ :=
  rs o * (dhn g d j - (∑ x, dhn g d x) / 256 - cen o j * rs o * ((∑ x, dhn g d x * (cen o x * rs o)) / 256))

/-- The gradient of the variance, as the reference computes it. -/
def wv : ℝ := (∑ x, cen o x * dhn g d x) * (-(1 / 2) * (rs o / var o)) / 256
/-- The row's gradient as the reference computes it. -/
def DO' (j : Fin 256) : ℝ :=
  dhn g d j * rs o + wv o g d * (2 * cen o j) + ((∑ x, -(dhn g d x * rs o)) + ∑ x, -(wv o g d * (2 * cen o x))) / 256

theorem sum_cen : ∑ j, cen o j = 0 := by
  unfold cen mu
  rw [Finset.sum_sub_distrib, Finset.sum_const, Finset.card_univ, Fintype.card_fin]
  simp; ring

theorem var_pos : 0 < var o := by
  unfold var
  have : 0 ≤ ∑ j, cen o j * cen o j := Finset.sum_nonneg fun j _ => mul_self_nonneg _
  have := eps_pos
  positivity

theorem rs_sq : rs o * rs o = 1 / var o := by
  unfold rs
  rw [← mul_inv, Real.mul_self_sqrt (var_pos o).le, one_div]

theorem DO_eq (j : Fin 256) : DO' o g d j = DO o g d j := by
  unfold DO' DO
  have h1 : (∑ x, -(wv o g d * (2 * cen o x))) = 0 := by
    rw [Finset.sum_neg_distrib, ← Finset.mul_sum, ← Finset.mul_sum, sum_cen]; ring
  have h2 : (∑ x, -(dhn g d x * rs o)) = -((∑ x, dhn g d x) * rs o) := by
    rw [Finset.sum_neg_distrib, Finset.sum_mul]
  have h3 : (∑ x, dhn g d x * (cen o x * rs o)) = (∑ x, cen o x * dhn g d x) * rs o := by
    rw [Finset.sum_mul]; exact Finset.sum_congr rfl fun x _ => by ring
  have h4 : rs o / var o = rs o * (rs o * rs o) := by rw [rs_sq]; ring
  rw [h1, h2, h3, wv, h4]
  ring

/-! The same formulas over the extended reals, as the kernel's text spells them. -/

variable (O G D : Fin 256 → EReal)

def kmu : EReal := Ideal.div (∑ x, O x) (Ideal.ofBits .f32 1132462080#32)
def krs : EReal := Ideal.rsqrt (Ideal.div (∑ x, (O x - kmu O) * (O x - kmu O)) (Ideal.ofBits .f32 1132462080#32) + Ideal.ofBits .f32 897988541#32)
def ksg (x : EReal) : EReal := Ideal.div 1 (1 + Ideal.exp (0 - x))
def kdo (j : Fin 256) : EReal :=
  krs O * (D j * (G j * ksg (G j)) - Ideal.div (∑ x, D x * (G x * ksg (G x))) (Ideal.ofBits .f32 1132462080#32) -
    (O j - kmu O) * krs O * Ideal.div (∑ x, D x * (G x * ksg (G x)) * ((O x - kmu O) * krs O)) (Ideal.ofBits .f32 1132462080#32))
def kdg (j : Fin 256) : EReal := D j * ((O j - kmu O) * krs O) * (ksg (G j) * (1 + G j * (1 - ksg (G j))))

theorem div_256 (a : ℝ) : Ideal.div (a : EReal) (Ideal.ofBits .f32 1132462080#32) = ((a / 256 : ℝ) : EReal) := by
  rw [show (1132462080#32) = 0x43800000#32 from rfl, ofBits_256, div_coe _ _ (by norm_num)]
theorem bits_eps : Ideal.ofBits .f32 897988541#32 = ((eps : ℝ) : EReal) := ofBits_eps

theorem kmu_coe : kmu (fun x => ((o x : ℝ) : EReal)) = ((mu o : ℝ) : EReal) := by
  unfold kmu mu; rw [coe_sum, div_256]
theorem krs_coe : krs (fun x => ((o x : ℝ) : EReal)) = ((rs o : ℝ) : EReal) := by
  unfold krs
  simp only [kmu_coe, ← EReal.coe_sub, ← EReal.coe_mul, coe_sum, div_256, bits_eps, ← EReal.coe_add]
  exact rsqrt_coe _ (var_pos o)
theorem ksg_coe (x : ℝ) : ksg (x : EReal) = ((sig x : ℝ) : EReal) := sig_div' x
theorem kdo_coe (j : Fin 256) : kdo (fun x => ((o x : ℝ) : EReal)) (fun x => ((g x : ℝ) : EReal)) (fun x => ((d x : ℝ) : EReal)) j = ((DO o g d j : ℝ) : EReal) := by
  unfold kdo
  simp only [kmu_coe, krs_coe, ksg_coe, ← EReal.coe_sub, ← EReal.coe_mul, coe_sum, div_256]
  rfl
theorem kdg_coe (j : Fin 256) : kdg (fun x => ((o x : ℝ) : EReal)) (fun x => ((g x : ℝ) : EReal)) (fun x => ((d x : ℝ) : EReal)) j = ((DG o g d j : ℝ) : EReal) := by
  unfold kdg
  simp only [kmu_coe, krs_coe, ksg_coe, ← EReal.coe_one, ← EReal.coe_sub, ← EReal.coe_mul, ← EReal.coe_add]
  rfl

end Cert.Gate

end
-- ==== Proof.GateValue.lean ====
module

public import proofs.«01_k».proof.Proof.Gen.Kernel2Ideal.Value
public import proofs.«01_k».proof.Proof.GateMath
public import Idealize.ShloMosaic.Lib.Pipeline.ValueKit

@[expose] public section

set_option maxRecDepth 16384

/-! The kernel's results at one element. -/

noncomputable section

open Idealize.ShloMosaic Idealize.ShloMosaic.TcCoe Idealize.SL.Sem

namespace Cert.Kernel2Ideal.Value

open Cert.Kernel2Ideal Cert.Kernel2Ideal.Gen Cert.Gate Cert.Lift

/-- The lane at offset `k` in the head that lane `l` belongs to. -/
abbrev inHead (l : Fin 2048) (k : Fin 256) : Fin 2048 := ⟨l.val / 256 * 256 + k.val, by omega⟩
abbrev off (l : Fin 2048) : Fin 256 := ⟨l.val % 256, by omega⟩

theorem kdo_close (o g d : Vec Ideal S256x2048 .f32) (r r' : Fin 256) (l : Fin 2048) (k : Fin 256) (A : ℕ) (hA : A % 256 = 0) (q : Fin 256 → Fin 2048)
    (hq : ∀ k, (q k).val = A + k.val) (hr : r.val = r'.val) (hl : l.val = A + k.val) :
    kdo (fun k => o (ix2 r' (q k))) (fun k => g (ix2 r' (q k))) (fun k => d (ix2 r' (q k))) k =
      kdo (fun k => o (ix2 r (inHead l k))) (fun k => g (ix2 r (inHead l k))) (fun k => d (ix2 r (inHead l k))) (off l) := by
  obtain rfl : r = r' := Fin.ext hr
  have e : ∀ k, q k = inHead l k := fun i => Fin.ext (by rw [hq]; show _ = l.val / 256 * 256 + i.val; omega)
  have e' : k = off l := Fin.ext (by show k.val = l.val % 256; omega)
  simp only [e, ← e']

theorem out3_at (o g d : Vec Ideal S256x2048 .f32) (r : Fin 256) (l : Fin 2048) :
    out0_3 o g d (ix2 r l) = kdo (fun k => o (ix2 r (inHead l k))) (fun k => g (ix2 r (inHead l k))) (fun k => d (ix2 r (inHead l k))) (off l) := by
  unfold_out out0_3
  canon_tiles x h
  case piece0 =>
    idx_vars x
    open_payloads
    pointwise [h0, h1]
    exact kdo_close o g d r _ l _ 1792 rfl (fun k => ⟨1792 + k.val, by omega⟩) (fun _ => rfl) h0 (by omega)
  case piece1 =>
    idx_vars x
    open_payloads
    pointwise [h0, h1]
    exact kdo_close o g d r _ l _ 1536 rfl (fun k => ⟨1536 + k.val, by omega⟩) (fun _ => rfl) h0 (by omega)
  case piece2 =>
    idx_vars x
    open_payloads
    pointwise [h0, h1]
    exact kdo_close o g d r _ l _ 1280 rfl (fun k => ⟨1280 + k.val, by omega⟩) (fun _ => rfl) h0 (by omega)
  case piece3 =>
    idx_vars x
    open_payloads
    pointwise [h0, h1]
    exact kdo_close o g d r _ l _ 1024 rfl (fun k => ⟨1024 + k.val, by omega⟩) (fun _ => rfl) h0 (by omega)
  case piece4 =>
    idx_vars x
    open_payloads
    pointwise [h0, h1]
    exact kdo_close o g d r _ l _ 768 rfl (fun k => ⟨768 + k.val, by omega⟩) (fun _ => rfl) h0 (by omega)
  case piece5 =>
    idx_vars x
    open_payloads
    pointwise [h0, h1]
    exact kdo_close o g d r _ l _ 512 rfl (fun k => ⟨512 + k.val, by omega⟩) (fun _ => rfl) h0 (by omega)
  case piece6 =>
    idx_vars x
    open_payloads
    pointwise [h0, h1]
    exact kdo_close o g d r _ l _ 256 rfl (fun k => ⟨256 + k.val, by omega⟩) (fun _ => rfl) h0 (by omega)
  case piece7 =>
    idx_vars x
    open_payloads
    pointwise [h0, h1]
    exact kdo_close o g d r _ l _ 0 rfl (fun k => ⟨k.val, by omega⟩) (fun _ => (Nat.zero_add _).symm) h0 (by omega)

theorem kdg_close (o g d : Vec Ideal S256x2048 .f32) (r r' : Fin 256) (l : Fin 2048) (k : Fin 256) (A : ℕ) (hA : A % 256 = 0) (q : Fin 256 → Fin 2048)
    (hq : ∀ k, (q k).val = A + k.val) (hr : r.val = r'.val) (hl : l.val = A + k.val) :
    kdg (fun k => o (ix2 r' (q k))) (fun k => g (ix2 r' (q k))) (fun k => d (ix2 r' (q k))) k =
      kdg (fun k => o (ix2 r (inHead l k))) (fun k => g (ix2 r (inHead l k))) (fun k => d (ix2 r (inHead l k))) (off l) := by
  obtain rfl : r = r' := Fin.ext hr
  have e : ∀ k, q k = inHead l k := fun i => Fin.ext (by rw [hq]; show _ = l.val / 256 * 256 + i.val; omega)
  have e' : k = off l := Fin.ext (by show k.val = l.val % 256; omega)
  simp only [e, ← e']

theorem out4_at (o g d : Vec Ideal S256x2048 .f32) (r : Fin 256) (l : Fin 2048) :
    out0_4 o g d (ix2 r l) = kdg (fun k => o (ix2 r (inHead l k))) (fun k => g (ix2 r (inHead l k))) (fun k => d (ix2 r (inHead l k))) (off l) := by
  unfold_out out0_4
  canon_tiles x h
  case piece0 =>
    idx_vars x
    open_payloads
    pointwise [h0, h1]
    exact kdg_close o g d r _ l _ 1792 rfl (fun k => ⟨1792 + k.val, by omega⟩) (fun _ => rfl) h0 (by omega)
  case piece1 =>
    idx_vars x
    open_payloads
    pointwise [h0, h1]
    exact kdg_close o g d r _ l _ 1536 rfl (fun k => ⟨1536 + k.val, by omega⟩) (fun _ => rfl) h0 (by omega)
  case piece2 =>
    idx_vars x
    open_payloads
    pointwise [h0, h1]
    exact kdg_close o g d r _ l _ 1280 rfl (fun k => ⟨1280 + k.val, by omega⟩) (fun _ => rfl) h0 (by omega)
  case piece3 =>
    idx_vars x
    open_payloads
    pointwise [h0, h1]
    exact kdg_close o g d r _ l _ 1024 rfl (fun k => ⟨1024 + k.val, by omega⟩) (fun _ => rfl) h0 (by omega)
  case piece4 =>
    idx_vars x
    open_payloads
    pointwise [h0, h1]
    exact kdg_close o g d r _ l _ 768 rfl (fun k => ⟨768 + k.val, by omega⟩) (fun _ => rfl) h0 (by omega)
  case piece5 =>
    idx_vars x
    open_payloads
    pointwise [h0, h1]
    exact kdg_close o g d r _ l _ 512 rfl (fun k => ⟨512 + k.val, by omega⟩) (fun _ => rfl) h0 (by omega)
  case piece6 =>
    idx_vars x
    open_payloads
    pointwise [h0, h1]
    exact kdg_close o g d r _ l _ 256 rfl (fun k => ⟨256 + k.val, by omega⟩) (fun _ => rfl) h0 (by omega)
  case piece7 =>
    idx_vars x
    open_payloads
    pointwise [h0, h1]
    exact kdg_close o g d r _ l _ 0 rfl (fun k => ⟨k.val, by omega⟩) (fun _ => (Nat.zero_add _).symm) h0 (by omega)

end Cert.Kernel2Ideal.Value

end
-- ==== Proof.GateRef.lean ====
module

public import proofs.«01_k».proof.Proof.Gen.Reference2Ideal.Run
public import proofs.«01_k».proof.Proof.Lift
public import Idealize.ShloMosaic.Lib.Pipeline.ValueKit

@[expose] public section

set_option maxRecDepth 16384

noncomputable section

open Idealize.ShloMosaic Idealize.ShloMosaic.TcCoe Idealize.SL.Sem

namespace Cert.Reference2Ideal.Value

open Cert.Reference2Ideal Cert.Reference2Ideal.Gen

/-! The reference's lines one by one, as functions of its arguments. -/

def r_v0 (arg0 : FVec Ideal S4096x2048 .f32) (arg1 : FVec Ideal S4096x10240 .f32) (arg2 : FVec Ideal S4096x4096 .f32) : FVec Ideal S4096x2048 .f32 := ((extractStridedSlice S4096x2048 ![0, 6144] arg1 slices_S4096x10240_S4096x2048_0_6144))
def r_v1 (arg0 : FVec Ideal S4096x2048 .f32) (arg1 : FVec Ideal S4096x10240 .f32) (arg2 : FVec Ideal S4096x4096 .f32) : FVec Ideal S1x4096x8x256 .f32 := shapeCast _ arg0 shapeCasts_S4096x2048_S1x4096x8x256
def r_cst (arg0 : FVec Ideal S4096x2048 .f32) (arg1 : FVec Ideal S4096x10240 .f32) (arg2 : FVec Ideal S4096x4096 .f32) : FVec Ideal S_ .f32 := (constant S_ .f32 0x00000000#32)
def r_v2 (arg0 : FVec Ideal S4096x2048 .f32) (arg1 : FVec Ideal S4096x10240 .f32) (arg2 : FVec Ideal S4096x4096 .f32) : FVec Ideal S1x4096x8 .f32 := Host.reduceAdd (r_v1 arg0 arg1 arg2) (r_cst arg0 arg1 arg2) reducesTo_S1x4096x8x256_S1x4096x8_d3 h_S_
def r_v3 (arg0 : FVec Ideal S4096x2048 .f32) (arg1 : FVec Ideal S4096x10240 .f32) (arg2 : FVec Ideal S4096x4096 .f32) : FVec Ideal S1x4096x8x1 .f32 := (broadcastInDim S1x4096x8x1 ![0, 1, 2] bcast_S1x4096x8_S1x4096x8x1_0_1_2) (r_v2 arg0 arg1 arg2)
def r_cst_0 (arg0 : FVec Ideal S4096x2048 .f32) (arg1 : FVec Ideal S4096x10240 .f32) (arg2 : FVec Ideal S4096x4096 .f32) : FVec Ideal S_ .f32 := (constant S_ .f32 0x43800000#32)
def r_v4 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_0 arg0 arg1 arg2)
def r_v5 (arg0 : FVec Ideal S4096x2048 .f32) (arg1 : FVec Ideal S4096x10240 .f32) (arg2 : FVec Ideal S4096x4096 .f32) : FVec Ideal S1x4096x8x1 .f32 := (Host.divf) (r_v3 arg0 arg1 arg2) (r_v4 arg0 arg1 arg2)
def r_v6 (arg0 : FVec Ideal S4096x2048 .f32) (arg1 : FVec Ideal S4096x10240 .f32) (arg2 : FVec Ideal S4096x4096 .f32) : FVec Ideal S1x4096x8x256 .f32 := (broadcastInDim S1x4096x8x256 ![0, 1, 2, 3] bcast_S1x4096x8x1_S1x4096x8x256_0_1_2_3) (r_v5 arg0 arg1 arg2)
def r_v7 (arg0 : FVec Ideal S4096x2048 .f32) (arg1 : FVec Ideal S4096x10240 .f32) (arg2 : FVec Ideal S4096x4096 .f32) : FVec Ideal S1x4096x8x256 .f32 := (subf) (r_v1 arg0 arg1 arg2) (r_v6 arg0 arg1 arg2)
def r_v8 (arg0 : FVec Ideal S4096x2048 .f32) (arg1 : FVec Ideal S4096x10240 .f32) (arg2 : FVec Ideal S4096x4096 .f32) : FVec Ideal S1x4096x8x256 .f32 := (mulf) (r_v7 arg0 arg1 arg2) (r_v7 arg0 arg1 arg2)
def r_cst_1 (arg0 : FVec Ideal S4096x2048 .f32) (arg1 : FVec Ideal S4096x10240 .f32) (arg2 : FVec Ideal S4096x4096 .f32) : FVec Ideal S_ .f32 := (constant S_ .f32 0x40000000#32)
def r_v9 (arg0 : FVec Ideal S4096x2048 .f32) (arg1 : FVec Ideal S4096x10240 .f32) (arg2 : FVec Ideal S4096x4096 .f32) : FVec Ideal S1x4096x8x256 .f32 := (broadcastInDim S1x4096x8x256 ![] bcast_S_S1x4096x8x256) (r_cst_1 arg0 arg1 arg2)
def r_v10 (arg0 : FVec Ideal S4096x2048 .f32) (arg1 : FVec Ideal S4096x10240 .f32) (arg2 : FVec Ideal S4096x4096 .f32) : FVec Ideal S1x4096x8x256 .f32 := (mulf) (r_v9 arg0 arg1 arg2) (r_v7 arg0 arg1 arg2)
def r_cst_2 (arg0 : FVec Ideal S4096x2048 .f32) (arg1 : FVec Ideal S4096x10240 .f32) (arg2 : FVec Ideal S4096x4096 .f32) : FVec Ideal S_ .f32 := (constant S_ .f32 0x00000000#32)
def r_v11 (arg0 : FVec Ideal S4096x2048 .f32) (arg1 : FVec Ideal S4096x10240 .f32) (arg2 : FVec Ideal S4096x4096 .f32) : FVec Ideal S1x4096x8 .f32 := Host.reduceAdd (r_v8 arg0 arg1 arg2) (r_cst_2 arg0 arg1 arg2) reducesTo_S1x4096x8x256_S1x4096x8_d3 h_S_
def r_v12 (arg0 : FVec Ideal S4096x2048 .f32) (arg1 : FVec Ideal S4096x10240 .f32) (arg2 : FVec Ideal S4096x4096 .f32) : FVec Ideal S1x4096x8x1 .f32 := (broadcastInDim S1x4096x8x1 ![0, 1, 2] bcast_S1x4096x8_S1x4096x8x1_0_1_2) (r_v11 arg0 arg1 arg2)
def r_cst_3 (arg0 : FVec Ideal S4096x2048 .f32) (arg1 : FVec Ideal S4096x10240 .f32) (arg2 : FVec Ideal S4096x4096 .f32) : FVec Ideal S_ .f32 := (constant S_ .f32 0x43800000#32)
def r_v13 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_3 arg0 arg1 arg2)
def r_v14 (arg0 : FVec Ideal S4096x2048 .f32) (arg1 : FVec Ideal S4096x10240 .f32) (arg2 : FVec Ideal S4096x4096 .f32) : FVec Ideal S1x4096x8x1 .f32 := (Host.divf) (r_v12 arg0 arg1 arg2) (r_v13 arg0 arg1 arg2)
def r_v15 (arg0 : FVec Ideal S4096x2048 .f32) (arg1 : FVec Ideal S4096x10240 .f32) (arg2 : FVec Ideal S4096x4096 .f32) : FVec Ideal S1x4096x8x256 .f32 := (broadcastInDim S1x4096x8x256 ![0, 1, 2, 3] bcast_S1x4096x8x1_S1x4096x8x256_0_1_2_3) (r_v5 arg0 arg1 arg2)
def r_v16 (arg0 : FVec Ideal S4096x2048 .f32) (arg1 : FVec Ideal S4096x10240 .f32) (arg2 : FVec Ideal S4096x4096 .f32) : FVec Ideal S1x4096x8x256 .f32 := (subf) (r_v1 arg0 arg1 arg2) (r_v15 arg0 arg1 arg2)
def r_cst_4 (arg0 : FVec Ideal S4096x2048 .f32) (arg1 : FVec Ideal S4096x10240 .f32) (arg2 : FVec Ideal S4096x4096 .f32) : FVec Ideal S_ .f32 := (constant S_ .f32 0x358637BD#32)
def r_v17 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_4 arg0 arg1 arg2)
def r_v18 (arg0 : FVec Ideal S4096x2048 .f32) (arg1 : FVec Ideal S4096x10240 .f32) (arg2 : FVec Ideal S4096x4096 .f32) : FVec Ideal S1x4096x8x1 .f32 := (addf) (r_v14 arg0 arg1 arg2) (r_v17 arg0 arg1 arg2)
def r_v19 (arg0 : FVec Ideal S4096x2048 .f32) (arg1 : FVec Ideal S4096x10240 .f32) (arg2 : FVec Ideal S4096x4096 .f32) : FVec Ideal S1x4096x8x1 .f32 := (Host.rsqrt) (r_v18 arg0 arg1 arg2)
def r_v20 (arg0 : FVec Ideal S4096x2048 .f32) (arg1 : FVec Ideal S4096x10240 .f32) (arg2 : FVec Ideal S4096x4096 .f32) : FVec Ideal S1x4096x8x1 .f32 := (Host.divf) (r_v19 arg0 arg1 arg2) (r_v18 arg0 arg1 arg2)
def r_cst_5 (arg0 : FVec Ideal S4096x2048 .f32) (arg1 : FVec Ideal S4096x10240 .f32) (arg2 : FVec Ideal S4096x4096 .f32) : FVec Ideal S_ .f32 := (constant S_ .f32 0xBF000000#32)
def r_v21 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_5 arg0 arg1 arg2)
def r_v22 (arg0 : FVec Ideal S4096x2048 .f32) (arg1 : FVec Ideal S4096x10240 .f32) (arg2 : FVec Ideal S4096x4096 .f32) : FVec Ideal S1x4096x8x1 .f32 := (mulf) (r_v21 arg0 arg1 arg2) (r_v20 arg0 arg1 arg2)
def r_v23 (arg0 : FVec Ideal S4096x2048 .f32) (arg1 : FVec Ideal S4096x10240 .f32) (arg2 : FVec Ideal S4096x4096 .f32) : FVec Ideal S1x4096x8x256 .f32 := (broadcastInDim S1x4096x8x256 ![0, 1, 2, 3] bcast_S1x4096x8x1_S1x4096x8x256_0_1_2_3) (r_v19 arg0 arg1 arg2)
def r_v24 (arg0 : FVec Ideal S4096x2048 .f32) (arg1 : FVec Ideal S4096x10240 .f32) (arg2 : FVec Ideal S4096x4096 .f32) : FVec Ideal S1x4096x8x256 .f32 := (mulf) (r_v16 arg0 arg1 arg2) (r_v23 arg0 arg1 arg2)
def r_v25 (arg0 : FVec Ideal S4096x2048 .f32) (arg1 : FVec Ideal S4096x10240 .f32) (arg2 : FVec Ideal S4096x4096 .f32) : FVec Ideal S1x4096x2048 .f32 := shapeCast _ (r_v24 arg0 arg1 arg2) shapeCasts_S1x4096x8x256_S1x4096x2048
def r_c0_v0 (arg0 : FVec Ideal S4096x2048 .f32) (arg1 : FVec Ideal S4096x10240 .f32) (arg2 : FVec Ideal S4096x4096 .f32) : FVec Ideal S4096x2048 .f32 := Host.negf (r_v0 arg0 arg1 arg2)
def r_c0_v1 (arg0 : FVec Ideal S4096x2048 .f32) (arg1 : FVec Ideal S4096x10240 .f32) (arg2 : FVec Ideal S4096x4096 .f32) : FVec Ideal S4096x2048 .f32 := Host.exp (r_c0_v0 arg0 arg1 arg2)
def r_c0_cst (arg0 : FVec Ideal S4096x2048 .f32) (arg1 : FVec Ideal S4096x10240 .f32) (arg2 : FVec Ideal S4096x4096 .f32) : FVec Ideal S_ .f32 := (constant S_ .f32 0x3F800000#32)
def r_c0_v2 (arg0 : FVec Ideal S4096x2048 .f32) (arg1 : FVec Ideal S4096x10240 .f32) (arg2 : FVec Ideal S4096x4096 .f32) : FVec Ideal S4096x2048 .f32 := (broadcastInDim S4096x2048 ![] bcast_S_S4096x2048) (r_c0_cst arg0 arg1 arg2)
def r_c0_v3 (arg0 : FVec Ideal S4096x2048 .f32) (arg1 : FVec Ideal S4096x10240 .f32) (arg2 : FVec Ideal S4096x4096 .f32) : FVec Ideal S4096x2048 .f32 := addf (r_c0_v2 arg0 arg1 arg2) (r_c0_v1 arg0 arg1 arg2)
def r_c0_cst_0 (arg0 : FVec Ideal S4096x2048 .f32) (arg1 : FVec Ideal S4096x10240 .f32) (arg2 : FVec Ideal S4096x4096 .f32) : FVec Ideal S_ .f32 := (constant S_ .f32 0x3F800000#32)
def r_c0_v4 (arg0 : FVec Ideal S4096x2048 .f32) (arg1 : FVec Ideal S4096x10240 .f32) (arg2 : FVec Ideal S4096x4096 .f32) : FVec Ideal S4096x2048 .f32 := (broadcastInDim S4096x2048 ![] bcast_S_S4096x2048) (r_c0_cst_0 arg0 arg1 arg2)
def r_v26_2 (arg0 : FVec Ideal S4096x2048 .f32) (arg1 : FVec Ideal S4096x10240 .f32) (arg2 : FVec Ideal S4096x4096 .f32) : FVec Ideal S4096x2048 .f32 := Host.divf (r_c0_v4 arg0 arg1 arg2) (r_c0_v3 arg0 arg1 arg2)
def r_c0_cst_1 (arg0 : FVec Ideal S4096x2048 .f32) (arg1 : FVec Ideal S4096x10240 .f32) (arg2 : FVec Ideal S4096x4096 .f32) : FVec Ideal S_ .f32 := (constant S_ .f32 0x3F800000#32)
def r_c0_v6 (arg0 : FVec Ideal S4096x2048 .f32) (arg1 : FVec Ideal S4096x10240 .f32) (arg2 : FVec Ideal S4096x4096 .f32) : FVec Ideal S4096x2048 .f32 := (broadcastInDim S4096x2048 ![] bcast_S_S4096x2048) (r_c0_cst_1 arg0 arg1 arg2)
def r_c0_v7 (arg0 : FVec Ideal S4096x2048 .f32) (arg1 : FVec Ideal S4096x10240 .f32) (arg2 : FVec Ideal S4096x4096 .f32) : FVec Ideal S4096x2048 .f32 := subf (r_c0_v6 arg0 arg1 arg2) (r_v26_2 arg0 arg1 arg2)
def r_v26_1 (arg0 : FVec Ideal S4096x2048 .f32) (arg1 : FVec Ideal S4096x10240 .f32) (arg2 : FVec Ideal S4096x4096 .f32) : FVec Ideal S4096x2048 .f32 := mulf (r_v26_2 arg0 arg1 arg2) (r_c0_v7 arg0 arg1 arg2)
def r_v26_0 (arg0 : FVec Ideal S4096x2048 .f32) (arg1 : FVec Ideal S4096x10240 .f32) (arg2 : FVec Ideal S4096x4096 .f32) : FVec Ideal S4096x2048 .f32 := mulf (r_v0 arg0 arg1 arg2) (r_v26_2 arg0 arg1 arg2)
def r_v27 (arg0 : FVec Ideal S4096x2048 .f32) (arg1 : FVec Ideal S4096x10240 .f32) (arg2 : FVec Ideal S4096x4096 .f32) : FVec Ideal S1x4096x2048 .f32 := (broadcastInDim S1x4096x2048 ![1, 2] bcast_S4096x2048_S1x4096x2048_1_2) (r_v26_0 arg0 arg1 arg2)
def r_v28 (arg0 : FVec Ideal S4096x2048 .f32) (arg1 : FVec Ideal S4096x10240 .f32) (arg2 : FVec Ideal S4096x4096 .f32) : FVec Ideal S1x4096x2048 .f32 := (mulf) (r_v27 arg0 arg1 arg2) (r_v25 arg0 arg1 arg2)
def r_v29 (arg0 : FVec Ideal S4096x2048 .f32) (arg1 : FVec Ideal S4096x10240 .f32) (arg2 : FVec Ideal S4096x4096 .f32) : FVec Ideal S4096x2048 .f32 := shapeCast _ (r_v28 arg0 arg1 arg2) shapeCasts_S1x4096x2048_S4096x2048
def r_v30 (arg0 : FVec Ideal S4096x2048 .f32) (arg1 : FVec Ideal S4096x10240 .f32) (arg2 : FVec Ideal S4096x4096 .f32) : FVec Ideal S4096x2048 .f32 := ((extractStridedSlice S4096x2048 ![0, 0] arg2 slices_S4096x4096_S4096x2048_0_0))
def r_v31 (arg0 : FVec Ideal S4096x2048 .f32) (arg1 : FVec Ideal S4096x10240 .f32) (arg2 : FVec Ideal S4096x4096 .f32) : FVec Ideal S1x4096x2048 .f32 := (broadcastInDim S1x4096x2048 ![1, 2] bcast_S4096x2048_S1x4096x2048_1_2) (r_v30 arg0 arg1 arg2)
def r_v32 (arg0 : FVec Ideal S4096x2048 .f32) (arg1 : FVec Ideal S4096x10240 .f32) (arg2 : FVec Ideal S4096x4096 .f32) : FVec Ideal S1x4096x2048 .f32 := (mulf) (r_v27 arg0 arg1 arg2) (r_v31 arg0 arg1 arg2)
def r_v33 (arg0 : FVec Ideal S4096x2048 .f32) (arg1 : FVec Ideal S4096x10240 .f32) (arg2 : FVec Ideal S4096x4096 .f32) : FVec Ideal S1x4096x2048 .f32 := (mulf) (r_v31 arg0 arg1 arg2) (r_v25 arg0 arg1 arg2)
def r_cst_6 (arg0 : FVec Ideal S4096x2048 .f32) (arg1 : FVec Ideal S4096x10240 .f32) (arg2 : FVec Ideal S4096x4096 .f32) : FVec Ideal S_ .f32 := (constant S_ .f32 0x00000000#32)
def r_v34 (arg0 : FVec Ideal S4096x2048 .f32) (arg1 : FVec Ideal S4096x10240 .f32) (arg2 : FVec Ideal S4096x4096 .f32) : FVec Ideal S4096x2048 .f32 := Host.reduceAdd (r_v33 arg0 arg1 arg2) (r_cst_6 arg0 arg1 arg2) reducesTo_S1x4096x2048_S4096x2048_d0 h_S_
def r_c1_v0 (arg0 : FVec Ideal S4096x2048 .f32) (arg1 : FVec Ideal S4096x10240 .f32) (arg2 : FVec Ideal S4096x4096 .f32) : FVec Ideal S4096x2048 .f32 := mulf (r_v0 arg0 arg1 arg2) (r_v34 arg0 arg1 arg2)
def r_c1_v1 (arg0 : FVec Ideal S4096x2048 .f32) (arg1 : FVec Ideal S4096x10240 .f32) (arg2 : FVec Ideal S4096x4096 .f32) : FVec Ideal S4096x2048 .f32 := mulf (r_v34 arg0 arg1 arg2) (r_v26_2 arg0 arg1 arg2)
def r_c1_v2 (arg0 : FVec Ideal S4096x2048 .f32) (arg1 : FVec Ideal S4096x10240 .f32) (arg2 : FVec Ideal S4096x4096 .f32) : FVec Ideal S4096x2048 .f32 := mulf (r_c1_v0 arg0 arg1 arg2) (r_v26_1 arg0 arg1 arg2)
def r_v35 (arg0 : FVec Ideal S4096x2048 .f32) (arg1 : FVec Ideal S4096x10240 .f32) (arg2 : FVec Ideal S4096x4096 .f32) : FVec Ideal S4096x2048 .f32 := addf (r_c1_v1 arg0 arg1 arg2) (r_c1_v2 arg0 arg1 arg2)
def r_v36 (arg0 : FVec Ideal S4096x2048 .f32) (arg1 : FVec Ideal S4096x10240 .f32) (arg2 : FVec Ideal S4096x4096 .f32) : FVec Ideal S1x4096x8x256 .f32 := shapeCast _ (r_v32 arg0 arg1 arg2) shapeCasts_S1x4096x2048_S1x4096x8x256
def r_v37 (arg0 : FVec Ideal S4096x2048 .f32) (arg1 : FVec Ideal S4096x10240 .f32) (arg2 : FVec Ideal S4096x4096 .f32) : FVec Ideal S1x4096x8x256 .f32 := (mulf) (r_v16 arg0 arg1 arg2) (r_v36 arg0 arg1 arg2)
def r_cst_7 (arg0 : FVec Ideal S4096x2048 .f32) (arg1 : FVec Ideal S4096x10240 .f32) (arg2 : FVec Ideal S4096x4096 .f32) : FVec Ideal S_ .f32 := (constant S_ .f32 0x00000000#32)
def r_v38 (arg0 : FVec Ideal S4096x2048 .f32) (arg1 : FVec Ideal S4096x10240 .f32) (arg2 : FVec Ideal S4096x4096 .f32) : FVec Ideal S1x4096x8 .f32 := Host.reduceAdd (r_v37 arg0 arg1 arg2) (r_cst_7 arg0 arg1 arg2) reducesTo_S1x4096x8x256_S1x4096x8_d3 h_S_
def r_v39 (arg0 : FVec Ideal S4096x2048 .f32) (arg1 : FVec Ideal S4096x10240 .f32) (arg2 : FVec Ideal S4096x4096 .f32) : FVec Ideal S1x4096x8x1 .f32 := shapeCast _ (r_v38 arg0 arg1 arg2) shapeCasts_S1x4096x8_S1x4096x8x1
def r_v40 (arg0 : FVec Ideal S4096x2048 .f32) (arg1 : FVec Ideal S4096x10240 .f32) (arg2 : FVec Ideal S4096x4096 .f32) : FVec Ideal S1x4096x8x256 .f32 := (broadcastInDim S1x4096x8x256 ![0, 1, 2, 3] bcast_S1x4096x8x1_S1x4096x8x256_0_1_2_3) (r_v19 arg0 arg1 arg2)
def r_v41 (arg0 : FVec Ideal S4096x2048 .f32) (arg1 : FVec Ideal S4096x10240 .f32) (arg2 : FVec Ideal S4096x4096 .f32) : FVec Ideal S1x4096x8x256 .f32 := (mulf) (r_v36 arg0 arg1 arg2) (r_v40 arg0 arg1 arg2)
def r_v42 (arg0 : FVec Ideal S4096x2048 .f32) (arg1 : FVec Ideal S4096x10240 .f32) (arg2 : FVec Ideal S4096x4096 .f32) : FVec Ideal S1x4096x8x1 .f32 := (mulf) (r_v39 arg0 arg1 arg2) (r_v22 arg0 arg1 arg2)
def r_v43 (arg0 : FVec Ideal S4096x2048 .f32) (arg1 : FVec Ideal S4096x10240 .f32) (arg2 : FVec Ideal S4096x4096 .f32) : FVec Ideal S1x4096x8x256 .f32 := (Host.negf) (r_v41 arg0 arg1 arg2)
def r_cst_8 (arg0 : FVec Ideal S4096x2048 .f32) (arg1 : FVec Ideal S4096x10240 .f32) (arg2 : FVec Ideal S4096x4096 .f32) : FVec Ideal S_ .f32 := (constant S_ .f32 0x00000000#32)
def r_v44 (arg0 : FVec Ideal S4096x2048 .f32) (arg1 : FVec Ideal S4096x10240 .f32) (arg2 : FVec Ideal S4096x4096 .f32) : FVec Ideal S1x4096x8 .f32 := Host.reduceAdd (r_v43 arg0 arg1 arg2) (r_cst_8 arg0 arg1 arg2) reducesTo_S1x4096x8x256_S1x4096x8_d3 h_S_
def r_v45 (arg0 : FVec Ideal S4096x2048 .f32) (arg1 : FVec Ideal S4096x10240 .f32) (arg2 : FVec Ideal S4096x4096 .f32) : FVec Ideal S1x4096x8x1 .f32 := shapeCast _ (r_v44 arg0 arg1 arg2) shapeCasts_S1x4096x8_S1x4096x8x1
def r_cst_9 (arg0 : FVec Ideal S4096x2048 .f32) (arg1 : FVec Ideal S4096x10240 .f32) (arg2 : FVec Ideal S4096x4096 .f32) : FVec Ideal S_ .f32 := (constant S_ .f32 0x43800000#32)
def r_v46 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_9 arg0 arg1 arg2)
def r_v47 (arg0 : FVec Ideal S4096x2048 .f32) (arg1 : FVec Ideal S4096x10240 .f32) (arg2 : FVec Ideal S4096x4096 .f32) : FVec Ideal S1x4096x8x1 .f32 := (Host.divf) (r_v42 arg0 arg1 arg2) (r_v46 arg0 arg1 arg2)
def r_cst_10 (arg0 : FVec Ideal S4096x2048 .f32) (arg1 : FVec Ideal S4096x10240 .f32) (arg2 : FVec Ideal S4096x4096 .f32) : FVec Ideal S_ .f32 := (constant S_ .f32 0x00000000#32)
def r_v48 (arg0 : FVec Ideal S4096x2048 .f32) (arg1 : FVec Ideal S4096x10240 .f32) (arg2 : FVec Ideal S4096x4096 .f32) : FVec Ideal S4096x8 .f32 := Host.reduceAdd (r_v47 arg0 arg1 arg2) (r_cst_10 arg0 arg1 arg2) reducesTo_S1x4096x8x1_S4096x8_d0_3 h_S_
def r_v49 (arg0 : FVec Ideal S4096x2048 .f32) (arg1 : FVec Ideal S4096x10240 .f32) (arg2 : FVec Ideal S4096x4096 .f32) : FVec Ideal S1x4096x8 .f32 := (broadcastInDim S1x4096x8 ![1, 2] bcast_S4096x8_S1x4096x8_1_2) (r_v48 arg0 arg1 arg2)
def r_v50 (arg0 : FVec Ideal S4096x2048 .f32) (arg1 : FVec Ideal S4096x10240 .f32) (arg2 : FVec Ideal S4096x4096 .f32) : FVec Ideal S1x4096x8x256 .f32 := (broadcastInDim S1x4096x8x256 ![0, 1, 2] bcast_S1x4096x8_S1x4096x8x256_0_1_2) (r_v49 arg0 arg1 arg2)
def r_v51 (arg0 : FVec Ideal S4096x2048 .f32) (arg1 : FVec Ideal S4096x10240 .f32) (arg2 : FVec Ideal S4096x4096 .f32) : FVec Ideal S1x4096x8x256 .f32 := (mulf) (r_v50 arg0 arg1 arg2) (r_v10 arg0 arg1 arg2)
def r_v52 (arg0 : FVec Ideal S4096x2048 .f32) (arg1 : FVec Ideal S4096x10240 .f32) (arg2 : FVec Ideal S4096x4096 .f32) : FVec Ideal S1x4096x8x256 .f32 := (Host.negf) (r_v51 arg0 arg1 arg2)
def r_cst_11 (arg0 : FVec Ideal S4096x2048 .f32) (arg1 : FVec Ideal S4096x10240 .f32) (arg2 : FVec Ideal S4096x4096 .f32) : FVec Ideal S_ .f32 := (constant S_ .f32 0x00000000#32)
def r_v53 (arg0 : FVec Ideal S4096x2048 .f32) (arg1 : FVec Ideal S4096x10240 .f32) (arg2 : FVec Ideal S4096x4096 .f32) : FVec Ideal S1x4096x8 .f32 := Host.reduceAdd (r_v52 arg0 arg1 arg2) (r_cst_11 arg0 arg1 arg2) reducesTo_S1x4096x8x256_S1x4096x8_d3 h_S_
def r_v54 (arg0 : FVec Ideal S4096x2048 .f32) (arg1 : FVec Ideal S4096x10240 .f32) (arg2 : FVec Ideal S4096x4096 .f32) : FVec Ideal S1x4096x8x1 .f32 := shapeCast _ (r_v53 arg0 arg1 arg2) shapeCasts_S1x4096x8_S1x4096x8x1
def r_v55 (arg0 : FVec Ideal S4096x2048 .f32) (arg1 : FVec Ideal S4096x10240 .f32) (arg2 : FVec Ideal S4096x4096 .f32) : FVec Ideal S1x4096x8x256 .f32 := (addf) (r_v41 arg0 arg1 arg2) (r_v51 arg0 arg1 arg2)
def r_v56 (arg0 : FVec Ideal S4096x2048 .f32) (arg1 : FVec Ideal S4096x10240 .f32) (arg2 : FVec Ideal S4096x4096 .f32) : FVec Ideal S1x4096x8x1 .f32 := (addf) (r_v45 arg0 arg1 arg2) (r_v54 arg0 arg1 arg2)
def r_cst_12 (arg0 : FVec Ideal S4096x2048 .f32) (arg1 : FVec Ideal S4096x10240 .f32) (arg2 : FVec Ideal S4096x4096 .f32) : FVec Ideal S_ .f32 := (constant S_ .f32 0x43800000#32)
def r_v57 (arg0 : FVec Ideal S4096x2048 .f32) (arg1 : FVec Ideal S4096x10240 .f32) (arg2 : FVec Ideal S4096x4096 .f32) : FVec Ideal S1x4096x8x1 .f32 := (broadcastInDim S1x4096x8x1 ![] bcast_S_S1x4096x8x1) (r_cst_12 arg0 arg1 arg2)
def r_v58 (arg0 : FVec Ideal S4096x2048 .f32) (arg1 : FVec Ideal S4096x10240 .f32) (arg2 : FVec Ideal S4096x4096 .f32) : FVec Ideal S1x4096x8x1 .f32 := (Host.divf) (r_v56 arg0 arg1 arg2) (r_v57 arg0 arg1 arg2)
def r_cst_13 (arg0 : FVec Ideal S4096x2048 .f32) (arg1 : FVec Ideal S4096x10240 .f32) (arg2 : FVec Ideal S4096x4096 .f32) : FVec Ideal S_ .f32 := (constant S_ .f32 0x00000000#32)
def r_v59 (arg0 : FVec Ideal S4096x2048 .f32) (arg1 : FVec Ideal S4096x10240 .f32) (arg2 : FVec Ideal S4096x4096 .f32) : FVec Ideal S4096x8 .f32 := Host.reduceAdd (r_v58 arg0 arg1 arg2) (r_cst_13 arg0 arg1 arg2) reducesTo_S1x4096x8x1_S4096x8_d0_3 h_S_
def r_v60 (arg0 : FVec Ideal S4096x2048 .f32) (arg1 : FVec Ideal S4096x10240 .f32) (arg2 : FVec Ideal S4096x4096 .f32) : FVec Ideal S1x4096x8 .f32 := (broadcastInDim S1x4096x8 ![1, 2] bcast_S4096x8_S1x4096x8_1_2) (r_v59 arg0 arg1 arg2)
def r_v61 (arg0 : FVec Ideal S4096x2048 .f32) (arg1 : FVec Ideal S4096x10240 .f32) (arg2 : FVec Ideal S4096x4096 .f32) : FVec Ideal S1x4096x8x256 .f32 := (broadcastInDim S1x4096x8x256 ![0, 1, 2] bcast_S1x4096x8_S1x4096x8x256_0_1_2) (r_v60 arg0 arg1 arg2)
def r_v62 (arg0 : FVec Ideal S4096x2048 .f32) (arg1 : FVec Ideal S4096x10240 .f32) (arg2 : FVec Ideal S4096x4096 .f32) : FVec Ideal S1x4096x8x256 .f32 := (addf) (r_v55 arg0 arg1 arg2) (r_v61 arg0 arg1 arg2)
def r_v63 (arg0 : FVec Ideal S4096x2048 .f32) (arg1 : FVec Ideal S4096x10240 .f32) (arg2 : FVec Ideal S4096x4096 .f32) : FVec Ideal S4096x2048 .f32 := shapeCast _ (r_v62 arg0 arg1 arg2) shapeCasts_S1x4096x8x256_S4096x2048
def r_v64 (arg0 : FVec Ideal S4096x2048 .f32) (arg1 : FVec Ideal S4096x10240 .f32) (arg2 : FVec Ideal S4096x4096 .f32) : FVec Ideal S4096x2048 .bf16 := ((truncf .bf16 (r_v63 arg0 arg1 arg2) bitsLt_bf16_f32))
def r_v65 (arg0 : FVec Ideal S4096x2048 .f32) (arg1 : FVec Ideal S4096x10240 .f32) (arg2 : FVec Ideal S4096x4096 .f32) : FVec Ideal S4096x2048 .bf16 := ((truncf .bf16 (r_v35 arg0 arg1 arg2) bitsLt_bf16_f32))

theorem v64_eq (m : (ℓ : Loc nD τ sig) → Buf (Elt Ideal) ℓ) (c : Dev nD) :
    res_main_v64 (F := Ideal) m c = r_v64 (m ((c.tc : Thread nD τ).loc main_arg0)) (m ((c.tc : Thread nD τ).loc main_arg1)) (m ((c.tc : Thread nD τ).loc main_arg2)) := rfl
theorem v65_eq (m : (ℓ : Loc nD τ sig) → Buf (Elt Ideal) ℓ) (c : Dev nD) :
    res_main_v65 (F := Ideal) m c = r_v65 (m ((c.tc : Thread nD τ).loc main_arg0)) (m ((c.tc : Thread nD τ).loc main_arg1)) (m ((c.tc : Thread nD τ).loc main_arg2)) := rfl

end Cert.Reference2Ideal.Value

end
-- ==== Proof.GateRefValue.lean ====
module

public import proofs.«01_k».proof.Proof.GateRef
public import proofs.«01_k».proof.Proof.GateMath

@[expose] public section

set_option maxRecDepth 16384

/-! The reference's results at one element, as real numbers. -/

noncomputable section

open Idealize.ShloMosaic Idealize.ShloMosaic.TcCoe Idealize.SL.Sem

namespace Cert.Reference2Ideal.Value

open Cert.Reference2Ideal Cert.Reference2Ideal.Gen Cert.Gate Cert.Lift

/-- The lane of head `h` at offset `j`. -/
abbrev lane (h : Fin 8) (j : Fin 256) : Fin 2048 := ⟨h.val * 256 + j.val, by omega⟩

section
variable (h03 : S1x4096x8x1.ReducesTo [0, 3] S4096x8)

/-- A sum over the two unit axes is the one element. -/
theorem sum_unit (v : S1x4096x8x1.Idx → EReal) (i : EReal) (t : Fin 4096) (h : Fin 8) :
    Ideal.hostReduceAdd h03 v i (ix2 t h) = i + v (ix4 0 t h 0) := by
  unfold Ideal.hostReduceAdd
  congr 1
  rw [show (Finset.univ.filter fun i => h03.drop i = ix2 t h) = {ix4 0 t h 0} from ?_, Finset.sum_singleton]
  ext y
  simp only [Finset.mem_filter, Finset.mem_univ, true_and, Finset.mem_singleton]
  constructor
  · intro e
    have e0 : (y 1).val = t.val := congrArg Fin.val (congrFun e 0)
    have e1 : (y 2).val = h.val := congrArg Fin.val (congrFun e 1)
    funext a; apply Fin.ext
    match a with
    | ⟨0, _⟩ => have := (y 0).isLt; show (y 0).val = 0; exact Nat.lt_one_iff.mp this
    | ⟨1, _⟩ => exact e0
    | ⟨2, _⟩ => exact e1
    | ⟨3, _⟩ => have := (y 3).isLt; show (y 3).val = 0; exact Nat.lt_one_iff.mp this
  · rintro rfl
    funext b; apply Fin.ext
    match b with
    | ⟨0, _⟩ => rfl
    | ⟨1, _⟩ => rfl
end

variable (x : FVec Ideal S4096x2048 .f32) (g : FVec Ideal S4096x10240 .f32) (d : FVec Ideal S4096x4096 .f32)

/-- Row `t`, head `h` of the three arguments, as real numbers. -/
def oR (t : Fin 4096) (h : Fin 8) (j : Fin 256) : ℝ := (x (ix2 t (lane h j))).toReal
def gR (t : Fin 4096) (h : Fin 8) (j : Fin 256) : ℝ := (g (ix2 t ⟨6144 + (h.val * 256 + j.val), by omega⟩)).toReal
def dR (t : Fin 4096) (h : Fin 8) (j : Fin 256) : ℝ := (d (ix2 t ⟨h.val * 256 + j.val, by omega⟩)).toReal

variable (hx : ∀ i, x i = (((x i).toReal : ℝ) : EReal)) (hg : ∀ i, g i = (((g i).toReal : ℝ) : EReal))
  (hd : ∀ i, d i = (((d i).toReal : ℝ) : EReal))
variable (t : Fin 4096) (h : Fin 8) (j : Fin 256)

include hx in
theorem x_at (p) : x (ix2 t ⟨h.val * 256 + j.val, p⟩) = ((oR x t h j : ℝ) : EReal) := hx _
include hg in
theorem g_at (p) : g (ix2 t ⟨6144 + (h.val * 256 + j.val), p⟩) = ((gR g t h j : ℝ) : EReal) := hg _
include hd in
theorem d_at (p) : d (ix2 t ⟨h.val * 256 + j.val, p⟩) = ((dR d t h j : ℝ) : EReal) := hd _
include hx in
theorem at5 : r_v5 x g d (ix4 0 t h 0) = ((mu (oR x t h) : ℝ) : EReal) := by
  pointwise [r_v5, r_v3, r_v2, r_v1, r_cst, r_v4, r_cst_0]
  simp only [x_at x hx, coe_sum, div_256]; rfl
include hx in
theorem at7 : r_v7 x g d (ix4 0 t h j) = ((cen (oR x t h) j : ℝ) : EReal) := by
  pointwise [r_v7, r_v6, r_v1]
  rw [at5 x g d hx, x_at x hx, ← EReal.coe_sub]; rfl
include hx in
theorem at16 : r_v16 x g d (ix4 0 t h j) = ((cen (oR x t h) j : ℝ) : EReal) := at7 x g d hx t h j
include hx in
theorem at18 : r_v18 x g d (ix4 0 t h 0) = ((var (oR x t h) : ℝ) : EReal) := by
  pointwise [r_v18, r_v17, r_cst_4, r_v14, r_v13, r_cst_3, r_v12, r_v11, r_cst_2, r_v8]
  simp only [at7 x g d hx, ← EReal.coe_mul, coe_sum, div_256, bits_eps, ← EReal.coe_add]; rfl
include hx in
theorem at19 : r_v19 x g d (ix4 0 t h 0) = ((rs (oR x t h) : ℝ) : EReal) := by
  pointwise [r_v19]
  rw [at18 x g d hx]; exact rsqrt_coe _ (var_pos _)
include hx in
theorem at22 : r_v22 x g d (ix4 0 t h 0) = ((-(1 / 2) * (rs (oR x t h) / var (oR x t h)) : ℝ) : EReal) := by
  pointwise [r_v22, r_v21, r_cst_5, r_v20]
  rw [at18 x g d hx, at19 x g d hx, div_coe _ _ (var_pos _).ne', show Ideal.ofBits FTy.f32 3204448256#32 = _ from ofBits_neg_half, ← EReal.coe_mul]
include hx in
theorem at24 : r_v24 x g d (ix4 0 t h j) = ((cen (oR x t h) j * rs (oR x t h) : ℝ) : EReal) := by
  pointwise [r_v24, r_v23]
  rw [at16 x g d hx, at19 x g d hx, ← EReal.coe_mul]
include hg in
theorem at262 : r_v26_2 x g d (ix2 t (lane h j)) = ((Lift.sig (gR g t h j) : ℝ) : EReal) := by
  pointwise [r_v26_2, r_c0_v4, r_c0_cst_0, r_c0_v3, r_c0_v2, r_c0_cst, r_c0_v1, r_c0_v0, r_v0]
  rw [g_at g hg, sig_div]
include hg in
theorem at261 : r_v26_1 x g d (ix2 t (lane h j)) = ((Lift.sig (gR g t h j) * (1 - Lift.sig (gR g t h j)) : ℝ) : EReal) := by
  pointwise [r_v26_1, r_c0_v7, r_c0_v6, r_c0_cst_1]
  rw [at262 x g d hg, ← EReal.coe_one, ← EReal.coe_sub, ← EReal.coe_mul]
include hg hd in
theorem at36 : r_v36 x g d (ix4 0 t h j) = ((dhn (gR g t h) (dR d t h) j : ℝ) : EReal) := by
  pointwise [r_v36, r_v32, r_v31, r_v27, r_v30, r_v26_0, r_v0]
  rw [at262 x g d hg, g_at g hg, d_at d hd, ← EReal.coe_mul, ← EReal.coe_mul]
  exact congrArg _ (mul_comm _ _)
include hx hg hd in
theorem at47 : r_v47 x g d (ix4 0 t h 0) = ((wv (oR x t h) (gR g t h) (dR d t h) : ℝ) : EReal) := by
  pointwise [r_v47, r_v46, r_cst_9, r_v42, r_v39, r_v38, r_cst_7, r_v37]
  simp only [at16 x g d hx, at36 x g d hg hd, at22 x g d hx, ← EReal.coe_mul, coe_sum, div_256]; rfl
include hx hg hd in
theorem at51 : r_v51 x g d (ix4 0 t h j) = ((wv (oR x t h) (gR g t h) (dR d t h) * (2 * cen (oR x t h) j) : ℝ) : EReal) := by
  pointwise [r_v51, r_v50, r_v49, r_v48, r_cst_10, r_v10, r_v9, r_cst_1]
  rw [sum_unit, zero_add, at47 x g d hx hg hd, at7 x g d hx, show Ideal.ofBits FTy.f32 1073741824#32 = _ from ofBits_2, ← EReal.coe_mul, ← EReal.coe_mul]
include hx hg hd in
theorem at41 : r_v41 x g d (ix4 0 t h j) = ((dhn (gR g t h) (dR d t h) j * rs (oR x t h) : ℝ) : EReal) := by
  pointwise [r_v41, r_v40]
  rw [at36 x g d hg hd, at19 x g d hx, ← EReal.coe_mul]
include hx hg hd in
theorem at62 : r_v62 x g d (ix4 0 t h j) = ((DO' (oR x t h) (gR g t h) (dR d t h) j : ℝ) : EReal) := by
  pointwise [r_v62, r_v61, r_v60, r_v59, r_cst_13, r_v55]
  rw [sum_unit, zero_add, at51 x g d hx hg hd, at41 x g d hx hg hd]
  pointwise [r_v58, r_v57, r_cst_12, r_v56, r_v54, r_v53, r_cst_11, r_v52, r_v45, r_v44, r_cst_8, r_v43]
  simp only [at51 x g d hx hg hd, at41 x g d hx hg hd, ← EReal.coe_neg, coe_sum, ← EReal.coe_add, div_256]; rfl
include hx hg hd in
theorem at64 : r_v64 x g d (ix2 t (lane h j)) = ((DO (oR x t h) (gR g t h) (dR d t h) j : ℝ) : EReal) := by
  pointwise [r_v64, r_v63]
  have e : (⟨(h.val * 256 + j.val) / 256, by omega⟩ : Fin 8) = h := Fin.ext (by simp only; omega)
  have e' : (⟨(h.val * 256 + j.val) % 256, by omega⟩ : Fin 256) = j := Fin.ext (by simp only; omega)
  simp only [e, e']
  rw [at62 x g d hx hg hd, DO_eq]
include hx hg hd in
theorem at65 : r_v65 x g d (ix2 t (lane h j)) = ((DG (oR x t h) (gR g t h) (dR d t h) j : ℝ) : EReal) := by
  pointwise [r_v65, r_v35, r_c1_v1, r_c1_v2, r_c1_v0, r_v34, r_v33, r_v31, r_v25, r_v30, r_cst_6, r_v0]
  simp only [at24 x g d hx, at262 x g d hg, at261 x g d hg, d_at d hd, g_at g hg, ← EReal.coe_mul, coe_sum, ← EReal.coe_add, EReal.coe_eq_coe_iff]
  simp only [DG, Finset.univ_unique, Finset.sum_singleton]
  ring

end Cert.Reference2Ideal.Value

end
-- ==== Proof.GateFinal.lean ====
module

public import proofs.«01_k».proof.Proof.GateValue
public import proofs.«01_k».proof.Proof.GateRefValue

@[expose] public section

set_option maxRecDepth 16384

/-! The kernel's final arrays are the reference's results. -/

noncomputable section

open Idealize.ShloMosaic Idealize.ShloMosaic.TcCoe Idealize.SL.Sem

namespace Cert.Kernel2Ideal.Value

open Cert.Kernel2Ideal Cert.Kernel2Ideal.Gen Cert.Gate Cert.Lift Cert.Reference2Ideal.Value

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

section
variable (c : Dev nD)
  (hx : ∀ i, m ((c.tc : Thread nD τ).loc main_arg0) i = (((m ((c.tc : Thread nD τ).loc main_arg0) i).toReal : ℝ) : EReal))
  (hg : ∀ i, m ((c.tc : Thread nD τ).loc main_arg1) i = (((m ((c.tc : Thread nD τ).loc main_arg1) i).toReal : ℝ) : EReal))
  (hd : ∀ i, m ((c.tc : Thread nD τ).loc main_arg2) i = (((m ((c.tc : Thread nD τ).loc main_arg2) i).toReal : ℝ) : EReal))

/-- A block's row `r` is the array's row `256 t + r`. -/
abbrev row (t : Fin cfg0.N) (r : Fin 256) : Fin 4096 := ⟨t.val * 256 + r.val, by have : t.val < 16 := lt_of_lt_of_eq t.isLt N_0; omega⟩
abbrev hd_ (l : Fin 2048) : Fin 8 := ⟨l.val / 256, by omega⟩

include hx in
theorem blk0 (t : Fin cfg0.N) (r : Fin 256) (l : Fin 2048) (k : Fin 256) :
    iblk m c 0 t (ix2 r (inHead l k)) = ((oR (m ((c.tc : Thread nD τ).loc main_arg0)) (row t r) (hd_ l) k : ℝ) : EReal) := by
  refine Eq.trans ?_ (x_at (m ((c.tc : Thread nD τ).loc main_arg0)) hx (row t r) (hd_ l) k (by omega))
  blk_point [iblk, V, idx0 t]
include hg in
theorem blk1 (t : Fin cfg0.N) (r : Fin 256) (l : Fin 2048) (k : Fin 256) :
    iblk m c 1 t (ix2 r (inHead l k)) = ((gR (m ((c.tc : Thread nD τ).loc main_arg1)) (row t r) (hd_ l) k : ℝ) : EReal) := by
  refine Eq.trans ?_ (g_at (m ((c.tc : Thread nD τ).loc main_arg1)) hg (row t r) (hd_ l) k (by omega))
  blk_point [iblk, V, idx1 t]
include hd in
theorem blk2 (t : Fin cfg0.N) (r : Fin 256) (l : Fin 2048) (k : Fin 256) :
    iblk m c 2 t (ix2 r (inHead l k)) = ((dR (m ((c.tc : Thread nD τ).loc main_arg2)) (row t r) (hd_ l) k : ℝ) : EReal) := by
  refine Eq.trans ?_ (d_at (m ((c.tc : Thread nD τ).loc main_arg2)) hd (row t r) (hd_ l) k (by omega))
  blk_point [iblk, V, idx2 t]

theorem split (y : S256x2048.Idx) : ∃ (r : Fin 256) (l : Fin 2048), y = ix2 r l :=
  ⟨y 0, y 1, by funext a; match a with | ⟨0, _⟩ => rfl | ⟨1, _⟩ => rfl⟩

include hx hg hd in
theorem point3 (t : Fin cfg0.N) (r : Fin 256) (l : Fin 2048) (i : S4096x2048.Idx) (h0 : (i 0).val = t.val * 256 + r.val) (h1 : (i 1).val = l.val) :
    out0_3 (iblk m c 0 t) (iblk m c 1 t) (iblk m c 2 t) (ix2 r l) =
      r_v64 (m ((c.tc : Thread nD τ).loc main_arg0)) (m ((c.tc : Thread nD τ).loc main_arg1)) (m ((c.tc : Thread nD τ).loc main_arg2)) i := by
  obtain rfl : i = ix2 (row t r) (lane (hd_ l) (off l)) := by
    funext a; apply Fin.ext
    match a with
    | ⟨0, _⟩ => exact h0
    | ⟨1, _⟩ => refine h1.trans ?_; show l.val = l.val / 256 * 256 + l.val % 256; omega
  rw [out3_at, at64 _ _ _ hx hg hd]
  simp only [blk0 m c hx, blk1 m c hg, blk2 m c hd]
  exact kdo_coe _ _ _ _

theorem emb3_0 (t : Fin cfg0.N) (y : S256x2048.Idx) : ((win0_3.blk t).view.emb y 0).val = t.val * 256 + (y 0).val := by
  blk_simp [idx3 t]
theorem emb3_1 (t : Fin cfg0.N) (y : S256x2048.Idx) : ((win0_3.blk t).view.emb y 1).val = (y 1).val := by
  blk_simp [idx3 t]

include hx hg hd in
theorem block3 (t : Fin cfg0.N) (y : S256x2048.Idx) (i : S4096x2048.Idx) (h0 : (i 0).val = t.val * 256 + (y 0).val) (h1 : (i 1).val = (y 1).val) :
    out0_3 (iblk m c 0 t) (iblk m c 1 t) (iblk m c 2 t) y =
      r_v64 (m ((c.tc : Thread nD τ).loc main_arg0)) (m ((c.tc : Thread nD τ).loc main_arg1)) (m ((c.tc : Thread nD τ).loc main_arg2)) i := by
  obtain ⟨r, l, rfl⟩ := split y
  exact point3 m c hx hg hd t r l i h0 h1

theorem cov3 : (cfg0.win 3).Covers := by decide +kernel

include hx hg hd in
theorem final3 : (dats m 0 c).arrAt 3 (cfgs 0).N =
    r_v64 (m ((c.tc : Thread nD τ).loc main_arg0)) (m ((c.tc : Thread nD τ).loc main_arg1)) (m ((c.tc : Thread nD τ).loc main_arg2)) :=
  (dats m 0 c).arrAt_eq_of_covers 3 _ cov3 fun t _ y =>
    (congrFun (after0_3 m c t) y).trans (block3 m c hx hg hd t y _ (emb3_0 t y) (emb3_1 t y))
include hx hg hd in
theorem point4 (t : Fin cfg0.N) (r : Fin 256) (l : Fin 2048) (i : S4096x2048.Idx) (h0 : (i 0).val = t.val * 256 + r.val) (h1 : (i 1).val = l.val) :
    out0_4 (iblk m c 0 t) (iblk m c 1 t) (iblk m c 2 t) (ix2 r l) =
      r_v65 (m ((c.tc : Thread nD τ).loc main_arg0)) (m ((c.tc : Thread nD τ).loc main_arg1)) (m ((c.tc : Thread nD τ).loc main_arg2)) i := by
  obtain rfl : i = ix2 (row t r) (lane (hd_ l) (off l)) := by
    funext a; apply Fin.ext
    match a with
    | ⟨0, _⟩ => exact h0
    | ⟨1, _⟩ => refine h1.trans ?_; show l.val = l.val / 256 * 256 + l.val % 256; omega
  rw [out4_at, at65 _ _ _ hx hg hd]
  simp only [blk0 m c hx, blk1 m c hg, blk2 m c hd]
  exact kdg_coe _ _ _ _

theorem emb4_0 (t : Fin cfg0.N) (y : S256x2048.Idx) : ((win0_4.blk t).view.emb y 0).val = t.val * 256 + (y 0).val := by
  blk_simp [idx4 t]
theorem emb4_1 (t : Fin cfg0.N) (y : S256x2048.Idx) : ((win0_4.blk t).view.emb y 1).val = (y 1).val := by
  blk_simp [idx4 t]

include hx hg hd in
theorem block4 (t : Fin cfg0.N) (y : S256x2048.Idx) (i : S4096x2048.Idx) (h0 : (i 0).val = t.val * 256 + (y 0).val) (h1 : (i 1).val = (y 1).val) :
    out0_4 (iblk m c 0 t) (iblk m c 1 t) (iblk m c 2 t) y =
      r_v65 (m ((c.tc : Thread nD τ).loc main_arg0)) (m ((c.tc : Thread nD τ).loc main_arg1)) (m ((c.tc : Thread nD τ).loc main_arg2)) i := by
  obtain ⟨r, l, rfl⟩ := split y
  exact point4 m c hx hg hd t r l i h0 h1

theorem cov4 : (cfg0.win 4).Covers := by decide +kernel

include hx hg hd in
theorem final4 : (dats m 0 c).arrAt 4 (cfgs 0).N =
    r_v65 (m ((c.tc : Thread nD τ).loc main_arg0)) (m ((c.tc : Thread nD τ).loc main_arg1)) (m ((c.tc : Thread nD τ).loc main_arg2)) :=
  (dats m 0 c).arrAt_eq_of_covers 4 _ cov4 fun t _ y =>
    (congrFun (after0_4 m c t) y).trans (block4 m c hx hg hd t y _ (emb4_0 t y) (emb4_1 t y))
end

end Cert.Kernel2Ideal.Value

end
-- ==== Proof.GateClaim.lean ====
module

public import proofs.«01_k».proof.Defs
public import proofs.«01_k».proof.Proof.Gen.Pre_finite2
public import proofs.«01_k».proof.Proof.GateFinal

@[expose] public section

set_option maxRecDepth 16384

/-! The value claim of the head norm's and gate's gradient. -/

noncomputable section

open Idealize.ShloMosaic Idealize.ShloMosaic.TcCoe Idealize.SL.Sem

namespace Cert.GateClaim

open Cert.Lift

theorem andi_one {a b : IVec Cert.Pre_finite2.S_ 1} (h : andi a b = fun _ => 1#1) : a = (fun _ => 1#1) ∧ b = fun _ => 1#1 := by
  constructor <;> funext i <;> have := congrFun h i <;> simp only [andi] at this
  · exact (IntOp.andi_eq_one.1 this).1
  · exact (IntOp.andi_eq_one.1 this).2

instance : Subsingleton Cert.Pre_finite2.S_.Idx := ⟨fun a b => funext fun i => i.elim0⟩

theorem real_args (x : FVec Ideal Cert.Pre_finite2.S4096x2048 .f32) (g : FVec Ideal Cert.Pre_finite2.S4096x10240 .f32) (d : FVec Ideal Cert.Pre_finite2.S4096x4096 .f32)
    (h : Cert.Pre_finite2.fn (F := Ideal) x g d = fun _ => 1#1) :
    (∀ i, x i = (((x i).toReal : ℝ) : EReal)) ∧ (∀ i, g i = (((g i).toReal : ℝ) : EReal)) ∧ ∀ i, d i = (((d i).toReal : ℝ) : EReal) := by
  unfold Cert.Pre_finite2.fn at h
  obtain ⟨h, h3⟩ := andi_one h
  obtain ⟨h1, h2⟩ := andi_one h
  have z : Cert.Pre_finite2.S_.Idx := fun i => i.elim0
  exact ⟨all_real x _ (fun _ => ofBits_inf_f32) _ _ _ z (congrFun h1 z), all_real g _ (fun _ => ofBits_inf_f32) _ _ _ z (congrFun h2 z),
    all_real d _ (fun _ => ofBits_inf_f32) _ _ _ z (congrFun h3 z)⟩

theorem algebraic : Cert.algebraic_Kernel2Ideal_Reference2Ideal_pre_finite2 := by
  intro m g m' g' hp hm
  refine ⟨fun c => Cert.Reference2Ideal.Value.r_v64 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Value.r_v65 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    (θ_run (Cert.Kernel2Ideal.defs (F := Ideal)) _ _).mono (fun r h c => ?_) (Cert.Kernel2Ideal.Value.run_blocks (F := Ideal) m g),
    (θ_run (Cert.Reference2Ideal.defs (F := Ideal)) _ _).mono (fun r h c => ?_) (Cert.Reference2Ideal.Value.run (F := Ideal) m' g')⟩
  · obtain ⟨h3, h4, ha⟩ := h c
    obtain ⟨rx, rg, rd⟩ := real_args _ _ _ (hp c)
    exact ⟨h3.trans (Cert.Kernel2Ideal.Value.final3 m c rx rg rd), h4.trans (Cert.Kernel2Ideal.Value.final4 m c rx rg rd), ha⟩
  · obtain ⟨h3, h4, ha⟩ := h c
    obtain ⟨e0, e1, e2⟩ := hm c
    refine ⟨h3.trans ((Cert.Reference2Ideal.Value.v64_eq m' c).trans ?_), h4.trans ((Cert.Reference2Ideal.Value.v65_eq m' c).trans ?_), ha⟩
    · rw [e0, e1, e2]
    · rw [e0, e1, e2]

end Cert.GateClaim

end
-- ==== Proof.DactClaim.lean ====
module

public import proofs.«01_k».proof.Defs
public import proofs.«01_k».proof.Proof.Gen.Kernel3Ideal.Value
public import proofs.«01_k».proof.Proof.Gen.Reference3Ideal.Run
public import proofs.«01_k».proof.Proof.Lift
public import Idealize.ShloMosaic.Lib.Pipeline.ValueKit

@[expose] public section

set_option maxRecDepth 16384

/-! The gradient of the down projection's input: each block of the kernel's product is the reference's. -/

noncomputable section

open Idealize.ShloMosaic Idealize.ShloMosaic.TcCoe Idealize.SL.Sem

namespace Cert.Kernel3Ideal.Value

open Cert.Kernel3Ideal Cert.Kernel3Ideal.Gen

theorem out2_at (x : Vec Ideal S1024x4096 .bf16) (w : Vec Ideal S1024x4096 .bf16) (r : Fin 1024) (l : Fin 1024) :
    out0_2 x w (ix2 r l) = ∑ k : Fin 4096, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx0 : ∀ t : Fin cfg0.N, win0_0.index t = ![t.val / 11, 0] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val / 11, t.val % 11] := (by decide +kernel : ∀ t : Fin grid0.N, _)

abbrev row (t : Fin cfg0.N) (r : Fin 1024) : Fin 4096 := ⟨t.val / 11 * 1024 + r.val, by have : t.val < 44 := lt_of_lt_of_eq t.isLt N_0; omega⟩
abbrev col (t : Fin cfg0.N) (l : Fin 1024) : Fin 11264 := ⟨t.val % 11 * 1024 + l.val, by omega⟩

theorem blk0 (t : Fin cfg0.N) (r : Fin 1024) (k : Fin 4096) :
    iblk m c 0 t (ix2 r k) = m ((c.tc : Thread nD τ).loc main_arg0) (ix2 (row t r) k) := by
  blk_point [iblk, V, idx0 t]
theorem blk1 (t : Fin cfg0.N) (r : Fin 1024) (k : Fin 4096) :
    iblk m c 1 t (ix2 r k) = m ((c.tc : Thread nD τ).loc main_arg1) (ix2 (col t r) k) := by
  blk_point [iblk, V, idx1 t]

/-- The reference's result as a function of its two arguments. -/
def ref (a : FVec Ideal S4096x4096 .bf16) (w : FVec Ideal S11264x4096 .bf16) : FVec Ideal S4096x11264 .bf16 :=
  truncf .bf16 (Host.dotGeneral Cert.Reference3Ideal.dot_S4096x4096_S11264x4096_S4096x11264_1_1_0_0_n_n none
    (extf .f32 a Cert.Reference3Ideal.Gen.bitsLt_bf16_f32) (extf .f32 w Cert.Reference3Ideal.Gen.bitsLt_bf16_f32)) Cert.Reference3Ideal.Gen.bitsLt_bf16_f32

theorem ref_at (a : FVec Ideal S4096x4096 .bf16) (w : FVec Ideal S11264x4096 .bf16) (r : Fin 4096) (l : Fin 11264) :
    ref a w (ix2 r l) = ∑ k : Fin 4096, a (ix2 r k) * w (ix2 l k) := by
  unfold ref
  pointwise []

theorem split (y : S1024x1024.Idx) : ∃ (r : Fin 1024) (l : Fin 1024), y = ix2 r l :=
  ⟨y 0, y 1, by funext a; match a with | ⟨0, _⟩ => rfl | ⟨1, _⟩ => rfl⟩

theorem emb2_0 (t : Fin cfg0.N) (y : S1024x1024.Idx) : ((win0_2.blk t).view.emb y 0).val = t.val / 11 * 1024 + (y 0).val := by
  blk_simp [idx2 t]
theorem emb2_1 (t : Fin cfg0.N) (y : S1024x1024.Idx) : ((win0_2.blk t).view.emb y 1).val = t.val % 11 * 1024 + (y 1).val := by
  blk_simp [idx2 t]

theorem block2 (t : Fin cfg0.N) (y : S1024x1024.Idx) (i : S4096x11264.Idx) (h0 : (i 0).val = t.val / 11 * 1024 + (y 0).val)
    (h1 : (i 1).val = t.val % 11 * 1024 + (y 1).val) :
    out0_2 (iblk m c 0 t) (iblk m c 1 t) y = ref (m ((c.tc : Thread nD τ).loc main_arg0)) (m ((c.tc : Thread nD τ).loc main_arg1)) i := by
  obtain ⟨r, l, rfl⟩ := split y
  obtain rfl : i = ix2 (row t r) (col t l) := by
    funext a; apply Fin.ext
    match a with
    | ⟨0, _⟩ => exact h0
    | ⟨1, _⟩ => exact h1
  rw [out2_at, ref_at]
  simp only [blk0 m c, blk1 m c]

theorem cov2 : (cfg0.win 2).Covers := by decide +kernel

theorem final2 : (dats m 0 c).arrAt 2 (cfgs 0).N =
    ref (m ((c.tc : Thread nD τ).loc main_arg0)) (m ((c.tc : Thread nD τ).loc main_arg1)) :=
  (dats m 0 c).arrAt_eq_of_covers 2 _ cov2 fun t _ y =>
    (congrFun (after0_2 m c t) y).trans (block2 m c t y _ (emb2_0 t y) (emb2_1 t y))

end Cert.Kernel3Ideal.Value

namespace Cert.DactClaim

theorem algebraic : Cert.algebraic_Kernel3Ideal_Reference3Ideal := by
  intro m g m' g' hp hm
  refine ⟨fun c => Cert.Kernel3Ideal.Value.ref (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run (Cert.Kernel3Ideal.defs (F := Ideal)) _ _).mono (fun r h c => ?_) (Cert.Kernel3Ideal.Value.run_blocks (F := Ideal) m g),
    (θ_run (Cert.Reference3Ideal.defs (F := Ideal)) _ _).mono (fun r h c => ?_) (Cert.Reference3Ideal.Value.run (F := Ideal) m' g')⟩
  · obtain ⟨h2, ha⟩ := h c
    exact ⟨h2.trans (Cert.Kernel3Ideal.Value.final2 m c), ha⟩
  · obtain ⟨h2, ha⟩ := h c
    obtain ⟨e0, e1⟩ := hm c
    refine ⟨h2.trans ?_, ha⟩
    rw [e0, e1]
    rfl

end Cert.DactClaim

end
-- ==== Proof.SumParts.lean ====
module

public import Mathlib.Data.EReal.Operations
public import Mathlib.Algebra.BigOperators.Fin

@[expose] public section

/-! A sum over 11264 terms taken in four parts of 2816. -/

namespace Cert.SumParts

theorem four (f : Fin 11264 → EReal) :
    ∑ k, f k = ((∑ k : Fin 2816, f ⟨0 * 2816 + k.val, by omega⟩ + ∑ k : Fin 2816, f ⟨1 * 2816 + k.val, by omega⟩)
      + ∑ k : Fin 2816, f ⟨2 * 2816 + k.val, by omega⟩) + ∑ k : Fin 2816, f ⟨3 * 2816 + k.val, by omega⟩ := by
  have e4 := Fin.sum_univ_add (a := 8448) (b := 2816) f
  have e3 := Fin.sum_univ_add (a := 5632) (b := 2816) fun k => f (Fin.castAdd 2816 k)
  have e2 := Fin.sum_univ_add (a := 2816) (b := 2816) fun k => f (Fin.castAdd 2816 (Fin.castAdd 2816 k))
  refine e4.trans (congrArg₂ (· + ·) (e3.trans (congrArg₂ (· + ·) (e2.trans (congrArg₂ (· + ·) ?_ ?_)) ?_)) ?_) <;>
    exact Finset.sum_congr rfl fun k _ => congrArg f (Fin.ext (by simp [Fin.castAdd, Fin.natAdd]))

end Cert.SumParts

end
-- ==== Proof.Acc4.lean ====
module

public import proofs.«01_k».proof.Defs
public import proofs.«01_k».proof.Proof.Gen.Kernel4Ideal.Value
public import proofs.«01_k».proof.Proof.Gen.Reference4Ideal.Run
public import proofs.«01_k».proof.Proof.Lift
public import proofs.«01_k».proof.Proof.SumParts
public import Idealize.ShloMosaic.Lib.Pipeline.ValueKit

@[expose] public section

set_option maxRecDepth 16384

/-! The gate projection's share of the feed-forward input's gradient: four accumulated partial products are the
    reference's product. -/

noncomputable section

open Idealize.ShloMosaic Idealize.ShloMosaic.TcCoe Idealize.SL.Sem

namespace Cert.Kernel4Ideal.Value

open Cert.Kernel4Ideal Cert.Kernel4Ideal.Gen

/-- One grid point's partial product. -/
def part (x : Vec Ideal S1024x2816 .bf16) (w : Vec Ideal S2816x1024 .bf16) (r l : Fin 1024) : EReal :=
  ∑ k : Fin 2816, x (ix2 r k) * w (ix2 k l)

variable (m : (ℓ : Loc nD τ sig) → Buf (Elt Ideal) ℓ) (c : Dev nD)

theorem stepA (t : Fin cfg0.N) (h : t.val % 4 = 0) (r l : Fin 1024) :
    (outsAt0 m c t.val t.isLt).2 (ix2 r l) = part (iblk m c 0 t) (iblk m c 1 t) r l := by
  rw [outsAt0_A m c t h (by omega) (by omega)]
  frame_out
  open_payloads
  pointwise []
  rfl

theorem stepB (t : Fin cfg0.N) (h : 1 ≤ t.val % 4 ∧ t.val % 4 ≤ 2) (r l : Fin 1024) :
    (outsAt0 m c t.val t.isLt).2 (ix2 r l) =
      ((outsAt0 m c (t.val - 1) (lt_of_le_of_lt (Nat.sub_le _ _) t.isLt)).2 (ix2 r l) : EReal) + part (iblk m c 0 t) (iblk m c 1 t) r l := by
  rw [outsAt0_B m c t (by omega) h (by omega)]
  frame_out
  open_payloads
  pointwise []
  exact congrArg₂ (fun x y : EReal => x + y) (congrFun (Memref.IsWhole.read_unread _ _) _) rfl

theorem stepC (t : Fin cfg0.N) (h : t.val % 4 = 3) (r l : Fin 1024) :
    (outsAt0 m c t.val t.isLt).1 (ix2 r l) =
      ((outsAt0 m c (t.val - 1) (lt_of_le_of_lt (Nat.sub_le _ _) t.isLt)).2 (ix2 r l) : EReal) + part (iblk m c 0 t) (iblk m c 1 t) r l := by
  rw [outsAt0_C m c t (by omega) (by omega) h]
  frame_out
  open_payloads
  pointwise []
  exact congrArg₂ (fun x y : EReal => x + y) (congrFun (Memref.IsWhole.read_unread _ _) _) rfl

theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4] := (by decide +kernel : ∀ t : Fin grid0.N, _)
theorem idx2 : ∀ t : Fin cfg0.N, win0_2.index t = ![t.val / 16, t.val / 4 % 4] := (by decide +kernel : ∀ t : Fin grid0.N, _)

theorem lt64 (t : Fin cfg0.N) : t.val < 64 := lt_of_lt_of_eq t.isLt N_0
abbrev row (t : Fin cfg0.N) (r : Fin 1024) : Fin 4096 := ⟨t.val / 16 * 1024 + r.val, by have := lt64 t; omega⟩
abbrev col (t : Fin cfg0.N) (l : Fin 1024) : Fin 4096 := ⟨t.val / 4 % 4 * 1024 + l.val, by omega⟩
abbrev mid (n : ℕ) (hn : n < 4) (k : Fin 2816) : Fin 11264 := ⟨n * 2816 + k.val, by omega⟩

theorem blk0 (t : Fin cfg0.N) (n : ℕ) (hn : n < 4) (ht : t.val % 4 = n) (r : Fin 1024) (k : Fin 2816) :
    iblk m c 0 t (ix2 r k) = m ((c.tc : Thread nD τ).loc main_arg0) (ix2 (row t r) (mid n hn k)) := by
  subst ht
  blk_point [iblk, V, idx0 t]
theorem blk1 (t : Fin cfg0.N) (n : ℕ) (hn : n < 4) (ht : t.val % 4 = n) (k : Fin 2816) (l : Fin 1024) :
    iblk m c 1 t (ix2 k l) = m ((c.tc : Thread nD τ).loc main_arg1) (ix2 (mid n hn k) (col t l)) := by
  subst ht
  blk_point [iblk, V, idx1 t]

/-- The whole product's sum. -/
def full (a : FVec Ideal S4096x11264 .bf16) (w : FVec Ideal S11264x4096 .bf16) (R L : Fin 4096) : EReal :=
  ∑ k : Fin 11264, a (ix2 R k) * w (ix2 k L)

/-- A part of the whole product's sum. -/
def slab (a : FVec Ideal S4096x11264 .bf16) (w : FVec Ideal S11264x4096 .bf16) (R L : Fin 4096) (n : ℕ) (hn : n < 4) : EReal :=
  ∑ k : Fin 2816, a (ix2 R (mid n hn k)) * w (ix2 (mid n hn k) L)

theorem part_eq (t : Fin cfg0.N) (n : ℕ) (hn : n < 4) (ht : t.val % 4 = n) (r l : Fin 1024) (R L : Fin 4096) (hR : R = row t r) (hL : L = col t l) :
    part (iblk m c 0 t) (iblk m c 1 t) r l = slab (m ((c.tc : Thread nD τ).loc main_arg0)) (m ((c.tc : Thread nD τ).loc main_arg1)) R L n hn := by
  subst hR hL
  unfold part slab
  simp only [blk0 m c t n hn ht, blk1 m c t n hn ht]

theorem acc (t : Fin cfg0.N) (h : t.val % 4 = 3) (r l : Fin 1024) :
    (outsAt0 m c t.val t.isLt).1 (ix2 r l) =
      full (m ((c.tc : Thread nD τ).loc main_arg0)) (m ((c.tc : Thread nD τ).loc main_arg1)) (row t r) (col t l) := by
  have h64 := lt64 t
  have l2 : t.val - 1 < cfg0.N := lt_of_le_of_lt (Nat.sub_le _ _) t.isLt
  have l1 : t.val - 1 - 1 < cfg0.N := lt_of_le_of_lt (Nat.sub_le _ _) l2
  have l0 : t.val - 1 - 1 - 1 < cfg0.N := lt_of_le_of_lt (Nat.sub_le _ _) l1
  have e3 := stepC m c t h r l
  have e2 := stepB m c ⟨t.val - 1, l2⟩ (by show 1 ≤ (t.val - 1) % 4 ∧ (t.val - 1) % 4 ≤ 2; omega) r l
  have e1 := stepB m c ⟨t.val - 1 - 1, l1⟩ (by show 1 ≤ (t.val - 1 - 1) % 4 ∧ (t.val - 1 - 1) % 4 ≤ 2; omega) r l
  have e0 := stepA m c ⟨t.val - 1 - 1 - 1, l0⟩ (by show (t.val - 1 - 1 - 1) % 4 = 0; omega) r l
  rw [part_eq m c t 3 (by decide) h r l (row t r) (col t l) rfl rfl] at e3
  rw [part_eq m c ⟨t.val - 1, l2⟩ 2 (by decide) (by show (t.val - 1) % 4 = 2; omega) r l (row t r) (col t l)
    (Fin.ext (by show t.val / 16 * 1024 + r.val = (t.val - 1) / 16 * 1024 + r.val; omega))
    (Fin.ext (by show t.val / 4 % 4 * 1024 + l.val = (t.val - 1) / 4 % 4 * 1024 + l.val; omega))] at e2
  rw [part_eq m c ⟨t.val - 1 - 1, l1⟩ 1 (by decide) (by show (t.val - 1 - 1) % 4 = 1; omega) r l (row t r) (col t l)
    (Fin.ext (by show t.val / 16 * 1024 + r.val = (t.val - 1 - 1) / 16 * 1024 + r.val; omega))
    (Fin.ext (by show t.val / 4 % 4 * 1024 + l.val = (t.val - 1 - 1) / 4 % 4 * 1024 + l.val; omega))] at e1
  rw [part_eq m c ⟨t.val - 1 - 1 - 1, l0⟩ 0 (by decide) (by show (t.val - 1 - 1 - 1) % 4 = 0; omega) r l (row t r) (col t l)
    (Fin.ext (by show t.val / 16 * 1024 + r.val = (t.val - 1 - 1 - 1) / 16 * 1024 + r.val; omega))
    (Fin.ext (by show t.val / 4 % 4 * 1024 + l.val = (t.val - 1 - 1 - 1) / 4 % 4 * 1024 + l.val; omega))] at e0
  rw [e3, e2, e1, e0]
  unfold full
  rw [Cert.SumParts.four]
  rfl

end Cert.Kernel4Ideal.Value

namespace Cert.Reference4Ideal.Value

open Cert.Reference4Ideal Cert.Reference4Ideal.Gen

/-- The reference's result as a function of its two arguments. -/
def ref (a : FVec Ideal S4096x11264 .bf16) (w : FVec Ideal S11264x4096 .bf16) : FVec Ideal S4096x4096 .f32 :=
  Host.dotGeneral dot_S4096x11264_S4096x11264_S4096x4096_1_1_0_0_n_n none (extf .f32 a bitsLt_bf16_f32)
    (transpose S4096x11264 [1, 0] (extf .f32 w bitsLt_bf16_f32) transposes_S11264x4096_S4096x11264_1_0)

theorem ref_at (a : FVec Ideal S4096x11264 .bf16) (w : FVec Ideal S11264x4096 .bf16) (r l : Fin 4096) :
    ref a w (ix2 r l) = ∑ k : Fin 11264, a (ix2 r k) * w (ix2 k l) := by
  unfold ref
  pointwise []

end Cert.Reference4Ideal.Value

namespace Cert.Kernel4Ideal.Value

open Cert.Kernel4Ideal Cert.Kernel4Ideal.Gen

variable (m : (ℓ : Loc nD τ sig) → Buf (Elt Ideal) ℓ) (c : Dev nD)

theorem emb2_0 (t : Fin cfg0.N) (y : S1024x1024.Idx) : ((win0_2.blk t).view.emb y 0).val = t.val / 16 * 1024 + (y 0).val := by
  blk_simp [idx2 t]
theorem emb2_1 (t : Fin cfg0.N) (y : S1024x1024.Idx) : ((win0_2.blk t).view.emb y 1).val = t.val / 4 % 4 * 1024 + (y 1).val := by
  blk_simp [idx2 t]

theorem block2 (t : Fin cfg0.N) (h : t.val % 4 = 3) (y : S1024x1024.Idx) (i : S4096x4096.Idx) (h0 : (i 0).val = t.val / 16 * 1024 + (y 0).val)
    (h1 : (i 1).val = t.val / 4 % 4 * 1024 + (y 1).val) :
    (outsAt0 m c t.val t.isLt).1 y = Cert.Reference4Ideal.Value.ref (m ((c.tc : Thread nD τ).loc main_arg0)) (m ((c.tc : Thread nD τ).loc main_arg1)) i := by
  obtain ⟨r, l, rfl⟩ : ∃ (r l : Fin 1024), y = ix2 r l :=
    ⟨y 0, y 1, by funext a; match a with | ⟨0, _⟩ => rfl | ⟨1, _⟩ => rfl⟩
  obtain rfl : i = ix2 (row t r) (col t l) := by
    funext a; apply Fin.ext
    match a with
    | ⟨0, _⟩ => exact h0
    | ⟨1, _⟩ => exact h1
  exact (acc m c t h r l).trans (Cert.Reference4Ideal.Value.ref_at _ _ _ _).symm

theorem cov2 : (cfg0.win 2).Covers := by decide +kernel

theorem arr2 : (dats m 0 c).arrAt 2 (cfgs 0).N =
    Cert.Reference4Ideal.Value.ref (m ((c.tc : Thread nD τ).loc main_arg0)) (m ((c.tc : Thread nD τ).loc main_arg1)) :=
  (dats m 0 c).arrAt_eq_of_covers 2 _ cov2 fun t hf y =>
    (congrFun (after0_2 m c t) y).trans (block2 m c t ((flush0_2 t).1 hf) y _ (emb2_0 t y) (emb2_1 t y))

end Cert.Kernel4Ideal.Value

namespace Cert.Acc4

theorem algebraic : Cert.algebraic_Kernel4Ideal_Reference4Ideal := by
  intro m g m' g' hp hm
  refine ⟨fun c => Cert.Reference4Ideal.Value.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run (Cert.Kernel4Ideal.defs (F := Ideal)) _ _).mono (fun r h c => ⟨(h c).1.trans (Cert.Kernel4Ideal.Value.arr2 m c), (h c).2⟩) (Cert.Kernel4Ideal.Value.run_blocks (F := Ideal) m g),
    (θ_run (Cert.Reference4Ideal.defs (F := Ideal)) _ _).mono (fun r h c => ?_) (Cert.Reference4Ideal.Value.run (F := Ideal) m' g')⟩
  obtain ⟨h2, ha⟩ := h c
  obtain ⟨e0, e1⟩ := hm c
  refine ⟨h2.trans ?_, ha⟩
  rw [e0, e1]
  rfl

end Cert.Acc4

end
-- ==== Proof.Acc5.lean ====
module

public import proofs.«01_k».proof.Defs
public import proofs.«01_k».proof.Proof.Gen.Kernel5Ideal.Value
public import proofs.«01_k».proof.Proof.Gen.Reference5Ideal.Run
public import proofs.«01_k».proof.Proof.Lift
public import proofs.«01_k».proof.Proof.SumParts
public import Idealize.ShloMosaic.Lib.Pipeline.ValueKit

@[expose] public section

set_option maxRecDepth 16384

/-! The up projection's share of the feed-forward input's gradient added to the gate projection's. -/

noncomputable section

open Idealize.ShloMosaic Idealize.ShloMosaic.TcCoe Idealize.SL.Sem

namespace Cert.Kernel5Ideal.Value

open Cert.Kernel5Ideal Cert.Kernel5Ideal.Gen

/-- One grid point's partial product. -/
def part (x : Vec Ideal S1024x2816 .bf16) (w : Vec Ideal S2816x1024 .bf16) (r l : Fin 1024) : EReal :=
  ∑ k : Fin 2816, x (ix2 r k) * w (ix2 k l)

variable (m : (ℓ : Loc nD τ sig) → Buf (Elt Ideal) ℓ) (c : Dev nD)

theorem stepA (t : Fin cfg0.N) (h : t.val % 4 = 0) (r l : Fin 1024) :
    (outsAt0 m c t.val t.isLt).2 (ix2 r l) = part (iblk m c 0 t) (iblk m c 1 t) r l := by
  rw [outsAt0_A m c t h (by omega) (by omega)]
  frame_out
  open_payloads
  pointwise []
  rfl

theorem stepB (t : Fin cfg0.N) (h : 1 ≤ t.val % 4 ∧ t.val % 4 ≤ 2) (r l : Fin 1024) :
    (outsAt0 m c t.val t.isLt).2 (ix2 r l) =
      ((outsAt0 m c (t.val - 1) (lt_of_le_of_lt (Nat.sub_le _ _) t.isLt)).2 (ix2 r l) : EReal) + part (iblk m c 0 t) (iblk m c 1 t) r l := by
  rw [outsAt0_B m c t (by omega) h (by omega)]
  frame_out
  open_payloads
  pointwise []
  exact congrArg₂ (fun x y : EReal => x + y) (congrFun (Memref.IsWhole.read_unread _ _) _) rfl

theorem stepC (t : Fin cfg0.N) (h : t.val % 4 = 3) (r l : Fin 1024) :
    (outsAt0 m c t.val t.isLt).1 (ix2 r l) =
      (((outsAt0 m c (t.val - 1) (lt_of_le_of_lt (Nat.sub_le _ _) t.isLt)).2 (ix2 r l) : EReal) + part (iblk m c 0 t) (iblk m c 1 t) r l) + (iblk m c 2 t (ix2 r l) : EReal) := by
  rw [outsAt0_C m c t (by omega) (by omega) h]
  frame_out
  open_payloads
  pointwise []
  refine congrArg₂ (fun x y : EReal => x + y) (congrArg₂ (fun x y : EReal => x + y) (congrFun (Memref.IsWhole.read_unread _ _) _) rfl) rfl

theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4] := (by decide +kernel : ∀ t : Fin grid0.N, _)
theorem idx3 : ∀ t : Fin cfg0.N, win0_3.index t = ![t.val / 16, t.val / 4 % 4] := (by decide +kernel : ∀ t : Fin grid0.N, _)

theorem lt64 (t : Fin cfg0.N) : t.val < 64 := lt_of_lt_of_eq t.isLt N_0
abbrev row (t : Fin cfg0.N) (r : Fin 1024) : Fin 4096 := ⟨t.val / 16 * 1024 + r.val, by have := lt64 t; omega⟩
abbrev col (t : Fin cfg0.N) (l : Fin 1024) : Fin 4096 := ⟨t.val / 4 % 4 * 1024 + l.val, by omega⟩
abbrev mid (n : ℕ) (hn : n < 4) (k : Fin 2816) : Fin 11264 := ⟨n * 2816 + k.val, by omega⟩

theorem blk0 (t : Fin cfg0.N) (n : ℕ) (hn : n < 4) (ht : t.val % 4 = n) (r : Fin 1024) (k : Fin 2816) :
    iblk m c 0 t (ix2 r k) = m ((c.tc : Thread nD τ).loc main_arg0) (ix2 (row t r) (mid n hn k)) := by
  subst ht
  blk_point [iblk, V, idx0 t]
theorem blk1 (t : Fin cfg0.N) (n : ℕ) (hn : n < 4) (ht : t.val % 4 = n) (k : Fin 2816) (l : Fin 1024) :
    iblk m c 1 t (ix2 k l) = m ((c.tc : Thread nD τ).loc main_arg1) (ix2 (mid n hn k) (col t l)) := by
  subst ht
  blk_point [iblk, V, idx1 t]

/-- The whole product's sum. -/
def full (a : FVec Ideal S4096x11264 .bf16) (w : FVec Ideal S11264x4096 .bf16) (R L : Fin 4096) : EReal :=
  ∑ k : Fin 11264, a (ix2 R k) * w (ix2 k L)

theorem blk2 (t : Fin cfg0.N) (r : Fin 1024) (l : Fin 1024) :
    iblk m c 2 t (ix2 r l) = m ((c.tc : Thread nD τ).loc main_arg2) (ix2 (row t r) (col t l)) := by
  blk_point [iblk, V, show win0_2.index t = ![t.val / 16, t.val / 4 % 4] from idx3 t]

/-- A part of the whole product's sum. -/
def slab (a : FVec Ideal S4096x11264 .bf16) (w : FVec Ideal S11264x4096 .bf16) (R L : Fin 4096) (n : ℕ) (hn : n < 4) : EReal :=
  ∑ k : Fin 2816, a (ix2 R (mid n hn k)) * w (ix2 (mid n hn k) L)

theorem part_eq (t : Fin cfg0.N) (n : ℕ) (hn : n < 4) (ht : t.val % 4 = n) (r l : Fin 1024) (R L : Fin 4096) (hR : R = row t r) (hL : L = col t l) :
    part (iblk m c 0 t) (iblk m c 1 t) r l = slab (m ((c.tc : Thread nD τ).loc main_arg0)) (m ((c.tc : Thread nD τ).loc main_arg1)) R L n hn := by
  subst hR hL
  unfold part slab
  simp only [blk0 m c t n hn ht, blk1 m c t n hn ht]

theorem acc (t : Fin cfg0.N) (h : t.val % 4 = 3) (r l : Fin 1024) :
    (outsAt0 m c t.val t.isLt).1 (ix2 r l) =
      (full (m ((c.tc : Thread nD τ).loc main_arg0)) (m ((c.tc : Thread nD τ).loc main_arg1)) (row t r) (col t l) : EReal) + (m ((c.tc : Thread nD τ).loc main_arg2) (ix2 (row t r) (col t l)) : EReal) := by
  have h64 := lt64 t
  have l2 : t.val - 1 < cfg0.N := lt_of_le_of_lt (Nat.sub_le _ _) t.isLt
  have l1 : t.val - 1 - 1 < cfg0.N := lt_of_le_of_lt (Nat.sub_le _ _) l2
  have l0 : t.val - 1 - 1 - 1 < cfg0.N := lt_of_le_of_lt (Nat.sub_le _ _) l1
  have e3 := stepC m c t h r l
  have e2 := stepB m c ⟨t.val - 1, l2⟩ (by show 1 ≤ (t.val - 1) % 4 ∧ (t.val - 1) % 4 ≤ 2; omega) r l
  have e1 := stepB m c ⟨t.val - 1 - 1, l1⟩ (by show 1 ≤ (t.val - 1 - 1) % 4 ∧ (t.val - 1 - 1) % 4 ≤ 2; omega) r l
  have e0 := stepA m c ⟨t.val - 1 - 1 - 1, l0⟩ (by show (t.val - 1 - 1 - 1) % 4 = 0; omega) r l
  rw [part_eq m c t 3 (by decide) h r l (row t r) (col t l) rfl rfl] at e3
  rw [part_eq m c ⟨t.val - 1, l2⟩ 2 (by decide) (by show (t.val - 1) % 4 = 2; omega) r l (row t r) (col t l)
    (Fin.ext (by show t.val / 16 * 1024 + r.val = (t.val - 1) / 16 * 1024 + r.val; omega))
    (Fin.ext (by show t.val / 4 % 4 * 1024 + l.val = (t.val - 1) / 4 % 4 * 1024 + l.val; omega))] at e2
  rw [part_eq m c ⟨t.val - 1 - 1, l1⟩ 1 (by decide) (by show (t.val - 1 - 1) % 4 = 1; omega) r l (row t r) (col t l)
    (Fin.ext (by show t.val / 16 * 1024 + r.val = (t.val - 1 - 1) / 16 * 1024 + r.val; omega))
    (Fin.ext (by show t.val / 4 % 4 * 1024 + l.val = (t.val - 1 - 1) / 4 % 4 * 1024 + l.val; omega))] at e1
  rw [part_eq m c ⟨t.val - 1 - 1 - 1, l0⟩ 0 (by decide) (by show (t.val - 1 - 1 - 1) % 4 = 0; omega) r l (row t r) (col t l)
    (Fin.ext (by show t.val / 16 * 1024 + r.val = (t.val - 1 - 1 - 1) / 16 * 1024 + r.val; omega))
    (Fin.ext (by show t.val / 4 % 4 * 1024 + l.val = (t.val - 1 - 1 - 1) / 4 % 4 * 1024 + l.val; omega))] at e0
  rw [e3, e2, e1, e0, blk2 m c t r l]
  unfold full
  rw [Cert.SumParts.four]
  rfl

end Cert.Kernel5Ideal.Value

namespace Cert.Reference5Ideal.Value

open Cert.Reference5Ideal Cert.Reference5Ideal.Gen

/-- The reference's result as a function of its two arguments. -/
def ref (a : FVec Ideal S4096x11264 .bf16) (w : FVec Ideal S11264x4096 .bf16) (o : FVec Ideal S4096x4096 .f32) : FVec Ideal S4096x4096 .bf16 :=
  truncf .bf16 (addf o (Host.dotGeneral dot_S4096x11264_S4096x11264_S4096x4096_1_1_0_0_n_n none (extf .f32 a bitsLt_bf16_f32)
    (transpose S4096x11264 [1, 0] (extf .f32 w bitsLt_bf16_f32) transposes_S11264x4096_S4096x11264_1_0))) bitsLt_bf16_f32

theorem ref_at (a : FVec Ideal S4096x11264 .bf16) (w : FVec Ideal S11264x4096 .bf16) (o : FVec Ideal S4096x4096 .f32) (r l : Fin 4096) :
    ref a w o (ix2 r l) = (∑ k : Fin 11264, (a (ix2 r k) * w (ix2 k l) : EReal)) + (o (ix2 r l) : EReal) := by
  unfold ref
  pointwise []
  exact add_comm _ _

end Cert.Reference5Ideal.Value

namespace Cert.Kernel5Ideal.Value

open Cert.Kernel5Ideal Cert.Kernel5Ideal.Gen

variable (m : (ℓ : Loc nD τ sig) → Buf (Elt Ideal) ℓ) (c : Dev nD)

theorem emb3_0 (t : Fin cfg0.N) (y : S1024x1024.Idx) : ((win0_3.blk t).view.emb y 0).val = t.val / 16 * 1024 + (y 0).val := by
  blk_simp [idx3 t]
theorem emb3_1 (t : Fin cfg0.N) (y : S1024x1024.Idx) : ((win0_3.blk t).view.emb y 1).val = t.val / 4 % 4 * 1024 + (y 1).val := by
  blk_simp [idx3 t]

theorem block3 (t : Fin cfg0.N) (h : t.val % 4 = 3) (y : S1024x1024.Idx) (i : S4096x4096.Idx) (h0 : (i 0).val = t.val / 16 * 1024 + (y 0).val)
    (h1 : (i 1).val = t.val / 4 % 4 * 1024 + (y 1).val) :
    (outsAt0 m c t.val t.isLt).1 y = Cert.Reference5Ideal.Value.ref (m ((c.tc : Thread nD τ).loc main_arg0)) (m ((c.tc : Thread nD τ).loc main_arg1)) (m ((c.tc : Thread nD τ).loc main_arg2)) i := by
  obtain ⟨r, l, rfl⟩ : ∃ (r l : Fin 1024), y = ix2 r l :=
    ⟨y 0, y 1, by funext a; match a with | ⟨0, _⟩ => rfl | ⟨1, _⟩ => rfl⟩
  obtain rfl : i = ix2 (row t r) (col t l) := by
    funext a; apply Fin.ext
    match a with
    | ⟨0, _⟩ => exact h0
    | ⟨1, _⟩ => exact h1
  exact (acc m c t h r l).trans (Cert.Reference5Ideal.Value.ref_at _ _ _ _ _).symm

theorem cov3 : (cfg0.win 3).Covers := by decide +kernel

theorem arr3 : (dats m 0 c).arrAt 3 (cfgs 0).N =
    Cert.Reference5Ideal.Value.ref (m ((c.tc : Thread nD τ).loc main_arg0)) (m ((c.tc : Thread nD τ).loc main_arg1)) (m ((c.tc : Thread nD τ).loc main_arg2)) :=
  (dats m 0 c).arrAt_eq_of_covers 3 _ cov3 fun t hf y =>
    (congrFun (after0_3 m c t) y).trans (block3 m c t ((flush0_3 t).1 hf) y _ (emb3_0 t y) (emb3_1 t y))

end Cert.Kernel5Ideal.Value

namespace Cert.Acc5

theorem algebraic : Cert.algebraic_Kernel5Ideal_Reference5Ideal := by
  intro m g m' g' hp hm
  refine ⟨fun c => Cert.Reference5Ideal.Value.ref (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run (Cert.Kernel5Ideal.defs (F := Ideal)) _ _).mono (fun r h c => ⟨(h c).1.trans (Cert.Kernel5Ideal.Value.arr3 m c), (h c).2⟩) (Cert.Kernel5Ideal.Value.run_blocks (F := Ideal) m g),
    (θ_run (Cert.Reference5Ideal.defs (F := Ideal)) _ _).mono (fun r h c => ?_) (Cert.Reference5Ideal.Value.run (F := Ideal) m' g')⟩
  obtain ⟨h2, ha⟩ := h c
  obtain ⟨e0, e1, e2⟩ := hm c
  refine ⟨h2.trans ?_, ha⟩
  rw [e0, e1, e2]
  rfl

end Cert.Acc5

end
-- ==== Proof.Half6.lean ====
module

public import proofs.«01_k».proof.Defs
public import proofs.«01_k».proof.Proof.Gen.Kernel6Ideal.Frame
public import proofs.«01_k».proof.Proof.Gen.Pre_core6

@[expose] public section

set_option maxRecDepth 16384

/-! For kernel and ideal kernel at once: the class that the precondition admits keeps every block of the first operand inside it. -/

noncomputable section

open Idealize.ShloMosaic Idealize.ShloMosaic.TcCoe Idealize.SL.Sem

namespace Cert.Kernel6Ideal.Half

open Cert.Kernel6Ideal Cert.Kernel6Ideal.Gen

variable {F : FTy → Type} [FloatOps F] (m : (ℓ : Loc nD τ sig) → Buf (Elt F) ℓ)

/-- The precondition, over any float values. -/
def Pre : Prop :=
  ∀ c : Dev nD, Cert.Pre_core6.fn (F := F) (m ((c.tc : Thread nD τ).loc main_arg0)) (m ((c.tc : Thread nD τ).loc main_arg1)) (m ((c.tc : Thread nD τ).loc main_arg2)) = fun _ => 1#1

/-- The class the call is launched with. -/
abbrev cls : BitVec 32 := m (((0 : Dev nD).tc : Thread nD τ).loc main_arg2) (fun a => a.elim0)

theorem cls_of_pre (h : Pre m) : cls m = 0#32 ∨ cls m = 1#32 := by
  have e := congrFun (h 0) (fun a => a.elim0)
  unfold Cert.Pre_core6.fn at e
  simp only [ori, cmpi, constantI] at e
  change IntOp.ori (IntOp.cmpi .eq (cls m) 0#32) (IntOp.cmpi .eq (cls m) 1#32) = 1#1 at e
  by_cases h0 : cls m = 0#32
  · exact .inl h0
  by_cases h1 : cls m = 1#32
  · exact .inr h1
  simp only [IntOp.ori, IntOp.cmpi, beq_eq_false_iff_ne.2 h0, beq_eq_false_iff_ne.2 h1] at e
  exact absurd e (by decide)

theorem tbl_at (i : S1.Idx) : tbl m 0 i = cls m :=
  (congrFun (show tbl m 0 = shapeCast S1 (m (((0 : Dev nD).tc : Thread nD τ).loc main_arg2)) shapeCasts_S_S1 from by
    show StableHlo.after hostOps0 (fun b => m ((0 : Dev nD), b)) main_v0 = _
    after_results
    rfl) i).trans
    (congrArg (m (((0 : Dev nD).tc : Thread nD τ).loc main_arg2)) (funext fun a => a.elim0))

theorem ix_eq (h : cls m = 0#32 ∨ cls m = 1#32) (i : grid0.Coords) :
    cc0_transform_0 inb_S1_S1_0 numel1_S1 (tbl m) i = ![0, 2 * (i 0).val + (cls m).toNat] := by
  have hi : (i 0).val < 4 := (i 0).isLt
  unfold cc0_transform_0
  dsimp only
  rw [show (tbl m).at 0 (Rect.unit (s := S1) ![0] S1.size inb_S1_S1_0) numel1_S1 = cls m from tbl_at m _]
  rcases h with h | h <;> rw [h] <;> (funext a; match a with
    | ⟨0, _⟩ => rfl
    | ⟨1, _⟩ =>
      show (Scalar.addi (Scalar.muli 2#32 (BitVec.ofNat 32 (i 0).val)) _).toNat = 2 * (i 0).val + _
      simp [Scalar.addi, Scalar.muli, IntOp.addi, IntOp.muli, BitVec.toNat_add, BitVec.toNat_mul, BitVec.toNat_ofNat]
      try omega)

theorem ok_of (h : cls m = 0#32 ∨ cls m = 1#32) : Ok m := by
  intro i
  have hi : (i 0).val < 4 := (i 0).isLt
  have hc : (cls m).toNat ≤ 1 := by rcases h with h | h <;> rw [h] <;> decide
  have e := ix_eq m h i
  have hb : ∀ a, (cc0_transform_0 inb_S1_S1_0 numel1_S1 (tbl m) i a + 1) * S4096x1408.size a ≤ S4096x11264.size a := by
    rw [e]
    intro a
    match a with
    | ⟨0, _⟩ => show (0 + 1) * 4096 ≤ 4096; omega
    | ⟨1, _⟩ => show (2 * (i 0).val + (cls m).toNat + 1) * 1408 ≤ 11264; omega
  exact ⟨hb, .inr (.inr ⟨by decide, rfl, by
    show cc0_transform_0 inb_S1_S1_0 numel1_S1 (tbl m) i 0 * 4096 = 0
    rw [e]; rfl, rfl⟩)⟩

theorem ok_of_pre (h : Pre m) : Ok m := ok_of m (cls_of_pre m h)

end Cert.Kernel6Ideal.Half

end
-- ==== Proof.Grad6Ref.lean ====
module

public import proofs.«01_k».proof.Proof.Gen.Reference6Ideal.Run
public import proofs.«01_k».proof.Proof.Lift

@[expose] public section

set_option maxRecDepth 16384

/-! The half of the differentiated product that belongs to one class, element by element. -/

noncomputable section

open Idealize.ShloMosaic Idealize.ShloMosaic.TcCoe Idealize.SL.Sem

namespace Cert.Reference6Ideal.Value

open Cert.Reference6Ideal Cert.Reference6Ideal.Gen

/-- The reference's result as a function of its arguments. -/
def ref (a : FVec Ideal S4096x11264 .bf16) (b : FVec Ideal S4096x4096 .bf16) (s : IVec S_ 32) : FVec Ideal S4x1408x4096 .bf16 :=
  truncf .bf16 (select (broadcastInDim S4x1408x4096 ![] bcast_S_S4x1408x4096 (cmpi .eq s (constantI S_ 32 0#32)))
    (shapeCast _ (extractStridedSlice S4x1x1408x4096 ![0, 0, 0, 0] (shapeCast _ (transpose S11264x4096 [1, 0] (Host.dotGeneral dot_S4096x4096_S4096x11264_S4096x11264_0_0_1_1_n_n none (extf .f32 b bitsLt_bf16_f32) (extf .f32 a bitsLt_bf16_f32)) transposes_S4096x11264_S11264x4096_1_0) shapeCasts_S11264x4096_S4x2x1408x4096) slices_S4x2x1408x4096_S4x1x1408x4096_0_0_0_0) shapeCasts_S4x1x1408x4096_S4x1408x4096)
    (shapeCast _ (extractStridedSlice S4x1x1408x4096 ![0, 1, 0, 0] (shapeCast _ (transpose S11264x4096 [1, 0] (Host.dotGeneral dot_S4096x4096_S4096x11264_S4096x11264_0_0_1_1_n_n none (extf .f32 b bitsLt_bf16_f32) (extf .f32 a bitsLt_bf16_f32)) transposes_S4096x11264_S11264x4096_1_0) shapeCasts_S11264x4096_S4x2x1408x4096) slices_S4x2x1408x4096_S4x1x1408x4096_0_1_0_0) shapeCasts_S4x1x1408x4096_S4x1408x4096)) bitsLt_bf16_f32

theorem ref_at (a : FVec Ideal S4096x11264 .bf16) (b : FVec Ideal S4096x4096 .bf16) (s : IVec S_ 32) (q : Fin 4) (r : Fin 1408) (l : Fin 4096)
    (w : BitVec 32) (hs : s (fun a => a.elim0) = w) (hw : w = 0#32 ∨ w = 1#32) (R : Fin 11264) (hR : R.val = (2 * q.val + w.toNat) * 1408 + r.val) :
    ref a b s (ix3 q r l) = ∑ k : Fin 4096, a (ix2 k R) * b (ix2 k l) := by
  unfold ref
  pointwise []
  rw [show s ix0 = w from (congrArg s (funext fun a => a.elim0)).trans hs]
  rcases hw with rfl | rfl
  · rw [show R = ⟨q.val * 2816 + r.val, by omega⟩ from Fin.ext (by rw [hR]; show (2 * q.val + 0) * 1408 + r.val = q.val * 2816 + r.val; omega)]
    rw [show IntOp.cmpi CmpIPredicate.eq 0#32 0#32 = 1#1 from by decide]
    unfold Scalar.select
    rw [if_pos (by decide : (1#1 : BitVec 1) = 1)]
    exact Finset.sum_congr rfl fun k _ => mul_comm (b (ix2 k l) : EReal) _
  · rw [show R = ⟨q.val * 2816 + 1408 + r.val, by omega⟩ from Fin.ext (by rw [hR]; show (2 * q.val + 1) * 1408 + r.val = q.val * 2816 + 1408 + r.val; omega)]
    rw [show IntOp.cmpi CmpIPredicate.eq 1#32 0#32 = 0#1 from by decide]
    unfold Scalar.select
    rw [if_neg (by decide : ¬(0#1 : BitVec 1) = 1)]
    exact Finset.sum_congr rfl fun k _ => mul_comm (b (ix2 k l) : EReal) _

end Cert.Reference6Ideal.Value

end
-- ==== Proof.Grad6.lean ====
module

public import proofs.«01_k».proof.Proof.Half6
public import proofs.«01_k».proof.Proof.Grad6Ref
public import Idealize.ShloMosaic.Lib.Pipeline.ValueKit
public import Idealize.ShloMosaic.Lib.Pipeline.Covers

@[expose] public section

set_option maxRecDepth 16384

/-! The sibling's half of a weight gradient: each block of the kernel's product is the reference's. -/

noncomputable section

open Idealize.ShloMosaic Idealize.ShloMosaic.TcCoe Idealize.SL.Sem

namespace Cert.Kernel6Ideal.Half

open Cert.Kernel6Ideal Cert.Kernel6Ideal.Gen

theorem pay_at (x : Vec Ideal S4096x1408 .bf16) (w : Vec Ideal S4096x512 .bf16) (u : Fin 1) (r : Fin 1408) (l : Fin 512) :
    k0_pay1 x w (ix3 u r l) = ∑ k : Fin 4096, x (ix2 k r) * w (ix2 k l) := by
  open_payloads
  pointwise []

theorem pay_of (x : Vec Ideal S4096x1408 .bf16) (w : Vec Ideal S4096x512 .bf16) (a : Vec Ideal S4096x11264 .bf16) (b : Vec Ideal S4096x4096 .bf16)
    (u : Fin 1) (r : Fin 1408) (l : Fin 512) (R : Fin 11264) (L : Fin 4096) (hx : ∀ k : Fin 4096, x (ix2 k r) = a (ix2 k R))
    (hw : ∀ k : Fin 4096, w (ix2 k l) = b (ix2 k L)) : k0_pay1 x w (ix3 u r l) = ∑ k : Fin 4096, a (ix2 k R) * b (ix2 k L) := by
  rw [pay_at]
  simp only [hx, hw]

theorem out_eq (c : Dev nD) (i : grid0.Coords) (arg3 : Memref sig .tc .vmem S4096x1408 .bf16) (harg3 : arg3.IsWhole)
    (arg4 : Memref sig .tc .vmem S4096x512 .bf16) (harg4 : arg4.IsWhole) (arg5 : Memref sig .tc .vmem S1x1408x512 .bf16) (harg5 : arg5.IsWhole)
    (x0 : Vec Ideal S4096x1408 .bf16) (x1 : Vec Ideal S4096x512 .bf16) (xt0 : TbBuf0 (F := Ideal) c tbM0_0) :
    out0_A_2 c i arg3 harg3 arg4 harg4 arg5 harg5 x0 x1 xt0 = k0_pay1 x0 x1 := by
  frame_out

variable (m : (ℓ : Loc nD τ sig) → Buf (Elt Ideal) ℓ) (c : Dev nD) (hO : Ok m)

theorem idx1 : ∀ t : Fin grid0.N, cc0_transform_1 (grid0.coords t) = ![0, t.val % 8] := by decide +kernel
theorem idx2 : ∀ t : Fin grid0.N, cc0_transform_2 (grid0.coords t) = ![t.val / 8, 0, t.val % 8] := by decide +kernel
theorem idx0 : ∀ t : Fin grid0.N, (grid0.coords t 0).val = t.val / 8 := by decide +kernel

theorem surj : ∀ β : (a : Fin 3) → Fin (![4, 1, 8] a), ∃ i : grid0.Coords, ∀ a, cc0_transform_2 i a = β a := by decide +kernel

theorem nblk2 : ∀ a : Fin 3, ((cfgM m hO).win 2).nblk a = (![4, 1, 8] : Fin 3 → ℕ) a
  | ⟨0, _⟩ => (by decide : (4 + 1 - 1) / 1 = 4)
  | ⟨1, _⟩ => (by decide : (1408 + 1408 - 1) / 1408 = 1)
  | ⟨2, _⟩ => (by decide : (4096 + 512 - 1) / 512 = 8)

theorem size2 : ∀ a : Fin 3, 0 < ((cfgM m hO).win 2).size a
  | ⟨0, _⟩ => (by decide : 0 < 1)
  | ⟨1, _⟩ => (by decide : 0 < 1408)
  | ⟨2, _⟩ => (by decide : 0 < 512)

theorem cov2 : ((cfgM m hO).win 2).Covers :=
  ((cfgM m hO).win 2).covers_of_indexMap_surj rfl (size2 m hO) fun β =>
    surj fun a => ⟨(β a).val, lt_of_lt_of_eq (β a).isLt (nblk2 m hO a)⟩

theorem emb2_0 (t : Fin (cfgM m hO).N) (y : S1x1408x512.Idx) : (((((cfgM m hO).win 2).blk t).view.emb y) (0 : Fin 3)).val = t.val / 8 + (y 0).val := by
  blk_simp [show ((cfgM m hO).win 2).index t = ![t.val / 8, 0, t.val % 8] from idx2 t]
theorem emb2_1 (t : Fin (cfgM m hO).N) (y : S1x1408x512.Idx) : (((((cfgM m hO).win 2).blk t).view.emb y) (1 : Fin 3)).val = (y 1).val := by
  blk_simp [show ((cfgM m hO).win 2).index t = ![t.val / 8, 0, t.val % 8] from idx2 t]
theorem emb2_2 (t : Fin (cfgM m hO).N) (y : S1x1408x512.Idx) : (((((cfgM m hO).win 2).blk t).view.emb y) (2 : Fin 3)).val = t.val % 8 * 512 + (y 2).val := by
  blk_simp [show ((cfgM m hO).win 2).index t = ![t.val / 8, 0, t.val % 8] from idx2 t]

theorem index0 (hc : cls m = 0#32 ∨ cls m = 1#32) (t : Fin (cfgM m hO).N) :
    ((cfgM m hO).win 0).index t = ![0, 2 * (t.val / 8) + (cls m).toNat] := by
  refine (ix_eq m hc (grid0.coords t)).trans ?_
  rw [idx0 t]

abbrev row (t : Fin (cfgM m hO).N) (r : Fin 1408) (hc : cls m = 0#32 ∨ cls m = 1#32) : Fin 11264 :=
  ⟨(2 * (t.val / 8) + (cls m).toNat) * 1408 + r.val, by
    have h1 : t.val < 32 := t.isLt
    have h2 : (cls m).toNat ≤ 1 := by rcases hc with h | h <;> rw [h] <;> decide
    omega⟩
abbrev col (t : Fin (cfgM m hO).N) (l : Fin 512) : Fin 4096 := ⟨t.val % 8 * 512 + l.val, by omega⟩

theorem blk0 (hc : cls m = 0#32 ∨ cls m = 1#32) (t : Fin (cfgM m hO).N) (k : Fin 4096) (r : Fin 1408) :
    (iblk m hO c 0 t : Vec Ideal S4096x1408 .bf16) (ix2 k r) = m ((c.tc : Thread nD τ).loc main_arg0) (ix2 k (row m hO t r hc)) := by
  rw [← V_main_arg0 m c]
  blk_point [iblk, index0 m hO hc t]
theorem blk1 (t : Fin (cfgM m hO).N) (k : Fin 4096) (l : Fin 512) :
    (iblk m hO c 1 t : Vec Ideal S4096x512 .bf16) (ix2 k l) = m ((c.tc : Thread nD τ).loc main_arg1) (ix2 k (col m hO t l)) := by
  rw [← V_main_arg1 m c]
  blk_point [iblk, show ((cfgM m hO).win 1).index t = ![0, t.val % 8] from idx1 t]

theorem block2 (hc : cls m = 0#32 ∨ cls m = 1#32) (t : Fin (cfgM m hO).N) (y : S1x1408x512.Idx) (i : S4x1408x4096.Idx)
    (h0 : (i 0).val = t.val / 8 + (y 0).val) (h1 : (i 1).val = (y 1).val) (h2 : (i 2).val = t.val % 8 * 512 + (y 2).val) :
    k0_pay1 (iblk m hO c 0 t) (iblk m hO c 1 t) y =
      Cert.Reference6Ideal.Value.ref (m ((c.tc : Thread nD τ).loc main_arg0)) (m ((c.tc : Thread nD τ).loc main_arg1)) (m ((c.tc : Thread nD τ).loc main_arg2)) i := by
  obtain ⟨u, r, l, rfl⟩ : ∃ (u : Fin 1) (r : Fin 1408) (l : Fin 512), y = ix3 u r l :=
    ⟨y 0, y 1, y 2, by funext a; match a with | ⟨0, _⟩ => rfl | ⟨1, _⟩ => rfl | ⟨2, _⟩ => rfl⟩
  have ht : t.val < 32 := t.isLt
  have hq : t.val / 8 < 4 := Nat.div_lt_of_lt_mul ht
  obtain rfl : i = ix3 (⟨t.val / 8, hq⟩ : Fin 4) r (col m hO t l) := by
    funext a; apply Fin.ext
    match a with
    | ⟨0, _⟩ => refine h0.trans ?_; show t.val / 8 + u.val = t.val / 8; omega
    | ⟨1, _⟩ => exact h1
    | ⟨2, _⟩ => exact h2
  obtain rfl : c = 0 := Subsingleton.elim _ _
  exact (pay_of _ _ _ _ u r l _ _ (fun k => blk0 m 0 hO hc t k r) (fun k => blk1 m 0 hO t k l)).trans
    (Cert.Reference6Ideal.Value.ref_at (m (((0 : Dev nD).tc : Thread nD τ).loc main_arg0)) (m (((0 : Dev nD).tc : Thread nD τ).loc main_arg1))
      (m (((0 : Dev nD).tc : Thread nD τ).loc main_arg2)) ⟨t.val / 8, hq⟩ r (col m hO t l) (cls m) rfl hc (row m hO t r hc) rfl).symm

theorem final2 (hc : cls m = 0#32 ∨ cls m = 1#32) : (dats m hO 0 c).arrAt 2 (cfgM m hO).N =
    Cert.Reference6Ideal.Value.ref (m ((c.tc : Thread nD τ).loc main_arg0)) (m ((c.tc : Thread nD τ).loc main_arg1)) (m ((c.tc : Thread nD τ).loc main_arg2)) :=
  (dats m hO 0 c).arrAt_eq_of_covers 2 _ (cov2 m hO) fun t _ y =>
    (congrFun ((after0_2 m hO c t).trans (out_eq _ _ _ _ _ _ _ _ _ _ _)) y).trans (block2 m c hO hc t y _ (emb2_0 m hO t y) (emb2_1 m hO t y) (emb2_2 m hO t y))

theorem algebraic : Cert.algebraic_Kernel6Ideal_Reference6Ideal := by
  intro m g m' g' hp hm
  have hc := cls_of_pre m hp
  have hO := ok_of m hc
  refine ⟨fun c => Cert.Reference6Ideal.Value.ref (m ((c.tc : Thread nD τ).loc main_arg0)) (m ((c.tc : Thread nD τ).loc main_arg1)) (m ((c.tc : Thread nD τ).loc main_arg2)),
    (θ_run (defs (F := Ideal)) _ _).mono (fun r h c => ⟨((h.1 c).1 2).trans (final2 m c hO hc), h.2 c⟩) (θ_run_and (run_main (F := Ideal) m g hO) (unchanged m g hO)),
    (θ_run (Cert.Reference6Ideal.defs (F := Ideal)) _ _).mono (fun r h c => ?_) (Cert.Reference6Ideal.Value.run (F := Ideal) m' g')⟩
  obtain ⟨h2, ha⟩ := h c
  obtain ⟨e0, e1, e2⟩ := hm c
  refine ⟨h2.trans ?_, ha⟩
  rw [e0, e1, e2]
  rfl

end Cert.Kernel6Ideal.Half

end
-- ==== Proof.Half7.lean ====
module

public import proofs.«01_k».proof.Defs
public import proofs.«01_k».proof.Proof.Gen.Kernel7Ideal.Frame
public import proofs.«01_k».proof.Proof.Gen.Pre_core7

@[expose] public section

set_option maxRecDepth 16384

/-! For kernel and ideal kernel at once: the class that the precondition admits keeps every block of the first operand inside it. -/

noncomputable section

open Idealize.ShloMosaic Idealize.ShloMosaic.TcCoe Idealize.SL.Sem

namespace Cert.Kernel7Ideal.Half

open Cert.Kernel7Ideal Cert.Kernel7Ideal.Gen

variable {F : FTy → Type} [FloatOps F] (m : (ℓ : Loc nD τ sig) → Buf (Elt F) ℓ)

/-- The precondition, over any float values. -/
def Pre : Prop :=
  ∀ c : Dev nD, Cert.Pre_core7.fn (F := F) (m ((c.tc : Thread nD τ).loc main_arg0)) (m ((c.tc : Thread nD τ).loc main_arg1)) (m ((c.tc : Thread nD τ).loc main_arg2)) (m ((c.tc : Thread nD τ).loc main_arg3)) = fun _ => 1#1

/-- The class the call is launched with. -/
abbrev cls : BitVec 32 := m (((0 : Dev nD).tc : Thread nD τ).loc main_arg2) (fun a => a.elim0)

theorem cls_of_pre (h : Pre m) : cls m = 0#32 ∨ cls m = 1#32 := by
  have e := congrFun (h 0) (fun a => a.elim0)
  unfold Cert.Pre_core7.fn at e
  simp only [ori, cmpi, constantI] at e
  change IntOp.ori (IntOp.cmpi .eq (cls m) 0#32) (IntOp.cmpi .eq (cls m) 1#32) = 1#1 at e
  by_cases h0 : cls m = 0#32
  · exact .inl h0
  by_cases h1 : cls m = 1#32
  · exact .inr h1
  simp only [IntOp.ori, IntOp.cmpi, beq_eq_false_iff_ne.2 h0, beq_eq_false_iff_ne.2 h1] at e
  exact absurd e (by decide)

theorem tbl_at (i : S1.Idx) : tbl m 0 i = cls m :=
  (congrFun (show tbl m 0 = shapeCast S1 (m (((0 : Dev nD).tc : Thread nD τ).loc main_arg2)) shapeCasts_S_S1 from by
    show StableHlo.after hostOps0 (fun b => m ((0 : Dev nD), b)) main_v0 = _
    after_results
    rfl) i).trans
    (congrArg (m (((0 : Dev nD).tc : Thread nD τ).loc main_arg2)) (funext fun a => a.elim0))

theorem ix_eq (h : cls m = 0#32 ∨ cls m = 1#32) (i : grid0.Coords) :
    cc0_transform_0 inb_S1_S1_0 numel1_S1 (tbl m) i = ![0, 2 * (i 0).val + (cls m).toNat] := by
  have hi : (i 0).val < 4 := (i 0).isLt
  unfold cc0_transform_0
  dsimp only
  rw [show (tbl m).at 0 (Rect.unit (s := S1) ![0] S1.size inb_S1_S1_0) numel1_S1 = cls m from tbl_at m _]
  rcases h with h | h <;> rw [h] <;> (funext a; match a with
    | ⟨0, _⟩ => rfl
    | ⟨1, _⟩ =>
      show (Scalar.addi (Scalar.muli 2#32 (BitVec.ofNat 32 (i 0).val)) _).toNat = 2 * (i 0).val + _
      simp [Scalar.addi, Scalar.muli, IntOp.addi, IntOp.muli, BitVec.toNat_add, BitVec.toNat_mul, BitVec.toNat_ofNat]
      try omega)

theorem ok_of (h : cls m = 0#32 ∨ cls m = 1#32) : Ok m := by
  intro i
  have hi : (i 0).val < 4 := (i 0).isLt
  have hc : (cls m).toNat ≤ 1 := by rcases h with h | h <;> rw [h] <;> decide
  have e := ix_eq m h i
  have hb : ∀ a, (cc0_transform_0 inb_S1_S1_0 numel1_S1 (tbl m) i a + 1) * S4096x1408.size a ≤ S4096x11264.size a := by
    rw [e]
    intro a
    match a with
    | ⟨0, _⟩ => show (0 + 1) * 4096 ≤ 4096; omega
    | ⟨1, _⟩ => show (2 * (i 0).val + (cls m).toNat + 1) * 1408 ≤ 11264; omega
  exact ⟨hb, .inr (.inr ⟨by decide, rfl, by
    show cc0_transform_0 inb_S1_S1_0 numel1_S1 (tbl m) i 0 * 4096 = 0
    rw [e]; rfl, rfl⟩)⟩

theorem ok_of_pre (h : Pre m) : Ok m := ok_of m (cls_of_pre m h)

end Cert.Kernel7Ideal.Half

end
-- ==== Proof.Grad7Ref.lean ====
module

public import proofs.«01_k».proof.Proof.Gen.Reference7Ideal.Run
public import proofs.«01_k».proof.Proof.Lift

@[expose] public section

set_option maxRecDepth 16384

/-! The half of the differentiated product that belongs to one class, with the sibling's sum, element by element. -/

noncomputable section

open Idealize.ShloMosaic Idealize.ShloMosaic.TcCoe Idealize.SL.Sem

namespace Cert.Reference7Ideal.Value

open Cert.Reference7Ideal Cert.Reference7Ideal.Gen

/-- The reference's result as a function of its arguments. -/
def ref (a : FVec Ideal S4096x11264 .bf16) (b : FVec Ideal S4096x4096 .bf16) (s : IVec S_ 32) (o : FVec Ideal S4x1408x4096 .bf16) : FVec Ideal S4x1408x4096 .bf16 :=
  truncf .bf16 (addf (extf .f32 o bitsLt_bf16_f32) (select (broadcastInDim S4x1408x4096 ![] bcast_S_S4x1408x4096 (cmpi .eq s (constantI S_ 32 0#32)))
    (shapeCast _ (extractStridedSlice S4x1x1408x4096 ![0, 0, 0, 0] (shapeCast _ (transpose S11264x4096 [1, 0] (Host.dotGeneral dot_S4096x4096_S4096x11264_S4096x11264_0_0_1_1_n_n none (extf .f32 b bitsLt_bf16_f32) (extf .f32 a bitsLt_bf16_f32)) transposes_S4096x11264_S11264x4096_1_0) shapeCasts_S11264x4096_S4x2x1408x4096) slices_S4x2x1408x4096_S4x1x1408x4096_0_0_0_0) shapeCasts_S4x1x1408x4096_S4x1408x4096)
    (shapeCast _ (extractStridedSlice S4x1x1408x4096 ![0, 1, 0, 0] (shapeCast _ (transpose S11264x4096 [1, 0] (Host.dotGeneral dot_S4096x4096_S4096x11264_S4096x11264_0_0_1_1_n_n none (extf .f32 b bitsLt_bf16_f32) (extf .f32 a bitsLt_bf16_f32)) transposes_S4096x11264_S11264x4096_1_0) shapeCasts_S11264x4096_S4x2x1408x4096) slices_S4x2x1408x4096_S4x1x1408x4096_0_1_0_0) shapeCasts_S4x1x1408x4096_S4x1408x4096))) bitsLt_bf16_f32

theorem ref_at (a : FVec Ideal S4096x11264 .bf16) (b : FVec Ideal S4096x4096 .bf16) (s : IVec S_ 32) (o : FVec Ideal S4x1408x4096 .bf16) (q : Fin 4) (r : Fin 1408) (l : Fin 4096)
    (w : BitVec 32) (hs : s (fun a => a.elim0) = w) (hw : w = 0#32 ∨ w = 1#32) (R : Fin 11264) (hR : R.val = (2 * q.val + w.toNat) * 1408 + r.val) :
    ref a b s o (ix3 q r l) = (o (ix3 q r l) : EReal) + ∑ k : Fin 4096, (a (ix2 k R) * b (ix2 k l) : EReal) := by
  unfold ref
  pointwise []
  rw [show s ix0 = w from (congrArg s (funext fun a => a.elim0)).trans hs]
  rcases hw with rfl | rfl
  · rw [show R = ⟨q.val * 2816 + r.val, by omega⟩ from Fin.ext (by rw [hR]; show (2 * q.val + 0) * 1408 + r.val = q.val * 2816 + r.val; omega)]
    rw [show IntOp.cmpi CmpIPredicate.eq 0#32 0#32 = 1#1 from by decide]
    unfold Scalar.select
    rw [if_pos (by decide : (1#1 : BitVec 1) = 1)]
    refine congrArg (fun x : EReal => o (ix3 q r l) + x) ?_
    exact Finset.sum_congr rfl fun k _ => mul_comm (b (ix2 k l) : EReal) _
  · rw [show R = ⟨q.val * 2816 + 1408 + r.val, by omega⟩ from Fin.ext (by rw [hR]; show (2 * q.val + 1) * 1408 + r.val = q.val * 2816 + 1408 + r.val; omega)]
    rw [show IntOp.cmpi CmpIPredicate.eq 1#32 0#32 = 0#1 from by decide]
    unfold Scalar.select
    rw [if_neg (by decide : ¬(0#1 : BitVec 1) = 1)]
    refine congrArg (fun x : EReal => o (ix3 q r l) + x) ?_
    exact Finset.sum_congr rfl fun k _ => mul_comm (b (ix2 k l) : EReal) _

end Cert.Reference7Ideal.Value

end
-- ==== Proof.Grad7.lean ====
module

public import proofs.«01_k».proof.Proof.Half7
public import proofs.«01_k».proof.Proof.Grad7Ref
public import Idealize.ShloMosaic.Lib.Pipeline.ValueKit
public import Idealize.ShloMosaic.Lib.Pipeline.Covers

@[expose] public section

set_option maxRecDepth 16384

/-! A core's own half of a weight gradient: each block of the kernel's product is the reference's. -/

noncomputable section

open Idealize.ShloMosaic Idealize.ShloMosaic.TcCoe Idealize.SL.Sem

namespace Cert.Kernel7Ideal.Half

open Cert.Kernel7Ideal Cert.Kernel7Ideal.Gen

theorem pay_at (x : Vec Ideal S4096x1408 .bf16) (w : Vec Ideal S4096x512 .bf16) (o : Vec Ideal S1x1408x512 .bf16) (u : Fin 1) (r : Fin 1408) (l : Fin 512) :
    k0_pay1 x w o (ix3 u r l) = (∑ k : Fin 4096, (x (ix2 k r) * w (ix2 k l) : EReal)) + (o (ix3 u r l) : EReal) := by
  obtain rfl : u = 0 := Subsingleton.elim _ _
  open_payloads
  pointwise []

theorem pay_of (x : Vec Ideal S4096x1408 .bf16) (w : Vec Ideal S4096x512 .bf16) (o : Vec Ideal S1x1408x512 .bf16) (O : Vec Ideal S4x1408x4096 .bf16) (a : Vec Ideal S4096x11264 .bf16) (b : Vec Ideal S4096x4096 .bf16)
    (u : Fin 1) (r : Fin 1408) (l : Fin 512) (R : Fin 11264) (L : Fin 4096) (q : Fin 4) (ho : o (ix3 u r l) = O (ix3 q r L)) (hx : ∀ k : Fin 4096, x (ix2 k r) = a (ix2 k R))
    (hw : ∀ k : Fin 4096, w (ix2 k l) = b (ix2 k L)) : k0_pay1 x w o (ix3 u r l) = (O (ix3 q r L) : EReal) + ∑ k : Fin 4096, (a (ix2 k R) * b (ix2 k L) : EReal) := by
  rw [pay_at]
  simp only [hx, hw, ho]
  exact add_comm _ _

theorem out_eq (c : Dev nD) (i : grid0.Coords) (arg3 : Memref sig .tc .vmem S4096x1408 .bf16) (harg3 : arg3.IsWhole)
    (arg4 : Memref sig .tc .vmem S4096x512 .bf16) (harg4 : arg4.IsWhole) (arg5 : Memref sig .tc .vmem S1x1408x512 .bf16) (harg5 : arg5.IsWhole)
    (arg6 : Memref sig .tc .vmem S1x1408x512 .bf16) (harg6 : arg6.IsWhole)
    (x0 : Vec Ideal S4096x1408 .bf16) (x1 : Vec Ideal S4096x512 .bf16) (x2 : Vec Ideal S1x1408x512 .bf16) (xt0 : TbBuf0 (F := Ideal) c tbM0_0) :
    out0_A_3 c i arg3 harg3 arg4 harg4 arg5 harg5 arg6 harg6 x0 x1 x2 xt0 = k0_pay1 x0 x1 x2 := by
  frame_out

variable (m : (ℓ : Loc nD τ sig) → Buf (Elt Ideal) ℓ) (c : Dev nD) (hO : Ok m)

theorem idx1 : ∀ t : Fin grid0.N, cc0_transform_1 (grid0.coords t) = ![0, t.val % 8] := by decide +kernel
theorem idx3 : ∀ t : Fin grid0.N, cc0_transform_3 (grid0.coords t) = ![t.val / 8, 0, t.val % 8] := by decide +kernel
theorem idx0 : ∀ t : Fin grid0.N, (grid0.coords t 0).val = t.val / 8 := by decide +kernel

theorem surj : ∀ β : (a : Fin 3) → Fin (![4, 1, 8] a), ∃ i : grid0.Coords, ∀ a, cc0_transform_3 i a = β a := by decide +kernel

theorem nblk3 : ∀ a : Fin 3, ((cfgM m hO).win 3).nblk a = (![4, 1, 8] : Fin 3 → ℕ) a
  | ⟨0, _⟩ => (by decide : (4 + 1 - 1) / 1 = 4)
  | ⟨1, _⟩ => (by decide : (1408 + 1408 - 1) / 1408 = 1)
  | ⟨2, _⟩ => (by decide : (4096 + 512 - 1) / 512 = 8)

theorem size3 : ∀ a : Fin 3, 0 < ((cfgM m hO).win 3).size a
  | ⟨0, _⟩ => (by decide : 0 < 1)
  | ⟨1, _⟩ => (by decide : 0 < 1408)
  | ⟨2, _⟩ => (by decide : 0 < 512)

theorem cov3 : ((cfgM m hO).win 3).Covers :=
  ((cfgM m hO).win 3).covers_of_indexMap_surj rfl (size3 m hO) fun β =>
    surj fun a => ⟨(β a).val, lt_of_lt_of_eq (β a).isLt (nblk3 m hO a)⟩

theorem emb3_0 (t : Fin (cfgM m hO).N) (y : S1x1408x512.Idx) : (((((cfgM m hO).win 3).blk t).view.emb y) (0 : Fin 3)).val = t.val / 8 + (y 0).val := by
  blk_simp [show ((cfgM m hO).win 3).index t = ![t.val / 8, 0, t.val % 8] from idx3 t]
theorem emb3_1 (t : Fin (cfgM m hO).N) (y : S1x1408x512.Idx) : (((((cfgM m hO).win 3).blk t).view.emb y) (1 : Fin 3)).val = (y 1).val := by
  blk_simp [show ((cfgM m hO).win 3).index t = ![t.val / 8, 0, t.val % 8] from idx3 t]
theorem emb3_2 (t : Fin (cfgM m hO).N) (y : S1x1408x512.Idx) : (((((cfgM m hO).win 3).blk t).view.emb y) (2 : Fin 3)).val = t.val % 8 * 512 + (y 2).val := by
  blk_simp [show ((cfgM m hO).win 3).index t = ![t.val / 8, 0, t.val % 8] from idx3 t]

theorem index0 (hc : cls m = 0#32 ∨ cls m = 1#32) (t : Fin (cfgM m hO).N) :
    ((cfgM m hO).win 0).index t = ![0, 2 * (t.val / 8) + (cls m).toNat] := by
  refine (ix_eq m hc (grid0.coords t)).trans ?_
  rw [idx0 t]

abbrev row (t : Fin (cfgM m hO).N) (r : Fin 1408) (hc : cls m = 0#32 ∨ cls m = 1#32) : Fin 11264 :=
  ⟨(2 * (t.val / 8) + (cls m).toNat) * 1408 + r.val, by
    have h1 : t.val < 32 := t.isLt
    have h2 : (cls m).toNat ≤ 1 := by rcases hc with h | h <;> rw [h] <;> decide
    omega⟩
abbrev col (t : Fin (cfgM m hO).N) (l : Fin 512) : Fin 4096 := ⟨t.val % 8 * 512 + l.val, by omega⟩

theorem blk0 (hc : cls m = 0#32 ∨ cls m = 1#32) (t : Fin (cfgM m hO).N) (k : Fin 4096) (r : Fin 1408) :
    (iblk m hO c 0 t : Vec Ideal S4096x1408 .bf16) (ix2 k r) = m ((c.tc : Thread nD τ).loc main_arg0) (ix2 k (row m hO t r hc)) := by
  rw [← V_main_arg0 m c]
  blk_point [iblk, index0 m hO hc t]
theorem blk1 (t : Fin (cfgM m hO).N) (k : Fin 4096) (l : Fin 512) :
    (iblk m hO c 1 t : Vec Ideal S4096x512 .bf16) (ix2 k l) = m ((c.tc : Thread nD τ).loc main_arg1) (ix2 k (col m hO t l)) := by
  rw [← V_main_arg1 m c]
  blk_point [iblk, show ((cfgM m hO).win 1).index t = ![0, t.val % 8] from idx1 t]

theorem blk2 (t : Fin (cfgM m hO).N) (u : Fin 1) (r : Fin 1408) (l : Fin 512) (hq : t.val / 8 < 4) :
    (iblk m hO c 2 t : Vec Ideal S1x1408x512 .bf16) (ix3 u r l) = m ((c.tc : Thread nD τ).loc main_arg3) (ix3 (⟨t.val / 8, hq⟩ : Fin 4) r (col m hO t l)) := by
  rw [← V_main_arg3 m c]
  blk_point [iblk, show ((cfgM m hO).win 2).index t = ![t.val / 8, 0, t.val % 8] from idx3 t]

theorem block3 (hc : cls m = 0#32 ∨ cls m = 1#32) (t : Fin (cfgM m hO).N) (y : S1x1408x512.Idx) (i : S4x1408x4096.Idx)
    (h0 : (i 0).val = t.val / 8 + (y 0).val) (h1 : (i 1).val = (y 1).val) (h2 : (i 2).val = t.val % 8 * 512 + (y 2).val) :
    k0_pay1 (iblk m hO c 0 t) (iblk m hO c 1 t) (iblk m hO c 2 t) y =
      Cert.Reference7Ideal.Value.ref (m ((c.tc : Thread nD τ).loc main_arg0)) (m ((c.tc : Thread nD τ).loc main_arg1)) (m ((c.tc : Thread nD τ).loc main_arg2)) (m ((c.tc : Thread nD τ).loc main_arg3)) i := by
  obtain ⟨u, r, l, rfl⟩ : ∃ (u : Fin 1) (r : Fin 1408) (l : Fin 512), y = ix3 u r l :=
    ⟨y 0, y 1, y 2, by funext a; match a with | ⟨0, _⟩ => rfl | ⟨1, _⟩ => rfl | ⟨2, _⟩ => rfl⟩
  have ht : t.val < 32 := t.isLt
  have hq : t.val / 8 < 4 := Nat.div_lt_of_lt_mul ht
  obtain rfl : i = ix3 (⟨t.val / 8, hq⟩ : Fin 4) r (col m hO t l) := by
    funext a; apply Fin.ext
    match a with
    | ⟨0, _⟩ => refine h0.trans ?_; show t.val / 8 + u.val = t.val / 8; omega
    | ⟨1, _⟩ => exact h1
    | ⟨2, _⟩ => exact h2
  obtain rfl : c = 0 := Subsingleton.elim _ _
  exact (pay_of _ _ _ (m (((0 : Dev nD).tc : Thread nD τ).loc main_arg3)) _ _ u r l _ _ ⟨t.val / 8, hq⟩ (blk2 m 0 hO t u r l hq) (fun k => blk0 m 0 hO hc t k r) (fun k => blk1 m 0 hO t k l)).trans
    (Cert.Reference7Ideal.Value.ref_at (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) ⟨t.val / 8, hq⟩ r (col m hO t l) (cls m) rfl hc (row m hO t r hc) rfl).symm

theorem final3 (hc : cls m = 0#32 ∨ cls m = 1#32) : (dats m hO 0 c).arrAt 3 (cfgM m hO).N =
    Cert.Reference7Ideal.Value.ref (m ((c.tc : Thread nD τ).loc main_arg0)) (m ((c.tc : Thread nD τ).loc main_arg1)) (m ((c.tc : Thread nD τ).loc main_arg2)) (m ((c.tc : Thread nD τ).loc main_arg3)) :=
  (dats m hO 0 c).arrAt_eq_of_covers 3 _ (cov3 m hO) fun t _ y =>
    (congrFun ((after0_3 m hO c t).trans (out_eq _ _ _ _ _ _ _ _ _ _ _ _ _ _)) y).trans (block3 m c hO hc t y _ (emb3_0 m hO t y) (emb3_1 m hO t y) (emb3_2 m hO t y))

theorem algebraic : Cert.algebraic_Kernel7Ideal_Reference7Ideal := by
  intro m g m' g' hp hm
  have hc := cls_of_pre m hp
  have hO := ok_of m hc
  refine ⟨fun c => Cert.Reference7Ideal.Value.ref (m ((c.tc : Thread nD τ).loc main_arg0)) (m ((c.tc : Thread nD τ).loc main_arg1)) (m ((c.tc : Thread nD τ).loc main_arg2)) (m ((c.tc : Thread nD τ).loc main_arg3)),
    (θ_run (defs (F := Ideal)) _ _).mono (fun r h c => ⟨((h.1 c).1 3).trans (final3 m c hO hc), h.2 c⟩) (θ_run_and (run_main (F := Ideal) m g hO) (unchanged m g hO)),
    (θ_run (Cert.Reference7Ideal.defs (F := Ideal)) _ _).mono (fun r h c => ?_) (Cert.Reference7Ideal.Value.run (F := Ideal) m' g')⟩
  obtain ⟨h2, ha⟩ := h c
  obtain ⟨e0, e1, e2, e3⟩ := hm c
  refine ⟨h2.trans ?_, ha⟩
  rw [e0, e1, e2, e3]
  rfl

end Cert.Kernel7Ideal.Half

end
-- ==== Proof.Acc8.lean ====
module

public import proofs.«01_k».proof.Defs
public import proofs.«01_k».proof.Proof.Gen.Kernel8Ideal.Value
public import proofs.«01_k».proof.Proof.Gen.Reference8Ideal.Run
public import proofs.«01_k».proof.Proof.Lift
public import proofs.«01_k».proof.Proof.SumParts
public import Idealize.ShloMosaic.Lib.Pipeline.ValueKit

@[expose] public section

set_option maxRecDepth 16384

/-! The up projection's share of the feed-forward input's gradient added to the gate projection's. -/

noncomputable section

open Idealize.ShloMosaic Idealize.ShloMosaic.TcCoe Idealize.SL.Sem

namespace Cert.Kernel8Ideal.Value

open Cert.Kernel8Ideal Cert.Kernel8Ideal.Gen

/-- One grid point's partial product. -/
def part (x : Vec Ideal S1024x2816 .bf16) (w : Vec Ideal S2816x1024 .bf16) (r l : Fin 1024) : EReal :=
  ∑ k : Fin 2816, x (ix2 r k) * w (ix2 k l)

variable (m : (ℓ : Loc nD τ sig) → Buf (Elt Ideal) ℓ) (c : Dev nD)

theorem stepA (t : Fin cfg0.N) (h : t.val % 4 = 0) (r l : Fin 1024) :
    (outsAt0 m c t.val t.isLt).2 (ix2 r l) = part (iblk m c 0 t) (iblk m c 1 t) r l := by
  rw [outsAt0_A m c t h (by omega) (by omega)]
  frame_out
  open_payloads
  pointwise []
  rfl

theorem stepB (t : Fin cfg0.N) (h : 1 ≤ t.val % 4 ∧ t.val % 4 ≤ 2) (r l : Fin 1024) :
    (outsAt0 m c t.val t.isLt).2 (ix2 r l) =
      ((outsAt0 m c (t.val - 1) (lt_of_le_of_lt (Nat.sub_le _ _) t.isLt)).2 (ix2 r l) : EReal) + part (iblk m c 0 t) (iblk m c 1 t) r l := by
  rw [outsAt0_B m c t (by omega) h (by omega)]
  frame_out
  open_payloads
  pointwise []
  exact congrArg₂ (fun x y : EReal => x + y) (congrFun (Memref.IsWhole.read_unread _ _) _) rfl

theorem stepC (t : Fin cfg0.N) (h : t.val % 4 = 3) (r l : Fin 1024) :
    (outsAt0 m c t.val t.isLt).1 (ix2 r l) =
      (((outsAt0 m c (t.val - 1) (lt_of_le_of_lt (Nat.sub_le _ _) t.isLt)).2 (ix2 r l) : EReal) + part (iblk m c 0 t) (iblk m c 1 t) r l) + (iblk m c 2 t (ix2 r l) : EReal) := by
  rw [outsAt0_C m c t (by omega) (by omega) h]
  frame_out
  open_payloads
  pointwise []
  refine congrArg₂ (fun x y : EReal => x + y) (congrArg₂ (fun x y : EReal => x + y) (congrFun (Memref.IsWhole.read_unread _ _) _) rfl) rfl

theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4] := (by decide +kernel : ∀ t : Fin grid0.N, _)
theorem idx3 : ∀ t : Fin cfg0.N, win0_3.index t = ![t.val / 16, t.val / 4 % 4] := (by decide +kernel : ∀ t : Fin grid0.N, _)

theorem lt64 (t : Fin cfg0.N) : t.val < 64 := lt_of_lt_of_eq t.isLt N_0
abbrev row (t : Fin cfg0.N) (r : Fin 1024) : Fin 4096 := ⟨t.val / 16 * 1024 + r.val, by have := lt64 t; omega⟩
abbrev col (t : Fin cfg0.N) (l : Fin 1024) : Fin 4096 := ⟨t.val / 4 % 4 * 1024 + l.val, by omega⟩
abbrev mid (n : ℕ) (hn : n < 4) (k : Fin 2816) : Fin 11264 := ⟨n * 2816 + k.val, by omega⟩

theorem blk0 (t : Fin cfg0.N) (n : ℕ) (hn : n < 4) (ht : t.val % 4 = n) (r : Fin 1024) (k : Fin 2816) :
    iblk m c 0 t (ix2 r k) = m ((c.tc : Thread nD τ).loc main_arg0) (ix2 (row t r) (mid n hn k)) := by
  subst ht
  blk_point [iblk, V, idx0 t]
theorem blk1 (t : Fin cfg0.N) (n : ℕ) (hn : n < 4) (ht : t.val % 4 = n) (k : Fin 2816) (l : Fin 1024) :
    iblk m c 1 t (ix2 k l) = m ((c.tc : Thread nD τ).loc main_arg1) (ix2 (mid n hn k) (col t l)) := by
  subst ht
  blk_point [iblk, V, idx1 t]

/-- The whole product's sum. -/
def full (a : FVec Ideal S4096x11264 .bf16) (w : FVec Ideal S11264x4096 .bf16) (R L : Fin 4096) : EReal :=
  ∑ k : Fin 11264, a (ix2 R k) * w (ix2 k L)

theorem blk2 (t : Fin cfg0.N) (r : Fin 1024) (l : Fin 1024) :
    iblk m c 2 t (ix2 r l) = m ((c.tc : Thread nD τ).loc main_arg2) (ix2 (row t r) (col t l)) := by
  blk_point [iblk, V, show win0_2.index t = ![t.val / 16, t.val / 4 % 4] from idx3 t]

/-- A part of the whole product's sum. -/
def slab (a : FVec Ideal S4096x11264 .bf16) (w : FVec Ideal S11264x4096 .bf16) (R L : Fin 4096) (n : ℕ) (hn : n < 4) : EReal :=
  ∑ k : Fin 2816, a (ix2 R (mid n hn k)) * w (ix2 (mid n hn k) L)

theorem part_eq (t : Fin cfg0.N) (n : ℕ) (hn : n < 4) (ht : t.val % 4 = n) (r l : Fin 1024) (R L : Fin 4096) (hR : R = row t r) (hL : L = col t l) :
    part (iblk m c 0 t) (iblk m c 1 t) r l = slab (m ((c.tc : Thread nD τ).loc main_arg0)) (m ((c.tc : Thread nD τ).loc main_arg1)) R L n hn := by
  subst hR hL
  unfold part slab
  simp only [blk0 m c t n hn ht, blk1 m c t n hn ht]

theorem acc (t : Fin cfg0.N) (h : t.val % 4 = 3) (r l : Fin 1024) :
    (outsAt0 m c t.val t.isLt).1 (ix2 r l) =
      (full (m ((c.tc : Thread nD τ).loc main_arg0)) (m ((c.tc : Thread nD τ).loc main_arg1)) (row t r) (col t l) : EReal) + (m ((c.tc : Thread nD τ).loc main_arg2) (ix2 (row t r) (col t l)) : EReal) := by
  have h64 := lt64 t
  have l2 : t.val - 1 < cfg0.N := lt_of_le_of_lt (Nat.sub_le _ _) t.isLt
  have l1 : t.val - 1 - 1 < cfg0.N := lt_of_le_of_lt (Nat.sub_le _ _) l2
  have l0 : t.val - 1 - 1 - 1 < cfg0.N := lt_of_le_of_lt (Nat.sub_le _ _) l1
  have e3 := stepC m c t h r l
  have e2 := stepB m c ⟨t.val - 1, l2⟩ (by show 1 ≤ (t.val - 1) % 4 ∧ (t.val - 1) % 4 ≤ 2; omega) r l
  have e1 := stepB m c ⟨t.val - 1 - 1, l1⟩ (by show 1 ≤ (t.val - 1 - 1) % 4 ∧ (t.val - 1 - 1) % 4 ≤ 2; omega) r l
  have e0 := stepA m c ⟨t.val - 1 - 1 - 1, l0⟩ (by show (t.val - 1 - 1 - 1) % 4 = 0; omega) r l
  rw [part_eq m c t 3 (by decide) h r l (row t r) (col t l) rfl rfl] at e3
  rw [part_eq m c ⟨t.val - 1, l2⟩ 2 (by decide) (by show (t.val - 1) % 4 = 2; omega) r l (row t r) (col t l)
    (Fin.ext (by show t.val / 16 * 1024 + r.val = (t.val - 1) / 16 * 1024 + r.val; omega))
    (Fin.ext (by show t.val / 4 % 4 * 1024 + l.val = (t.val - 1) / 4 % 4 * 1024 + l.val; omega))] at e2
  rw [part_eq m c ⟨t.val - 1 - 1, l1⟩ 1 (by decide) (by show (t.val - 1 - 1) % 4 = 1; omega) r l (row t r) (col t l)
    (Fin.ext (by show t.val / 16 * 1024 + r.val = (t.val - 1 - 1) / 16 * 1024 + r.val; omega))
    (Fin.ext (by show t.val / 4 % 4 * 1024 + l.val = (t.val - 1 - 1) / 4 % 4 * 1024 + l.val; omega))] at e1
  rw [part_eq m c ⟨t.val - 1 - 1 - 1, l0⟩ 0 (by decide) (by show (t.val - 1 - 1 - 1) % 4 = 0; omega) r l (row t r) (col t l)
    (Fin.ext (by show t.val / 16 * 1024 + r.val = (t.val - 1 - 1 - 1) / 16 * 1024 + r.val; omega))
    (Fin.ext (by show t.val / 4 % 4 * 1024 + l.val = (t.val - 1 - 1 - 1) / 4 % 4 * 1024 + l.val; omega))] at e0
  rw [e3, e2, e1, e0, blk2 m c t r l]
  unfold full
  rw [Cert.SumParts.four]
  rfl

end Cert.Kernel8Ideal.Value

namespace Cert.Reference8Ideal.Value

open Cert.Reference8Ideal Cert.Reference8Ideal.Gen

/-- The reference's result as a function of its two arguments. -/
def ref (a : FVec Ideal S4096x11264 .bf16) (w : FVec Ideal S11264x4096 .bf16) (o : FVec Ideal S4096x4096 .f32) : FVec Ideal S4096x4096 .f32 :=
  addf o (Host.dotGeneral dot_S4096x11264_S11264x4096_S4096x4096_1_0_0_1_n_n none (extf .f32 a bitsLt_bf16_f32)
    (extf .f32 w bitsLt_bf16_f32))

theorem ref_at (a : FVec Ideal S4096x11264 .bf16) (w : FVec Ideal S11264x4096 .bf16) (o : FVec Ideal S4096x4096 .f32) (r l : Fin 4096) :
    ref a w o (ix2 r l) = (∑ k : Fin 11264, (a (ix2 r k) * w (ix2 k l) : EReal)) + (o (ix2 r l) : EReal) := by
  unfold ref
  pointwise []
  exact add_comm _ _

end Cert.Reference8Ideal.Value

namespace Cert.Kernel8Ideal.Value

open Cert.Kernel8Ideal Cert.Kernel8Ideal.Gen

variable (m : (ℓ : Loc nD τ sig) → Buf (Elt Ideal) ℓ) (c : Dev nD)

theorem emb3_0 (t : Fin cfg0.N) (y : S1024x1024.Idx) : ((win0_3.blk t).view.emb y 0).val = t.val / 16 * 1024 + (y 0).val := by
  blk_simp [idx3 t]
theorem emb3_1 (t : Fin cfg0.N) (y : S1024x1024.Idx) : ((win0_3.blk t).view.emb y 1).val = t.val / 4 % 4 * 1024 + (y 1).val := by
  blk_simp [idx3 t]

theorem block3 (t : Fin cfg0.N) (h : t.val % 4 = 3) (y : S1024x1024.Idx) (i : S4096x4096.Idx) (h0 : (i 0).val = t.val / 16 * 1024 + (y 0).val)
    (h1 : (i 1).val = t.val / 4 % 4 * 1024 + (y 1).val) :
    (outsAt0 m c t.val t.isLt).1 y = Cert.Reference8Ideal.Value.ref (m ((c.tc : Thread nD τ).loc main_arg0)) (m ((c.tc : Thread nD τ).loc main_arg1)) (m ((c.tc : Thread nD τ).loc main_arg2)) i := by
  obtain ⟨r, l, rfl⟩ : ∃ (r l : Fin 1024), y = ix2 r l :=
    ⟨y 0, y 1, by funext a; match a with | ⟨0, _⟩ => rfl | ⟨1, _⟩ => rfl⟩
  obtain rfl : i = ix2 (row t r) (col t l) := by
    funext a; apply Fin.ext
    match a with
    | ⟨0, _⟩ => exact h0
    | ⟨1, _⟩ => exact h1
  exact (acc m c t h r l).trans (Cert.Reference8Ideal.Value.ref_at _ _ _ _ _).symm

theorem cov3 : (cfg0.win 3).Covers := by decide +kernel

theorem arr3 : (dats m 0 c).arrAt 3 (cfgs 0).N =
    Cert.Reference8Ideal.Value.ref (m ((c.tc : Thread nD τ).loc main_arg0)) (m ((c.tc : Thread nD τ).loc main_arg1)) (m ((c.tc : Thread nD τ).loc main_arg2)) :=
  (dats m 0 c).arrAt_eq_of_covers 3 _ cov3 fun t hf y =>
    (congrFun (after0_3 m c t) y).trans (block3 m c t ((flush0_3 t).1 hf) y _ (emb3_0 t y) (emb3_1 t y))

end Cert.Kernel8Ideal.Value

namespace Cert.Acc8

theorem algebraic : Cert.algebraic_Kernel8Ideal_Reference8Ideal := by
  intro m g m' g' hp hm
  refine ⟨fun c => Cert.Reference8Ideal.Value.ref (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    (θ_run (Cert.Kernel8Ideal.defs (F := Ideal)) _ _).mono (fun r h c => ⟨(h c).1.trans (Cert.Kernel8Ideal.Value.arr3 m c), (h c).2⟩) (Cert.Kernel8Ideal.Value.run_blocks (F := Ideal) m g),
    (θ_run (Cert.Reference8Ideal.defs (F := Ideal)) _ _).mono (fun r h c => ?_) (Cert.Reference8Ideal.Value.run (F := Ideal) m' g')⟩
  obtain ⟨h2, ha⟩ := h c
  obtain ⟨e0, e1, e2⟩ := hm c
  refine ⟨h2.trans ?_, ha⟩
  rw [e0, e1, e2]
  rfl

end Cert.Acc8

end
-- ==== Proof.Up9.lean ====
module

public import proofs.«01_k».proof.Defs
public import proofs.«01_k».proof.Proof.Gen.Kernel9Ideal.Value
public import proofs.«01_k».proof.Proof.Gen.Reference9Ideal.Run
public import proofs.«01_k».proof.Proof.Lift
public import Idealize.ShloMosaic.Lib.Pipeline.ValueKit

@[expose] public section

set_option maxRecDepth 16384

/-! The up projection and the activated, convolved gate times it. -/

noncomputable section

open Idealize.ShloMosaic Idealize.ShloMosaic.TcCoe Idealize.SL.Sem

namespace Cert.Up9

/-- The activated gate times the up projection, at one element: the convolution's bias `b`, its taps `c2`, `c1`, `c0` on the
    element's own row `v` and on the two rows before it, `p1` and `p2`, and the up projection `u`. -/
def act (b c2 v c1 p1 c0 p2 u : EReal) : EReal :=
  (b + c2 * v + c1 * p1 + c0 * p2) * Ideal.div 1 (1 + Ideal.exp (0 - (b + c2 * v + c1 * p1 + c0 * p2))) * u

theorem act_congr {b b' c2 c2' v c1 c1' p1 c0 c0' p2 u u' : EReal} (hb : b = b') (h2 : c2 = c2') (h1 : c1 = c1') (h0 : c0 = c0') (hu : u = u') :
    act b c2 v c1 p1 c0 p2 u = act b' c2' v c1' p1 c0' p2 u' := by subst hb h2 h1 h0 hu; rfl

/-- The entry `d` rows before row `R`, zero before the first row. -/
def back (g : Fin 4096 → EReal) (d : ℕ) (R : Fin 4096) : EReal := if d ≤ R.val then g ⟨R.val - d, by omega⟩ else 0

theorem back_of_le (g : Fin 4096 → EReal) (d : ℕ) (R Q : Fin 4096) (h : d ≤ R.val) (hQ : Q.val = R.val - d) : g Q = back g d R := by
  unfold back
  rw [if_pos h]
  exact congrArg g (Fin.ext hQ)

theorem back_of_lt (g : Fin 4096 → EReal) (d : ℕ) (R : Fin 4096) (h : R.val < d) : 0 = back g d R := by
  unfold back
  rw [if_neg (by omega)]

end Cert.Up9

namespace Cert.Reference9Ideal.Value

open Cert.Reference9Ideal Cert.Reference9Ideal.Gen Cert.Up9

/-- The reference's up projection, before its cast. -/
def refU (a : FVec Ideal S4096x4096 .bf16) (w : FVec Ideal S11264x4096 .bf16) : FVec Ideal S4096x11264 .f32 :=
  Host.dotGeneral dot_S4096x4096_S4096x11264_S4096x11264_1_0_0_1_n_n none (extf .f32 a bitsLt_bf16_f32) (transpose S4096x11264 [1, 0] (extf .f32 w bitsLt_bf16_f32) transposes_S11264x4096_S4096x11264_1_0)

/-- The reference's rows with two zero rows before them. -/
def refPad (g : FVec Ideal S4096x11264 .bf16) : FVec Ideal S4098x11264 .f32 :=
  concatenate S4098x11264 0 [⟨S2x11264, (broadcastInDim S2x11264 ![] bcast_S_S2x11264 (constant S_ .f32 0x00000000#32))⟩, ⟨S4096x11264, (extf .f32 g bitsLt_bf16_f32)⟩] concatenates_S2x11264_S4096x11264_S4098x11264_d0

/-- The reference's convolution. -/
def refC (g : FVec Ideal S4096x11264 .bf16) (w : FVec Ideal S3x11264 .f32) (b : FVec Ideal S1x11264 .f32) : FVec Ideal S4096x11264 .f32 :=
  addf (addf (addf (broadcastInDim S4096x11264 ![0, 1] bcast_S1x11264_S4096x11264_0_1 (broadcastInDim S1x11264 ![1] bcast_S11264_S1x11264_1 (shapeCast _ b shapeCasts_S1x11264_S11264)))
    (mulf (extractStridedSlice S4096x11264 ![0, 0] (refPad g) slices_S4098x11264_S4096x11264_0_0) (broadcastInDim S4096x11264 ![0, 1] bcast_S1x11264_S4096x11264_0_1 (broadcastInDim S1x11264 ![1] bcast_S11264_S1x11264_1 (shapeCast _ (extractStridedSlice S1x11264 ![0, 0] w slices_S3x11264_S1x11264_0_0) shapeCasts_S1x11264_S11264)))))
    (mulf (extractStridedSlice S4096x11264 ![1, 0] (refPad g) slices_S4098x11264_S4096x11264_1_0) (broadcastInDim S4096x11264 ![0, 1] bcast_S1x11264_S4096x11264_0_1 (broadcastInDim S1x11264 ![1] bcast_S11264_S1x11264_1 (shapeCast _ (extractStridedSlice S1x11264 ![1, 0] w slices_S3x11264_S1x11264_1_0) shapeCasts_S1x11264_S11264)))))
    (mulf (extractStridedSlice S4096x11264 ![2, 0] (refPad g) slices_S4098x11264_S4096x11264_2_0) (broadcastInDim S4096x11264 ![0, 1] bcast_S1x11264_S4096x11264_0_1 (broadcastInDim S1x11264 ![1] bcast_S11264_S1x11264_1 (shapeCast _ (extractStridedSlice S1x11264 ![2, 0] w slices_S3x11264_S1x11264_2_0) shapeCasts_S1x11264_S11264))))

/-- The reference's two results. -/
def ref0 (a : FVec Ideal S4096x4096 .bf16) (w : FVec Ideal S11264x4096 .bf16) : FVec Ideal S4096x11264 .bf16 := truncf .bf16 (refU a w) bitsLt_bf16_f32
def ref1 (a : FVec Ideal S4096x4096 .bf16) (w : FVec Ideal S11264x4096 .bf16) (g : FVec Ideal S4096x11264 .bf16) (cw : FVec Ideal S3x11264 .f32) (b : FVec Ideal S1x11264 .f32) : FVec Ideal S4096x11264 .bf16 :=
  truncf .bf16 (mulf (mulf (refC g cw b) (Host.divf (broadcastInDim S4096x11264 ![] bcast_S_S4096x11264 (constant S_ .f32 0x3F800000#32)) (addf (broadcastInDim S4096x11264 ![] bcast_S_S4096x11264 (constant S_ .f32 0x3F800000#32)) (Host.exp (Host.negf (refC g cw b)))))) (refU a w)) bitsLt_bf16_f32

theorem res_eq (m : (ℓ : Loc nD τ sig) → Buf (Elt Ideal) ℓ) (c : Dev nD) :
    res_main_v34 m c = ref1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem refU_at (a : FVec Ideal S4096x4096 .bf16) (w : FVec Ideal S11264x4096 .bf16) (r : Fin 4096) (l : Fin 11264) :
    refU a w (ix2 r l) = ∑ k : Fin 4096, (a (ix2 r k) * w (ix2 l k) : EReal) := by
  unfold refU
  pointwise []

theorem ref0_at (a : FVec Ideal S4096x4096 .bf16) (w : FVec Ideal S11264x4096 .bf16) (r : Fin 4096) (l : Fin 11264) :
    ref0 a w (ix2 r l) = ∑ k : Fin 4096, (a (ix2 r k) * w (ix2 l k) : EReal) := refU_at a w r l

theorem refPad_at (g : FVec Ideal S4096x11264 .bf16) (d : ℕ) (hd : d ≤ 2) (R : Fin 4096) (l : Fin 11264) (q : Fin 4098) (hq : q.val = R.val + 2 - d) :
    refPad g (ix2 q l) = back (fun r => g (ix2 r l)) d R := by
  unfold refPad
  pointwise []
  split_ifs with h
  · exact back_of_lt _ d R (by omega)
  · exact back_of_le (fun r => (g (ix2 r l) : EReal)) d R _ (by omega) (by show q.val - 2 = R.val - d; omega)
  · exact absurd rfl ‹_›

theorem refC_at (g : FVec Ideal S4096x11264 .bf16) (w : FVec Ideal S3x11264 .f32) (b : FVec Ideal S1x11264 .f32) (r : Fin 4096) (l : Fin 11264) :
    refC g w b (ix2 r l) = (b (ix2 0 l) : EReal) + w (ix2 2 l) * g (ix2 r l) + w (ix2 1 l) * back (fun q => g (ix2 q l)) 1 r + w (ix2 0 l) * back (fun q => g (ix2 q l)) 2 r := by
  unfold refC
  pointwise []
  rw [refPad_at g 2 (by decide) r l _ (by show r.val = r.val + 2 - 2; omega), refPad_at g 1 (by decide) r l _ (by show 1 + r.val = r.val + 2 - 1; omega),
    refPad_at g 0 (by decide) r l _ (by show 2 + r.val = r.val + 2 - 0; omega)]
  rw [← back_of_le (fun q => (g (ix2 q l) : EReal)) 0 r r (Nat.zero_le _) rfl]
  simp only [mul_comm (w _ : EReal)]
  abel

theorem ref1_at (a : FVec Ideal S4096x4096 .bf16) (w : FVec Ideal S11264x4096 .bf16) (g : FVec Ideal S4096x11264 .bf16) (cw : FVec Ideal S3x11264 .f32) (b : FVec Ideal S1x11264 .f32)
    (r : Fin 4096) (l : Fin 11264) :
    ref1 a w g cw b (ix2 r l) = act (b (ix2 0 l)) (cw (ix2 2 l)) (g (ix2 r l)) (cw (ix2 1 l)) (back (fun q => g (ix2 q l)) 1 r) (cw (ix2 0 l)) (back (fun q => g (ix2 q l)) 2 r)
      (∑ k : Fin 4096, (a (ix2 r k) * w (ix2 l k) : EReal)) := by
  unfold ref1
  pointwise []
  rw [refC_at, refU_at]
  unfold act
  rw [zero_sub]

end Cert.Reference9Ideal.Value

namespace Cert.Kernel9Ideal.Value

open Cert.Kernel9Ideal Cert.Kernel9Ideal.Gen Cert.Up9

theorem pay8_at (i : grid0.Coords) (x0 : Vec Ideal S1024x4096 .bf16) (x1 : Vec Ideal S512x4096 .bf16) (x2 : Vec Ideal S1024x512 .bf16) (x3 : Vec Ideal S16x512 .bf16) (x4 : Vec Ideal S3x512 .f32) (x5 : Vec Ideal S1x512 .f32) (r : Fin 1024) (l : Fin 512) :
    k0_pay8 i x0 x1 x2 x3 x4 x5 (ix2 r l) = ∑ k : Fin 4096, (x0 (ix2 r k) * x1 (ix2 l k) : EReal) := by
  unfold k0_pay8
  open_payloads
  pointwise []

theorem out6_at (i : grid0.Coords) (x0 : Vec Ideal S1024x4096 .bf16) (x1 : Vec Ideal S512x4096 .bf16) (x2 : Vec Ideal S1024x512 .bf16) (x3 : Vec Ideal S16x512 .bf16) (x4 : Vec Ideal S3x512 .f32) (x5 : Vec Ideal S1x512 .f32) (r : Fin 1024) (l : Fin 512) :
    out0_6 i x0 x1 x2 x3 x4 x5 (ix2 r l) = ∑ k : Fin 4096, (x0 (ix2 r k) * x1 (ix2 l k) : EReal) := by
  unfold out0_6 k0_pay8
  canon_tiles x h
  idx_vars x
  open_payloads
  pointwise [h0, h1]
  rw [Fin.ext h0, Fin.ext h1]

theorem sgt0 (n : ℕ) (h : n < 4) : Scalar.cmpi .sgt (BitVec.ofNat 32 n) 0#32 = BitVec.ofBool (decide (0 < n)) := by
  rw [WordCmp.scalar_cmpi_eq, WordCmp.cmpi_sgt_ofNat (by omega) (by omega)]

theorem eqn (n k : ℕ) (h : n < 1024) (hk : k < 1024) : IntOp.cmpi .eq (BitVec.ofNat 32 n) (BitVec.ofNat 32 k) = BitVec.ofBool (decide (n = k)) :=
  WordCmp.cmpi_eq_ofNat (by omega) (by omega)

theorem pay6_at (i : grid0.Coords) (x2 : Vec Ideal S1024x512 .bf16) (x3 : Vec Ideal S16x512 .bf16) (r : Fin 1024) (l : Fin 512) (g : Fin 4096 → EReal) (R : Fin 4096)
    (hR : R.val = (i 0).val * 1024 + r.val) (h2 : ∀ (q : Fin 1024) (Q : Fin 4096), Q.val = (i 0).val * 1024 + q.val → x2 (ix2 q l) = g Q)
    (h3 : 0 < (i 0).val → ∀ (q : Fin 16) (Q : Fin 4096), Q.val + 16 = (i 0).val * 1024 + q.val → x3 (ix2 q l) = g Q) :
    (k0_pay6 i x2 x3 (ix2 r l) : EReal) = back g 1 R := by
  have hi : (i 0).val < 4 := (i 0).isLt
  open_payloads
  pointwise []
  simp only [sgt0 _ hi, eqn _ _ (show r.val < 1024 from r.isLt) (show 0 < 1024 by decide), WordCmp.select_ofBool, decide_eq_true_eq]
  split_ifs with a b d
  · exact (h3 d 15 ⟨R.val - 1, by omega⟩ (by show R.val - 1 + 16 = (i 0).val * 1024 + 15; omega)).trans (back_of_le g 1 R _ (by omega) rfl)
  · exact back_of_lt g 1 R (by omega)
  · exact (h2 _ ⟨R.val - 1, by omega⟩ (by show R.val - 1 = (i 0).val * 1024 + (r.val + 1024 - 1) % 1024; omega)).trans (back_of_le g 1 R _ (by omega) rfl)
  · exact (h2 _ ⟨R.val - 1, by omega⟩ (by show R.val - 1 = (i 0).val * 1024 + (8 + (r.val - 8) + 1024 - 1) % 1024; omega)).trans (back_of_le g 1 R _ (by omega) rfl)
  · exact absurd rfl ‹_›

theorem pay7_at (i : grid0.Coords) (x2 : Vec Ideal S1024x512 .bf16) (x3 : Vec Ideal S16x512 .bf16) (r : Fin 1024) (l : Fin 512) (g : Fin 4096 → EReal) (R : Fin 4096)
    (hR : R.val = (i 0).val * 1024 + r.val) (h2 : ∀ (q : Fin 1024) (Q : Fin 4096), Q.val = (i 0).val * 1024 + q.val → x2 (ix2 q l) = g Q)
    (h3 : 0 < (i 0).val → ∀ (q : Fin 16) (Q : Fin 4096), Q.val + 16 = (i 0).val * 1024 + q.val → x3 (ix2 q l) = g Q) :
    (k0_pay7 i x2 x3 (ix2 r l) : EReal) = back g 2 R := by
  have hi : (i 0).val < 4 := (i 0).isLt
  open_payloads
  pointwise []
  simp only [sgt0 _ hi, eqn _ _ (show r.val < 1024 from r.isLt) (show 0 < 1024 by decide), eqn _ _ (show r.val < 1024 from r.isLt) (show 1 < 1024 by decide), WordCmp.select_ofBool, decide_eq_true_eq]
  split_ifs with a b d e f
  · exact (h3 d 15 ⟨R.val - 2, by omega⟩ (by show R.val - 2 + 16 = (i 0).val * 1024 + 15; omega)).trans (back_of_le g 2 R _ (by omega) rfl)
  · exact back_of_lt g 2 R (by omega)
  · exact (h3 f 14 ⟨R.val - 2, by omega⟩ (by show R.val - 2 + 16 = (i 0).val * 1024 + 14; omega)).trans (back_of_le g 2 R _ (by omega) rfl)
  · exact back_of_lt g 2 R (by omega)
  · exact (h2 _ ⟨R.val - 2, by omega⟩ (by show R.val - 2 = (i 0).val * 1024 + (r.val + 1024 - 2) % 1024; omega)).trans (back_of_le g 2 R _ (by omega) rfl)
  · exact (h2 _ ⟨R.val - 2, by omega⟩ (by show R.val - 2 = (i 0).val * 1024 + (8 + (r.val - 8) + 1024 - 2) % 1024; omega)).trans (back_of_le g 2 R _ (by omega) rfl)
  · exact absurd rfl ‹_›

theorem pay2_at (v2 : FVec Ideal S1024x512 .f32) (v4 : FVec Ideal S1024x512 .f32) (v21 : FVec Ideal S1024x512 .f32) (v38 : FVec Ideal S1024x512 .f32) (v39 : Vec Ideal S1x512 .f32) (v40 : Vec Ideal S1x512 .f32) (v45 : Vec Ideal S1x512 .f32) (v49 : Vec Ideal S1x512 .f32) (r : Fin 1024) (l : Fin 512) :
    (k0_pay2 v2 v4 v21 v38 v39 v40 v45 v49 (ix2 r l) : EReal) =
      act (v39 (ix2 0 l)) (v40 (ix2 0 l)) (v4 (ix2 r l)) (v45 (ix2 0 l)) (v21 (ix2 r l)) (v49 (ix2 0 l)) (v38 (ix2 r l)) (v2 (ix2 r l)) := by
  open_payloads
  pointwise []
  rfl

theorem out7_at (i : grid0.Coords) (a0 : Vec Ideal S1024x4096 .bf16) (a1 : Vec Ideal S512x4096 .bf16) (a2 : Vec Ideal S1024x512 .bf16) (a3 : Vec Ideal S16x512 .bf16) (a4 : Vec Ideal S3x512 .f32) (a5 : Vec Ideal S1x512 .f32) (r : Fin 1024) (l : Fin 512)
    (g : Fin 4096 → EReal) (R : Fin 4096)
    (hR : R.val = (i 0).val * 1024 + r.val) (h2 : ∀ (q : Fin 1024) (Q : Fin 4096), Q.val = (i 0).val * 1024 + q.val → a2 (ix2 q l) = g Q)
    (h3 : 0 < (i 0).val → ∀ (q : Fin 16) (Q : Fin 4096), Q.val + 16 = (i 0).val * 1024 + q.val → a3 (ix2 q l) = g Q) :
    out0_7 i a0 a1 a2 a3 a4 a5 (ix2 r l) = act (a5 (ix2 0 l)) (a4 (ix2 2 l)) (g R) (a4 (ix2 1 l)) (back g 1 R) (a4 (ix2 0 l)) (back g 2 R)
      (∑ k : Fin 4096, (a0 (ix2 r k) * a1 (ix2 l k) : EReal)) := by
  unfold out0_7
  canon_tiles x h
  idx_vars x
  obtain rfl : r = x0 := Fin.ext h0
  obtain rfl : l = x1 := Fin.ext h1
  rw [pay2_at, pay8_at, pay6_at i (View.ld a2 r0_2) (View.ld a3 r0_3) r l g R hR ?_ ?_, pay7_at i (View.ld a2 r0_2) (View.ld a3 r0_3) r l g R hR ?_ ?_]
  · open_payloads
    pointwise []
    rw [h2 r R hR]
  · intro q Q hQ
    pointwise []
    exact h2 q Q hQ
  · intro hp q Q hQ
    pointwise []
    exact h3 hp q Q hQ
  · intro q Q hQ
    pointwise []
    exact h2 q Q hQ
  · intro hp q Q hQ
    pointwise []
    exact h3 hp q Q hQ

variable (m : (ℓ : Loc nD τ sig) → Buf (Elt Ideal) ℓ) (c : Dev nD)

theorem lt88 (t : Fin cfg0.N) : t.val < 88 := lt_of_lt_of_eq t.isLt N_0
theorem crd0 : ∀ t : Fin cfg0.N, (grid0.coords t 0).val = t.val / 22 := (by decide +kernel : ∀ t : Fin grid0.N, _)
theorem idx0 : ∀ t : Fin cfg0.N, win0_0.index t = ![t.val / 22, 0] := (by decide +kernel : ∀ t : Fin grid0.N, _)
theorem idx1 : ∀ t : Fin cfg0.N, win0_1.index t = ![t.val % 22, 0] := (by decide +kernel : ∀ t : Fin grid0.N, _)
theorem idx2 : ∀ t : Fin cfg0.N, win0_2.index t = ![t.val / 22, t.val % 22] := (by decide +kernel : ∀ t : Fin grid0.N, _)
theorem idx3 : ∀ t : Fin cfg0.N, win0_3.index t = ![t.val / 22 * 64 - 1, t.val % 22] := (by decide +kernel : ∀ t : Fin grid0.N, _)
theorem idx4 : ∀ t : Fin cfg0.N, win0_4.index t = ![0, t.val % 22] := (by decide +kernel : ∀ t : Fin grid0.N, _)
theorem idx5 : ∀ t : Fin cfg0.N, win0_5.index t = ![0, t.val % 22] := (by decide +kernel : ∀ t : Fin grid0.N, _)
theorem idx6 : ∀ t : Fin cfg0.N, win0_6.index t = ![t.val / 22, t.val % 22] := (by decide +kernel : ∀ t : Fin grid0.N, _)
theorem idx7 : ∀ t : Fin cfg0.N, win0_7.index t = ![t.val / 22, t.val % 22] := (by decide +kernel : ∀ t : Fin grid0.N, _)

abbrev row (t : Fin cfg0.N) (r : Fin 1024) : Fin 4096 := ⟨t.val / 22 * 1024 + r.val, by have := lt88 t; omega⟩
abbrev col (t : Fin cfg0.N) (l : Fin 512) : Fin 11264 := ⟨t.val % 22 * 512 + l.val, by omega⟩

theorem blk0 (t : Fin cfg0.N) (r : Fin 1024) (k : Fin 4096) : iblk m c 0 t (ix2 r k) = m ((c.tc : Thread nD τ).loc main_arg0) (ix2 (row t r) k) := by
  blk_point [iblk, V, idx0 t]
theorem blk1 (t : Fin cfg0.N) (l : Fin 512) (k : Fin 4096) : iblk m c 1 t (ix2 l k) = m ((c.tc : Thread nD τ).loc main_arg1) (ix2 (col t l) k) := by
  blk_point [iblk, V, idx1 t]
theorem blk2 (t : Fin cfg0.N) (r : Fin 1024) (l : Fin 512) (R : Fin 4096) (hR : R.val = t.val / 22 * 1024 + r.val) :
    iblk m c 2 t (ix2 r l) = m ((c.tc : Thread nD τ).loc main_arg2) (ix2 R (col t l)) := by
  obtain rfl : R = row t r := Fin.ext hR
  blk_point [iblk, V, idx2 t]
theorem blk3 (t : Fin cfg0.N) (r : Fin 16) (l : Fin 512) (R : Fin 4096) (hR : R.val = (t.val / 22 * 64 - 1) * 16 + r.val) :
    iblk m c 3 t (ix2 r l) = m ((c.tc : Thread nD τ).loc main_arg2) (ix2 R (col t l)) := by
  have hl : (t.val / 22 * 64 - 1) * 16 + r.val < 4096 := hR ▸ R.isLt
  rw [show R = ⟨(t.val / 22 * 64 - 1) * 16 + r.val, hl⟩ from Fin.ext hR]
  blk_point [iblk, V, idx3 t]
theorem blk4 (t : Fin cfg0.N) (r : Fin 3) (l : Fin 512) : iblk m c 4 t (ix2 r l) = m ((c.tc : Thread nD τ).loc main_arg3) (ix2 r (col t l)) := by
  blk_point [iblk, V, idx4 t]
theorem blk5 (t : Fin cfg0.N) (r : Fin 1) (l : Fin 512) : iblk m c 5 t (ix2 r l) = m ((c.tc : Thread nD τ).loc main_arg4) (ix2 r (col t l)) := by
  blk_point [iblk, V, idx5 t]

theorem elt6 (t : Fin cfg0.N) (r : Fin 1024) (l : Fin 512) :
    out0_6 (grid0.coords t) (iblk m c 0 t) (iblk m c 1 t) (iblk m c 2 t) (iblk m c 3 t) (iblk m c 4 t) (iblk m c 5 t) (ix2 r l) =
      Cert.Reference9Ideal.Value.ref0 (m ((c.tc : Thread nD τ).loc main_arg0)) (m ((c.tc : Thread nD τ).loc main_arg1)) (ix2 (row t r) (col t l)) := by
  refine (out6_at _ _ _ _ _ _ _ r l).trans (Eq.trans ?_ (Cert.Reference9Ideal.Value.ref0_at _ _ _ _).symm)
  exact Finset.sum_congr rfl fun k _ => congrArg₂ (fun x y : EReal => x * y) (blk0 m c t r k) (blk1 m c t l k)

theorem elt7 (t : Fin cfg0.N) (r : Fin 1024) (l : Fin 512) :
    out0_7 (grid0.coords t) (iblk m c 0 t) (iblk m c 1 t) (iblk m c 2 t) (iblk m c 3 t) (iblk m c 4 t) (iblk m c 5 t) (ix2 r l) =
      Cert.Reference9Ideal.Value.ref1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 (row t r) (col t l)) := by
  have hc := crd0 t
  refine (out7_at _ _ _ _ _ _ _ r l (fun R => m ((c.tc : Thread nD τ).loc main_arg2) (ix2 R (col t l))) (row t r)
    (by show t.val / 22 * 1024 + r.val = _; rw [hc]) (fun q Q hQ => blk2 m c t q l Q (by rw [hQ, hc]))
    (fun hp q Q hQ => blk3 m c t q l Q (by rw [hc] at hp hQ; omega))).trans (Eq.trans ?_ (Cert.Reference9Ideal.Value.ref1_at _ _ _ _ _ _ _).symm)
  exact act_congr (blk5 m c t 0 l) (blk4 m c t 2 l) (blk4 m c t 1 l) (blk4 m c t 0 l)
    (Finset.sum_congr rfl fun k _ => congrArg₂ (fun x y : EReal => x * y) (blk0 m c t r k) (blk1 m c t l k))

theorem ix_eta {a b : ℕ} (y : Shape.Idx ⟨2, ![a, b]⟩) : y = ix2 (y 0) (y 1) := by
  funext x
  match x with
  | ⟨0, _⟩ => rfl
  | ⟨1, _⟩ => rfl

theorem emb6 (t : Fin cfg0.N) (y : S1024x512.Idx) : (win0_6.blk t).view.emb y = ix2 (row t (y 0)) (col t (y 1)) := by
  funext x; apply Fin.ext
  match x with
  | ⟨0, _⟩ => show ((win0_6.blk t).view.emb y 0).val = t.val / 22 * 1024 + (y 0).val; blk_simp [idx6 t]
  | ⟨1, _⟩ => show ((win0_6.blk t).view.emb y 1).val = t.val % 22 * 512 + (y 1).val; blk_simp [idx6 t]
theorem emb7 (t : Fin cfg0.N) (y : S1024x512.Idx) : (win0_7.blk t).view.emb y = ix2 (row t (y 0)) (col t (y 1)) := by
  funext x; apply Fin.ext
  match x with
  | ⟨0, _⟩ => show ((win0_7.blk t).view.emb y 0).val = t.val / 22 * 1024 + (y 0).val; blk_simp [idx7 t]
  | ⟨1, _⟩ => show ((win0_7.blk t).view.emb y 1).val = t.val % 22 * 512 + (y 1).val; blk_simp [idx7 t]

theorem cov6 : (cfg0.win 6).Covers := by decide +kernel
theorem cov7 : (cfg0.win 7).Covers := by decide +kernel

theorem arr6 : (dats m 0 c).arrAt 6 (cfgs 0).N =
    Cert.Reference9Ideal.Value.ref0 (m ((c.tc : Thread nD τ).loc main_arg0)) (m ((c.tc : Thread nD τ).loc main_arg1)) :=
  (dats m 0 c).arrAt_eq_of_covers 6 _ cov6 fun t _ y => by
    refine (congrFun (after0_6 m c t) y).trans ?_
    rw [show ((cfg0.win 6).blk t).view.emb y = ix2 (row t (y 0)) (col t (y 1)) from emb6 t y]
    exact (congrArg _ (ix_eta y)).trans (elt6 m c t (y 0) (y 1))

theorem arr7 : (dats m 0 c).arrAt 7 (cfgs 0).N =
    Cert.Reference9Ideal.Value.ref1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (dats m 0 c).arrAt_eq_of_covers 7 _ cov7 fun t _ y => by
    refine (congrFun (after0_7 m c t) y).trans ?_
    rw [show ((cfg0.win 7).blk t).view.emb y = ix2 (row t (y 0)) (col t (y 1)) from emb7 t y]
    exact (congrArg _ (ix_eta y)).trans (elt7 m c t (y 0) (y 1))

end Cert.Kernel9Ideal.Value

namespace Cert.Up9

theorem algebraic : Cert.algebraic_Kernel9Ideal_Reference9Ideal := by
  intro m g m' g' hp hm
  refine ⟨_, _,
    (θ_run (Cert.Kernel9Ideal.defs (F := Ideal)) _ _).mono (fun r h c => ⟨(h c).1.trans (Cert.Kernel9Ideal.Value.arr6 m c), (h c).2.1.trans (Cert.Kernel9Ideal.Value.arr7 m c), (h c).2.2⟩) (Cert.Kernel9Ideal.Value.run_blocks (F := Ideal) m g),
    (θ_run (Cert.Reference9Ideal.defs (F := Ideal)) _ _).mono (fun r h c => ?_) (Cert.Reference9Ideal.Value.run (F := Ideal) m' g')⟩
  obtain ⟨h2, h3, ha⟩ := h c
  obtain ⟨e0, e1, e2, e3, e4⟩ := hm c
  refine ⟨h2.trans ?_, h3.trans ((Cert.Reference9Ideal.Value.res_eq m' c).trans ?_), ha⟩
  · rw [e0, e1]
    rfl
  · rw [e0, e1, e2, e3, e4]

end Cert.Up9

end
-- ==== Proof.RetPins.lean ====
module

public import proofs.«01_k».proof.Defs
public import proofs.«01_k».proof.Proof.Gen.Pre_tables
public import proofs.«01_k».proof.Proof.Gen.Pre_finite10
public import proofs.«01_k».proof.Proof.Gen.Kernel10.Flash
public import proofs.«01_k».proof.Proof.Gen.Kernel10Ideal.Flash
public import proofs.«01_k».proof.Proof.Lift

@[expose] public section

set_option maxRecDepth 16384

/-! The preconditions of the recurrence's forward call, read: the two tables hold the pairs of a query block and a key block
not after it, and the arrays are real. -/

noncomputable section

open Idealize.ShloMosaic Idealize.ShloMosaic.TcCoe Idealize.SL.Sem

namespace Cert.RetPins

open Cert.Lift

theorem words0 : ∀ i : Cert.Pre_tables.S36.Idx, Cert.Pre_tables.lit0 (Cert.Pre_tables.S36.rowMajor i) = Cert.Kernel10Ideal.Gen.pinT_0 0 i := by
  decide +kernel

theorem words1 : ∀ i : Cert.Pre_tables.S36.Idx, Cert.Pre_tables.lit1 (Cert.Pre_tables.S36.rowMajor i) = Cert.Kernel10Ideal.Gen.pinT_1 0 i := by
  decide +kernel

theorem andi_one {a b : IVec Cert.Pre_tables.S_ 1} (h : andi a b = fun _ => 1#1) : a = (fun _ => 1#1) ∧ b = fun _ => 1#1 := by
  constructor <;> funext i <;> have := congrFun h i <;> simp only [andi] at this
  · exact (IntOp.andi_eq_one.1 this).1
  · exact (IntOp.andi_eq_one.1 this).2

instance : Subsingleton Cert.Pre_tables.S_.Idx := ⟨fun a b => funext fun i => i.elim0⟩

/-- A table all of whose entries compare equal to given words holds those words. -/
theorem all_eq {s t u : Shape} {axes : List (Fin s.rank)} [Subsingleton t.Idx] (x b : IVec s 32)
    (init : IVec u 1) (h : s.ReducesTo axes t) (hu : 0 < u.numel) (j : t.Idx)
    (hx : Host.reduce IntOp.andi (cmpi .eq x b) init h hu j = 1#1) : x = b := by
  funext i
  have e := Host.reduce_andi_all _ init h hu j hx i
  by_contra hne
  simp only [cmpi, IntOp.cmpi, beq_iff_eq] at e
  have : (x i == b i) = false := beq_eq_false_iff_ne.2 hne
  rw [this] at e
  exact absurd e (by decide)

theorem tables_read {F : FTy → Type} [FloatOps F] (i j : IVec Cert.Pre_tables.S36 32) (lg : FVec F Cert.Pre_tables.S8 .f32)
    (q k v : FVec F Cert.Pre_tables.S4096x2048 .bf16) (p : FVec F Cert.Pre_tables.S4096x10240 .f32)
    (h : Cert.Pre_tables.fn (F := F) i j lg q k v p = fun _ => 1#1) :
    i = Cert.Kernel10Ideal.Gen.pinT_0 0 ∧ j = Cert.Kernel10Ideal.Gen.pinT_1 0 := by
  unfold Cert.Pre_tables.fn at h
  obtain ⟨h0, h1⟩ := andi_one h
  have z : Cert.Pre_tables.S_.Idx := fun i => i.elim0
  exact ⟨(all_eq _ _ _ _ _ z (congrFun h0 z)).trans (funext words0), (all_eq _ _ _ _ _ z (congrFun h1 z)).trans (funext words1)⟩

theorem finite_read (i j : IVec Cert.Pre_tables.S36 32) (lg : FVec Ideal Cert.Pre_tables.S8 .f32)
    (q k v : FVec Ideal Cert.Pre_tables.S4096x2048 .bf16) (p : FVec Ideal Cert.Pre_tables.S4096x10240 .f32)
    (h : Cert.Pre_finite10.fn (F := Ideal) i j lg q k v p = fun _ => 1#1) :
    (i = Cert.Kernel10Ideal.Gen.pinT_0 0 ∧ j = Cert.Kernel10Ideal.Gen.pinT_1 0)
    ∧ (∀ x, lg x = (((lg x).toReal : ℝ) : EReal)) ∧ (∀ x, q x = (((q x).toReal : ℝ) : EReal))
    ∧ (∀ x, k x = (((k x).toReal : ℝ) : EReal)) ∧ ∀ x, v x = (((v x).toReal : ℝ) : EReal) := by
  unfold Cert.Pre_finite10.fn Cert.Pre_finite10.fn_part1 at h
  obtain ⟨h, h5⟩ := andi_one h
  obtain ⟨h, h4⟩ := andi_one h
  obtain ⟨h, h3⟩ := andi_one h
  obtain ⟨h, h2⟩ := andi_one h
  obtain ⟨h0, h1⟩ := andi_one h
  have z : Cert.Pre_tables.S_.Idx := fun i => i.elim0
  exact ⟨⟨(all_eq _ _ _ _ _ z (congrFun h0 z)).trans (funext words0), (all_eq _ _ _ _ _ z (congrFun h1 z)).trans (funext words1)⟩,
    all_real lg _ (fun _ => ofBits_inf_f32) _ _ _ z (congrFun h2 z), all_real q _ (fun _ => ofBits_inf_bf16) _ _ _ z (congrFun h3 z),
    all_real k _ (fun _ => ofBits_inf_bf16) _ _ _ z (congrFun h4 z), all_real v _ (fun _ => ofBits_inf_bf16) _ _ _ z (congrFun h5 z)⟩

theorem pinned (m : (ℓ : Loc Cert.Kernel10.nD Cert.Kernel10.τ Cert.Kernel10.sig) → Buf (Elt Bits) ℓ) (h : Cert.Pre_Kernel10 m) :
    Cert.Kernel10.Gen.Pinned 0 m := ⟨fun c => (tables_read _ _ _ _ _ _ _ (h c)).1, fun c => (tables_read _ _ _ _ _ _ _ (h c)).2⟩

theorem pinned_ideal (m : (ℓ : Loc Cert.Kernel10Ideal.nD Cert.Kernel10Ideal.τ Cert.Kernel10Ideal.sig) → Buf (Elt Ideal) ℓ)
    (h : Cert.Pre_Kernel10Ideal m) : Cert.Kernel10Ideal.Gen.Pinned 0 m :=
  ⟨fun c => (tables_read _ _ _ _ _ _ _ (h c)).1, fun c => (tables_read _ _ _ _ _ _ _ (h c)).2⟩

theorem pinned_finite (m : (ℓ : Loc Cert.Kernel10Ideal.nD Cert.Kernel10Ideal.τ Cert.Kernel10Ideal.sig) → Buf (Elt Ideal) ℓ)
    (h : Cert.Pre_Kernel10Ideal_finite10 m) : Cert.Kernel10Ideal.Gen.Pinned 0 m :=
  ⟨fun c => (finite_read _ _ _ _ _ _ _ (h c)).1.1, fun c => (finite_read _ _ _ _ _ _ _ (h c)).1.2⟩

theorem frame_bits : Cert.quiescent_Kernel10 := fun m ρ h => Cert.Kernel10.Gen.frame 0 m ρ (pinned m h)

theorem frame_ideal : Cert.quiescent_Kernel10Ideal := fun m ρ h => Cert.Kernel10Ideal.Gen.frame 0 m ρ (pinned_ideal m h)

theorem frame_finite : Cert.quiescent_Kernel10Ideal_pre_finite10 := fun m ρ h => Cert.Kernel10Ideal.Gen.frame 0 m ρ (pinned_finite m h)

end Cert.RetPins

end
-- ==== Proof.RetMath.lean ====
module

public import proofs.«01_k».proof.Proof.Lift

@[expose] public section

/-! The recurrence of one head over the reals: the row at `n` is a decayed sum over the rows of its own chunk of 64 and of the
chunks before it. It is reached by the chunked recurrence and by the blocks of 512 rows alike. -/

noncomputable section

namespace Cert.Ret

variable (lg : ℝ) (q k v : ℕ → Fin 256 → ℝ)

def score (n m : ℕ) : ℝ := ∑ e : Fin 256, q n e * k m e

/-- One row's part of the result. -/
def part (n : ℕ) (d : Fin 256) (m : ℕ) : ℝ := score q k n m * Real.exp (lg * |(n : ℝ) - m|) * v m d

/-- The result's row `n`. -/
def raw (n : ℕ) (d : Fin 256) : ℝ := ∑ m ∈ Finset.range (64 * (n / 64 + 1)), part lg q k v n d m

/-- The recurrence's state before chunk `c`. -/
def state (c : ℕ) (e d : Fin 256) : ℝ := ∑ m ∈ Finset.range (64 * c), k m e * Real.exp (lg * ((64 * c : ℝ) - 1 - m)) * v m d

theorem state_zero (e d : Fin 256) : state lg k v 0 e d = 0 := by simp [state]

theorem state_succ (c : ℕ) (e d : Fin 256) :
    state lg k v (c + 1) e d = state lg k v c e d * Real.exp (lg * 64) +
      ∑ r : Fin 64, k (64 * c + r) e * Real.exp (lg * (63 - (r.val : ℝ))) * v (64 * c + r) d := by
  unfold state
  rw [show 64 * (c + 1) = 64 * c + 64 by ring, Finset.sum_range_add, Finset.sum_mul, Finset.sum_range (n := 64)]
  congr 1
  · refine Finset.sum_congr rfl fun m _ => ?_
    have : Real.exp (lg * (64 * ((c + 1 : ℕ) : ℝ) - 1 - m)) = Real.exp (lg * (64 * (c : ℝ) - 1 - m)) * Real.exp (lg * 64) := by
      rw [← Real.exp_add]; congr 1; push_cast; ring
    rw [this]; ring
  · refine Finset.sum_congr rfl fun r _ => ?_
    have : (lg * (64 * ((c + 1 : ℕ) : ℝ) - 1 - ((64 * c + r.val : ℕ) : ℝ))) = lg * (63 - (r.val : ℝ)) := by push_cast; ring
    rw [this]

theorem raw_chunk (c : ℕ) (r : Fin 64) (d : Fin 256) :
    raw lg q k v (64 * c + r) d =
      (∑ r' : Fin 64, (∑ e : Fin 256, q (64 * c + r) e * k (64 * c + r') e) * Real.exp (lg * |(r.val : ℝ) - r'.val|) * v (64 * c + r') d) +
      ∑ e : Fin 256, q (64 * c + r) e * Real.exp (lg * ((r.val : ℝ) + 1)) * state lg k v c e d := by
  unfold raw state
  rw [show (64 * c + r.val) / 64 + 1 = c + 1 by omega, show 64 * (c + 1) = 64 * c + 64 by ring, Finset.sum_range_add, add_comm,
    Finset.sum_range (n := 64)]
  congr 1
  · refine Finset.sum_congr rfl fun r' _ => ?_
    unfold part score
    have : ((64 * c + r.val : ℕ) : ℝ) - ((64 * c + r'.val : ℕ) : ℝ) = (r.val : ℝ) - r'.val := by push_cast; ring
    rw [this]
  · simp only [Finset.mul_sum]
    rw [Finset.sum_comm]
    refine Finset.sum_congr rfl fun m hm => ?_
    unfold part score
    have hm' : m < 64 * c := Finset.mem_range.1 hm
    have hle : (m : ℝ) ≤ ((64 * c + r.val : ℕ) : ℝ) := by exact_mod_cast (by omega : m ≤ 64 * c + r.val)
    have : Real.exp (lg * |((64 * c + r.val : ℕ) : ℝ) - m|) = Real.exp (lg * ((r.val : ℝ) + 1)) * Real.exp (lg * (64 * (c : ℝ) - 1 - m)) := by
      rw [abs_of_nonneg (sub_nonneg.2 hle), ← Real.exp_add]; congr 1; push_cast; ring
    rw [this, Finset.sum_mul, Finset.sum_mul]
    refine Finset.sum_congr rfl fun e _ => ?_
    ring

/-- One block of 512 keys before the query block. -/
def full (i j : ℕ) (r : Fin 512) (d : Fin 256) : ℝ :=
  ∑ c : Fin 512, (∑ e : Fin 256, q (512 * i + r) e * k (512 * j + c) e) * Real.exp (lg * r.val) * Real.exp (lg * ((512 * (i - j) : ℝ) - c.val)) * v (512 * j + c) d

/-- The query block's own keys. -/
def diag (i : ℕ) (r : Fin 512) (d : Fin 256) : ℝ :=
  ∑ c : Fin 512, (∑ e : Fin 256, q (512 * i + r) e * k (512 * i + c) e) * (if c.val / 64 ≤ r.val / 64 then Real.exp (lg * |(r.val : ℝ) - c.val|) else 0) * v (512 * i + c) d

/-- What the blocks before `j` add up to. -/
def acc (i j : ℕ) (r : Fin 512) (d : Fin 256) : ℝ := ∑ j' ∈ Finset.range j, full lg q k v i j' r d

theorem full_eq (i j : ℕ) (hj : j < i) (r : Fin 512) (d : Fin 256) :
    full lg q k v i j r d = ∑ c ∈ Finset.range 512, part lg q k v (512 * i + r) d (512 * j + c) := by
  rw [Finset.sum_range]
  refine Finset.sum_congr rfl fun c _ => ?_
  unfold part score
  have hle : ((512 * j + c.val : ℕ) : ℝ) ≤ ((512 * i + r.val : ℕ) : ℝ) := by exact_mod_cast (by omega : 512 * j + c.val ≤ 512 * i + r.val)
  have : Real.exp (lg * |((512 * i + r.val : ℕ) : ℝ) - ((512 * j + c.val : ℕ) : ℝ)|) = Real.exp (lg * r.val) * Real.exp (lg * ((512 * (i - j) : ℝ) - c.val)) := by
    rw [abs_of_nonneg (sub_nonneg.2 hle), ← Real.exp_add]; congr 1; push_cast; ring
  rw [this]; ring

theorem acc_eq (i j : ℕ) (hj : j ≤ i) (r : Fin 512) (d : Fin 256) :
    acc lg q k v i j r d = ∑ m ∈ Finset.range (512 * j), part lg q k v (512 * i + r) d m := by
  induction j with
  | zero => simp [acc]
  | succ j ih =>
    unfold acc at ih ⊢
    rw [Finset.sum_range_succ, ih (by omega), full_eq lg q k v i j (by omega), show 512 * (j + 1) = 512 * j + 512 by ring, Finset.sum_range_add]

theorem raw_block (i : ℕ) (r : Fin 512) (d : Fin 256) :
    acc lg q k v i i r d + diag lg q k v i r d = raw lg q k v (512 * i + r) d := by
  rw [acc_eq lg q k v i i le_rfl]
  unfold raw
  rw [show (512 * i + r.val) / 64 + 1 = 8 * i + (r.val / 64 + 1) by omega, show 64 * (8 * i + (r.val / 64 + 1)) = 512 * i + 64 * (r.val / 64 + 1) by ring,
    Finset.sum_range_add]
  congr 1
  have hb : 64 * (r.val / 64 + 1) ≤ 512 := by omega
  unfold diag
  rw [← Finset.sum_range (n := 512) (fun c => (∑ e : Fin 256, q (512 * i + r) e * k (512 * i + c) e) *
    (if c / 64 ≤ r.val / 64 then Real.exp (lg * |(r.val : ℝ) - c|) else 0) * v (512 * i + c) d)]
  refine (Finset.sum_subset (Finset.range_subset_range.2 hb) fun c _ hc => ?_).symm.trans (Finset.sum_congr rfl fun c hc => ?_)
  · rw [if_neg (by have := Finset.mem_range.not.1 hc; omega), mul_zero, zero_mul]
  · rw [if_pos (by have := Finset.mem_range.1 hc; omega)]
    unfold part score
    have : ((512 * i + r.val : ℕ) : ℝ) - ((512 * i + c : ℕ) : ℝ) = (r.val : ℝ) - c := by push_cast; ring
    rw [this]

end Cert.Ret

end
-- ==== Proof.RetRef.lean ====
module

public import proofs.«01_k».proof.Proof.Gen.Reference10Ideal.Run
public import Idealize.ShloMosaic.Lib.DynamicIndex
public import proofs.«01_k».proof.Proof.Lift
public import proofs.«01_k».proof.Proof.RetMath

@[expose] public section

set_option maxRecDepth 16384

noncomputable section

open Idealize.ShloMosaic Idealize.ShloMosaic.TcCoe Idealize.SL.Sem Idealize.ShloMosaic.StableHlo

namespace Cert.Reference10Ideal.Value

open Cert.Reference10Ideal Cert.Reference10Ideal.Gen Cert.Lift

variable (m : (ℓ : Loc nD τ sig) → Buf (Elt Ideal) ℓ) (c : Dev nD)

/-- An array of heads cut into chunks. -/
def chunks (x : FVec Ideal S4096x2048 .bf16) : FVec Ideal S64x1x8x64x256 .f32 :=
  transpose S64x1x8x64x256 [1, 0, 3, 2, 4] (shapeCast S1x64x64x8x256 (shapeCast S1x4096x8x256 (extf .f32 x bitsLt_bf16_f32) shapeCasts_S4096x2048_S1x4096x8x256)
    shapeCasts_S1x4096x8x256_S1x64x64x8x256) transposes_S1x64x64x8x256_S64x1x8x64x256_1_0_3_2_4

/-- The place of a chunk's row, and of a head's column. -/
abbrev rowOf (k : Fin 64) (r : Fin 64) : Fin 4096 := ⟨64 * k.val + r.val, by omega⟩
abbrev colOf (h : Fin 8) (e : Fin 256) : Fin 2048 := ⟨h.val * 256 + e.val, by omega⟩

theorem chunks_at (x : FVec Ideal S4096x2048 .bf16) (k r : Fin 64) (h : Fin 8) (e : Fin 256) :
    chunks x (ix5 k 0 h r e) = x (ix2 (rowOf k r) (colOf h e)) := by
  unfold chunks
  pointwise []
  all_goals first | rfl | (congr 1; apply congrArg₂ <;> apply Fin.ext <;> simp <;> omega)

theorem entry0 : entryContents preI m c (Proc.devRef .tc main_v49_0) = chunks (m ((c.tc : Thread nD τ).loc main_arg3)) := by
  simp only [entryContents, afterL_cons, afterL_nil]
  after_reads_simp
  rfl
theorem entry1 : entryContents preI m c (Proc.devRef .tc main_v49_1) = chunks (m ((c.tc : Thread nD τ).loc main_arg4)) := by
  simp only [entryContents, afterL_cons, afterL_nil]
  after_reads_simp
  rfl
theorem entry2 : entryContents preI m c (Proc.devRef .tc main_v49_2) = chunks (m ((c.tc : Thread nD τ).loc main_arg5)) := by
  simp only [entryContents, afterL_cons, afterL_nil]
  after_reads_simp
  rfl
/-- The decays inside a chunk, from the chunk's start, to the chunk's end, and over a chunk. -/
def inner (lg : FVec Ideal S8 .f32) : FVec Ideal S8x64x64 .f32 :=
  Host.exp (mulf (broadcastInDim S8x64x64 ![0, 1, 2] bcast_S8x1x1_S8x64x64_0_1_2 (broadcastInDim S8x1x1 ![0] bcast_S8_S8x1x1_0 lg))
    (broadcastInDim S8x64x64 ![0, 1, 2] bcast_S1x64x64_S8x64x64_0_1_2 (broadcastInDim S1x64x64 ![1, 2] bcast_S64x64_S1x64x64_1_2
      (Host.absf (subf (broadcastInDim S64x64 ![0, 1] bcast_S64x1_S64x64_0_1 (broadcastInDim S64x1 ![0] bcast_S64_S64x1_0 (sitofp .f32 (iotaInDim S64 32 0))))
        (broadcastInDim S64x64 ![0, 1] bcast_S1x64_S64x64_0_1 (broadcastInDim S1x64 ![1] bcast_S64_S1x64_1 (sitofp .f32 (iotaInDim S64 32 0)))))))))
def qdec (lg : FVec Ideal S8 .f32) : FVec Ideal S8x64x1 .f32 :=
  broadcastInDim S8x64x1 ![0, 1] bcast_S8x64_S8x64x1_0_1 (Host.exp (mulf (broadcastInDim S8x64 ![0, 1] bcast_S8x1_S8x64_0_1 (broadcastInDim S8x1 ![0] bcast_S8_S8x1_0 lg))
    (broadcastInDim S8x64 ![0, 1] bcast_S1x64_S8x64_0_1 (broadcastInDim S1x64 ![1] bcast_S64_S1x64_1
      (addf (sitofp .f32 (iotaInDim S64 32 0)) (broadcastInDim S64 ![] bcast_S_S64 (constant S_ .f32 0x3F800000#32)))))))
def kdec (lg : FVec Ideal S8 .f32) : FVec Ideal S8x64x1 .f32 :=
  broadcastInDim S8x64x1 ![0, 1] bcast_S8x64_S8x64x1_0_1 (Host.exp (mulf (broadcastInDim S8x64 ![0, 1] bcast_S8x1_S8x64_0_1 (broadcastInDim S8x1 ![0] bcast_S8_S8x1_0 lg))
    (broadcastInDim S8x64 ![0, 1] bcast_S1x64_S8x64_0_1 (broadcastInDim S1x64 ![1] bcast_S64_S1x64_1
      (subf (broadcastInDim S64 ![] bcast_S_S64 (constant S_ .f32 0x427C0000#32)) (sitofp .f32 (iotaInDim S64 32 0)))))))
def sdec (lg : FVec Ideal S8 .f32) : FVec Ideal S8x1x1 .f32 :=
  broadcastInDim S8x1x1 ![0] bcast_S8_S8x1x1_0 (Host.exp (mulf lg (broadcastInDim S8 ![] bcast_S_S8 (constant S_ .f32 0x42800000#32))))

theorem entry3 : entryContents preI m c (Proc.devRef .tc main_v49_3) = inner (m ((c.tc : Thread nD τ).loc main_arg2)) := by
  simp only [entryContents, afterL_cons, afterL_nil]
  after_reads_simp
  rfl
theorem entry4 : entryContents preI m c (Proc.devRef .tc main_v49_4) = qdec (m ((c.tc : Thread nD τ).loc main_arg2)) := by
  simp only [entryContents, afterL_cons, afterL_nil]
  after_reads_simp
  rfl
theorem entry5 : entryContents preI m c (Proc.devRef .tc main_v49_5) = sdec (m ((c.tc : Thread nD τ).loc main_arg2)) := by
  simp only [entryContents, afterL_cons, afterL_nil]
  after_reads_simp
  rfl
theorem entry6 : entryContents preI m c (Proc.devRef .tc main_v49_6) = kdec (m ((c.tc : Thread nD τ).loc main_arg2)) := by
  simp only [entryContents, afterL_cons, afterL_nil]
  after_reads_simp
  rfl
theorem entry8 : entryContents preI m c (Proc.devRef .tc main_v49_8) = broadcastInDim S1x8x256x256 ![] bcast_S_S1x8x256x256 (constant (F := Ideal) S_ .f32 0x00000000#32) := by
  simp only [entryContents, afterL_cons, afterL_nil]
  after_reads_simp
  rfl

theorem word_real (n : ℕ) (hn : n < 512) : FloatOps.sitofp (F := Ideal) FTy.f32 (BitVec.ofNat 32 n) = ((n : ℝ) : EReal) := by
  show (((BitVec.ofNat 32 n).toInt : ℝ) : EReal) = _
  rw [toInt_ofNat_of_lt (by omega)]
  rfl
theorem ofBits_63 : Ideal.ofBits .f32 1115422720#32 = ((63 : ℝ) : EReal) := by
  simp [Ideal.ofBits, Ideal.ieee, -EReal.coe_mul]; norm_num
theorem ofBits_64 : Ideal.ofBits .f32 1115684864#32 = ((64 : ℝ) : EReal) := by
  simp [Ideal.ofBits, Ideal.ieee, -EReal.coe_mul]; norm_num

variable (lg : FVec Ideal S8 .f32) (h : Fin 8) (a : ℝ) (ha : lg (ix1 h) = ((a : ℝ) : EReal))

include ha in
theorem inner_at (r s : Fin 64) : inner lg (ix3 h r s) = ((Real.exp (a * |(r.val : ℝ) - (s.val : ℝ)|) : ℝ) : EReal) := by
  unfold inner
  pointwise []
  rw [ha, word_real _ (by omega), word_real _ (by omega), ← EReal.coe_sub]
  show Ideal.exp ((a : EReal) * max (((r.val : ℝ) - (s.val : ℝ) : ℝ) : EReal) (-(((r.val : ℝ) - (s.val : ℝ) : ℝ) : EReal))) = _
  rw [← EReal.coe_neg, ← EReal.coe_strictMono.monotone.map_max, ← EReal.coe_mul, exp_coe]
  rfl
include ha in
theorem qdec_at (r : Fin 64) : qdec lg (ix3 h r 0) = ((Real.exp (a * ((r.val : ℝ) + 1)) : ℝ) : EReal) := by
  unfold qdec
  pointwise []
  rw [ha, word_real _ (by omega), ← EReal.coe_one, ← EReal.coe_add, ← EReal.coe_mul, exp_coe]
include ha in
theorem kdec_at (r : Fin 64) : kdec lg (ix3 h r 0) = ((Real.exp (a * (63 - (r.val : ℝ))) : ℝ) : EReal) := by
  unfold kdec
  pointwise []
  rw [ha, word_real _ (by omega), ofBits_63, ← EReal.coe_sub, ← EReal.coe_mul, exp_coe]
include ha in
theorem sdec_at : sdec lg (ix3 h 0 0) = ((Real.exp (a * 64) : ℝ) : EReal) := by
  unfold sdec
  pointwise []
  rw [ha, ofBits_64, ← EReal.coe_mul, exp_coe]

/-- One chunk of an array of chunks. -/
theorem cut (x : FVec Ideal S64x1x8x64x256 .f32) (w : IVec S_ 32) (k : Fin 64) (hw : w = fun _ => BitVec.ofNat 32 k.val) (r : Fin 64) (e : Fin 256) :
    shapeCast S1x8x64x256 (Host.dynamicSlice S1x1x8x64x256 x (fun b => (((![w, constantI S_ 32 0#32, constantI S_ 32 0#32, constantI S_ 32 0#32, constantI S_ 32 0#32] : Fin 5 → (⟨S_, .i32⟩ : BufTy).Contents (Elt Ideal))) b (Shape.Idx.first h_S_)).toInt)
      sliceFits_S64x1x8x64x256_S1x1x8x64x256) shapeCasts_S1x1x8x64x256_S1x8x64x256 (ix4 0 h r e) = x (ix5 k 0 h r e) := by
  have hoff : S64x1x8x64x256.Slices ![k.val, 0, 0, 0, 0] S1x1x8x64x256 :=
    ⟨rfl, fun b => by fin_cases b <;> simp [Shape.size] <;> omega⟩
  rw [Host.dynamicSlice_eq_extractStridedSlice _ _ _ ![k.val, 0, 0, 0, 0] _ hoff (fun b => by
    subst hw
    fin_cases b <;> first | exact toInt_ofNat_of_lt (by omega) | rfl)]
  pointwise []

/-- An array of chunks with one replaced. -/
theorem put (x : FVec Ideal S64x1x8x64x256 .f32) (u : FVec Ideal S1x1x8x64x256 .f32) (w : IVec S_ 32) (k : Fin 64) (hw : w = fun _ => BitVec.ofNat 32 k.val) (k' r : Fin 64) (e : Fin 256) :
    Host.dynamicUpdateSlice x u (fun b => (((![w, constantI S_ 32 0#32, constantI S_ 32 0#32, constantI S_ 32 0#32, constantI S_ 32 0#32] : Fin 5 → (⟨S_, .i32⟩ : BufTy).Contents (Elt Ideal))) b (Shape.Idx.first h_S_)).toInt)
      updateFits_S64x1x8x64x256_S1x1x8x64x256 (ix5 k' 0 h r e) = if k' = k then u (ix5 0 0 h r e) else x (ix5 k' 0 h r e) := by
  have hoff : S64x1x8x64x256.Slices ![k.val, 0, 0, 0, 0] S1x1x8x64x256 :=
    ⟨rfl, fun b => by fin_cases b <;> simp [Shape.size] <;> omega⟩
  have hs : ∀ b, (((![w, constantI S_ 32 0#32, constantI S_ 32 0#32, constantI S_ 32 0#32, constantI S_ 32 0#32] : Fin 5 → (⟨S_, .i32⟩ : BufTy).Contents (Elt Ideal))) b (Shape.Idx.first h_S_)).toInt = ((![k.val, 0, 0, 0, 0] : Fin 5 → ℕ) b : ℤ) := fun b => by
    subst hw
    fin_cases b <;> first | exact toInt_ofNat_of_lt (by omega) | rfl
  rw [Host.dynamicUpdateSlice_eq_updateSlice _ _ _ _ ![k.val, 0, 0, 0, 0] (fun b => by have := hoff.2 b; rw [hs b]; omega) hoff]
  pointwise []
  by_cases e : k' = k
  · subst e
    rw [dif_pos (by omega), if_pos rfl]
    congr 2
    apply Fin.ext
    simp
  · rw [dif_neg (fun hh => e (Fin.ext (by omega))), if_neg e]

end Cert.Reference10Ideal.Value

end
-- ==== Proof.RetRefB.lean ====
module

public import proofs.«01_k».proof.Proof.RetRef

@[expose] public section

set_option maxRecDepth 16384

noncomputable section

open Idealize.ShloMosaic Idealize.ShloMosaic.TcCoe Idealize.SL.Sem Idealize.ShloMosaic.StableHlo

namespace Cert.Reference10Ideal.Value

open Cert.Reference10Ideal Cert.Reference10Ideal.Gen Cert.Lift

/-- The state after a chunk. -/
def nextState (S : FVec Ideal S1x8x256x256 .f32) (s5 : FVec Ideal S8x1x1 .f32) (s6 : FVec Ideal S8x64x1 .f32) (K V : FVec Ideal S1x8x64x256 .f32) : FVec Ideal S1x8x256x256 .f32 :=
  addf (mulf S (broadcastInDim S1x8x256x256 ![0, 1, 2, 3] bcast_S1x8x1x1_S1x8x256x256_0_1_2_3 (broadcastInDim S1x8x1x1 ![1, 2, 3] bcast_S8x1x1_S1x8x1x1_1_2_3 s5)))
    (Host.dotGeneral dot_S1x8x64x256_S1x8x64x256_S1x8x256x256_2_2_3_3_01_01 none
      (mulf K (broadcastInDim S1x8x64x256 ![0, 1, 2, 3] bcast_S1x8x64x1_S1x8x64x256_0_1_2_3 (broadcastInDim S1x8x64x1 ![1, 2, 3] bcast_S8x64x1_S1x8x64x1_1_2_3 s6))) V)

/-- The rows of a chunk. -/
def rowsOut (S : FVec Ideal S1x8x256x256 .f32) (s3 : FVec Ideal S8x64x64 .f32) (s4 : FVec Ideal S8x64x1 .f32) (Q K V : FVec Ideal S1x8x64x256 .f32) : FVec Ideal S1x8x64x256 .f32 :=
  addf (Host.dotGeneral dot_S1x8x64x64_S1x8x64x256_S1x8x64x256_3_2_2_3_01_01 none
      (mulf (Host.dotGeneral dot_S1x8x64x256_S1x8x64x256_S1x8x64x64_3_3_2_2_01_01 none Q K) (broadcastInDim S1x8x64x64 ![1, 2, 3] bcast_S8x64x64_S1x8x64x64_1_2_3 s3)) V)
    (Host.dotGeneral dot_S1x8x64x256_S1x8x256x256_S1x8x64x256_3_2_2_3_01_01 none
      (mulf Q (broadcastInDim S1x8x64x256 ![0, 1, 2, 3] bcast_S1x8x64x1_S1x8x64x256_0_1_2_3 (broadcastInDim S1x8x64x1 ![1, 2, 3] bcast_S8x64x1_S1x8x64x1_1_2_3 s4))) S)

section
variable (S : FVec Ideal S1x8x256x256 .f32) (s3 : FVec Ideal S8x64x64 .f32) (s4 : FVec Ideal S8x64x1 .f32) (s5 : FVec Ideal S8x1x1 .f32) (s6 : FVec Ideal S8x64x1 .f32) (Q K V : FVec Ideal S1x8x64x256 .f32)
  (h : Fin 8)

theorem nextState_at (e d : Fin 256) : nextState S s5 s6 K V (ix4 0 h e d) =
    S (ix4 0 h e d) * s5 (ix3 h 0 0) + ∑ r : Fin 64, K (ix4 0 h r e) * s6 (ix3 h r 0) * V (ix4 0 h r d) := by
  unfold nextState
  pointwise []

theorem rowsOut_at (r : Fin 64) (d : Fin 256) : rowsOut S s3 s4 Q K V (ix4 0 h r d) =
    (∑ r' : Fin 64, (∑ e : Fin 256, Q (ix4 0 h r e) * K (ix4 0 h r' e)) * s3 (ix3 h r r') * V (ix4 0 h r' d)) +
      ∑ e : Fin 256, Q (ix4 0 h r e) * s4 (ix3 h r 0) * S (ix4 0 h e d) := by
  unfold rowsOut
  pointwise []
end

theorem step8 (W : Valuation τ sig (Elt Ideal)) : STEP W (Proc.devRef .tc main_v49_8) =
    nextState (W (Proc.devRef .tc main_v49_8)) (W (Proc.devRef .tc main_v49_5)) (W (Proc.devRef .tc main_v49_6)) (res_main_while0b_v77 W) (res_main_while0b_v78 W) := by
  rw [STEP_main_v49_8]; rfl

theorem step9 (W : Valuation τ sig (Elt Ideal)) : STEP W (Proc.devRef .tc main_v49_9) =
    Host.dynamicUpdateSlice (W (Proc.devRef .tc main_v49_9)) (broadcastInDim S1x1x8x64x256 ![1, 2, 3, 4] bcast_S1x8x64x256_S1x1x8x64x256_1_2_3_4
      (rowsOut (W (Proc.devRef .tc main_v49_8)) (W (Proc.devRef .tc main_v49_3)) (W (Proc.devRef .tc main_v49_4)) (res_main_while0b_v76 W) (res_main_while0b_v77 W) (res_main_while0b_v78 W)))
      (fun b => (((![W (Proc.devRef .tc main_v49_7), constantI S_ 32 0#32, constantI S_ 32 0#32, constantI S_ 32 0#32, constantI S_ 32 0#32] : Fin 5 → (⟨S_, .i32⟩ : BufTy).Contents (Elt Ideal))) b (Shape.Idx.first h_S_)).toInt)
      updateFits_S64x1x8x64x256_S1x1x8x64x256 := by
  rw [STEP_main_v49_9]; rfl

variable (m : (ℓ : Loc nD τ sig) → Buf (Elt Ideal) ℓ) (c : Dev nD)

/-- The arrays are these real numbers. -/
structure Given (lg : Fin 8 → ℝ) (q k v : Fin 8 → ℕ → Fin 256 → ℝ) : Prop where
  lg : ∀ h, (m ((c.tc : Thread nD τ).loc main_arg2) : FVec Ideal S8 .f32) (ix1 h) = ((lg h : ℝ) : EReal)
  q : ∀ (n : Fin 4096) h e, (m ((c.tc : Thread nD τ).loc main_arg3) : FVec Ideal S4096x2048 .bf16) (ix2 n (colOf h e)) = ((q h n.val e : ℝ) : EReal)
  k : ∀ (n : Fin 4096) h e, (m ((c.tc : Thread nD τ).loc main_arg4) : FVec Ideal S4096x2048 .bf16) (ix2 n (colOf h e)) = ((k h n.val e : ℝ) : EReal)
  v : ∀ (n : Fin 4096) h e, (m ((c.tc : Thread nD τ).loc main_arg5) : FVec Ideal S4096x2048 .bf16) (ix2 n (colOf h e)) = ((v h n.val e : ℝ) : EReal)

variable (lg : Fin 8 → ℝ) (q k v : Fin 8 → ℕ → Fin 256 → ℝ)

/-- The buffers the loop carries, after `n` of its trips. -/
structure After (n : ℕ) (W : Valuation τ sig (Elt Ideal)) : Prop where
  w0 : W (Proc.devRef .tc main_v49_0) = chunks (m ((c.tc : Thread nD τ).loc main_arg3))
  w1 : W (Proc.devRef .tc main_v49_1) = chunks (m ((c.tc : Thread nD τ).loc main_arg4))
  w2 : W (Proc.devRef .tc main_v49_2) = chunks (m ((c.tc : Thread nD τ).loc main_arg5))
  w3 : W (Proc.devRef .tc main_v49_3) = inner (m ((c.tc : Thread nD τ).loc main_arg2))
  w4 : W (Proc.devRef .tc main_v49_4) = qdec (m ((c.tc : Thread nD τ).loc main_arg2))
  w5 : W (Proc.devRef .tc main_v49_5) = sdec (m ((c.tc : Thread nD τ).loc main_arg2))
  w6 : W (Proc.devRef .tc main_v49_6) = kdec (m ((c.tc : Thread nD τ).loc main_arg2))
  w7 : W (Proc.devRef .tc main_v49_7) = fun _ => BitVec.ofNat 32 n
  w8 : ∀ h e d, (W (Proc.devRef .tc main_v49_8) : FVec Ideal S1x8x256x256 .f32) (ix4 0 h e d) = ((Cert.Ret.state (lg h) (k h) (v h) n e d : ℝ) : EReal)
  w9 : ∀ (b : Fin 64) h (r : Fin 64) d, b.val < n → (W (Proc.devRef .tc main_v49_9) : FVec Ideal S64x1x8x64x256 .f32) (ix5 b 0 h r d) =
    ((Cert.Ret.raw (lg h) (q h) (k h) (v h) (64 * b.val + r.val) d : ℝ) : EReal)

variable {m c lg q k v}

theorem after_zero : After m c lg q k v 0 (entryContents preI m c) where
  w0 := entry0 m c
  w1 := entry1 m c
  w2 := entry2 m c
  w3 := entry3 m c
  w4 := entry4 m c
  w5 := entry5 m c
  w6 := entry6 m c
  w7 := ctr_entry m c
  w8 h e d := by
    rw [entry8, Cert.Ret.state_zero]
    pointwise []
    rfl
  w9 b h r d hb := absurd hb (Nat.not_lt_zero _)

theorem after_succ (G : Given m c lg q k v) (n : Fin 64) (W : Valuation τ sig (Elt Ideal)) (A : After m c lg q k v n.val W) : After m c lg q k v (n.val + 1) (STEP W) := by
  have eq : ∀ h r e, (res_main_while0b_v76 W : FVec Ideal S1x8x64x256 .f32) (ix4 0 h r e) = ((q h (64 * n.val + r.val) e : ℝ) : EReal) := fun h r e =>
    (cut h _ _ n A.w7 r e).trans ((congrFun A.w0 _).trans ((chunks_at _ n r h e).trans (G.q (rowOf n r) h e)))
  have ek : ∀ h r e, (res_main_while0b_v77 W : FVec Ideal S1x8x64x256 .f32) (ix4 0 h r e) = ((k h (64 * n.val + r.val) e : ℝ) : EReal) := fun h r e =>
    (cut h _ _ n A.w7 r e).trans ((congrFun A.w1 _).trans ((chunks_at _ n r h e).trans (G.k (rowOf n r) h e)))
  have ev : ∀ h r e, (res_main_while0b_v78 W : FVec Ideal S1x8x64x256 .f32) (ix4 0 h r e) = ((v h (64 * n.val + r.val) e : ℝ) : EReal) := fun h r e =>
    (cut h _ _ n A.w7 r e).trans ((congrFun A.w2 _).trans ((chunks_at _ n r h e).trans (G.v (rowOf n r) h e)))
  refine ⟨(STEP_main_v49_0 W).trans A.w0, (STEP_main_v49_1 W).trans A.w1, (STEP_main_v49_2 W).trans A.w2, (STEP_main_v49_3 W).trans A.w3,
    (STEP_main_v49_4 W).trans A.w4, (STEP_main_v49_5 W).trans A.w5, (STEP_main_v49_6 W).trans A.w6, ?_, fun h e d => ?_, fun b h r d hb => ?_⟩
  · rw [STEP_main_v49_7]
    unfold step_main_v49_7
    rw [A.w7]
    funext i
    show BitVec.ofNat 32 n.val + 1#32 = BitVec.ofNat 32 (n.val + 1)
    rw [BitVec.ofNat_add]
  · rw [step8, nextState_at, A.w8 h e d, A.w5, A.w6, sdec_at _ h _ (G.lg h), Cert.Ret.state_succ]
    simp only [ek, ev, kdec_at _ h _ (G.lg h), ← EReal.coe_mul, coe_sum, ← EReal.coe_add]
  · rw [step9]
    refine (put h _ _ _ n A.w7 b r d).trans ?_
    split
    · next e =>
      subst e
      rw [Cert.Ret.raw_chunk]
      pointwise []
      rw [rowsOut_at, A.w3, A.w4]
      simp only [eq, ek, ev, A.w8, inner_at _ h _ (G.lg h), qdec_at _ h _ (G.lg h), ← EReal.coe_mul, coe_sum, ← EReal.coe_add]
    · next e => exact A.w9 b h r d (by have : b.val ≠ n.val := fun x => e (Fin.ext x); omega)

theorem after_all (G : Given m c lg q k v) : ∀ n : ℕ, n ≤ 64 → After m c lg q k v n (STEP^[n] (entryContents preI m c))
  | 0, _ => after_zero
  | n + 1, hn => by
    rw [Function.iterate_succ_apply']
    exact after_succ G ⟨n, by omega⟩ _ (after_all G n (by omega))

end Cert.Reference10Ideal.Value

end
-- ==== Proof.RetKer.lean ====
module

public import proofs.«01_k».proof.Proof.Gen.Kernel10Ideal.Flash
public import Idealize.ShloMosaic.Lib.Pipeline.ValueKit
public import proofs.«01_k».proof.Proof.Lift

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

theorem whole_writes (L : List (View.Piece (Elt Ideal) S8x512x256 .f32)) (y : S8x512x256.Idx) :
    (View.whole cc0_scratch0).writes (Elt Ideal) (View.whole cc0_scratch0).junk L y = View.canon L y :=
  View.read_writes_junk_apply_eq_canon (Val := Elt Ideal) (View.whole cc0_scratch0) y L

abbrev lane (h : Fin 8) (e : Fin 256) : Fin 2048 := ⟨h.val * 256 + e.val, by omega⟩

abbrev num (n : ℕ) : EReal := FloatOps.sitofp (F := Ideal) FTy.f32 (BitVec.ofNat 32 n)

/-- One block of keys before the query block's. -/
def fullE (x0 : Vec Ideal S8 .f32) (x1 x2 x3 : Vec Ideal S512x2048 .bf16) (i j : BitVec 32) (h : Fin 8) (r : Fin 512) (d : Fin 256) : EReal :=
  ∑ x : Fin 512, ((∑ e : Fin 256, (x1 (ix2 r (lane h e)) * x2 (ix2 x (lane h e)) : EReal)) * Ideal.exp (x0 (ix1 h) * num r.val)
    * Ideal.exp (x0 (ix1 h) * ((((Scalar.muli (Scalar.subi i j) 512#32).toInt : ℝ) : EReal) - num x.val))) * x3 (ix2 x (lane h d))

theorem full_close (x0 : Vec Ideal S8 .f32) (x1 x2 x3 : Vec Ideal S512x2048 .bf16) (i j : BitVec 32) (h h' : Fin 8) (r r' : Fin 512) (d d' : Fin 256)
    (q : Fin 256 → Fin 2048) (dd : Fin 2048) (A : ℕ) (hA : A = h.val * 256) (hq : ∀ e, (q e).val = A + e.val) (hd : dd.val = A + d'.val)
    (hh : h.val = h'.val) (hr : r.val = r'.val) (hd' : d.val = d'.val) (s s' : EReal) (hs : s = s') :
    s + ∑ x : Fin 512, ((∑ e : Fin 256, (x1 (ix2 r' (q e)) * x2 (ix2 x (q e)) : EReal)) * Ideal.exp (x0 (ix1 h') * num r'.val)
      * Ideal.exp (x0 (ix1 h') * ((((Scalar.muli (Scalar.subi i j) 512#32).toInt : ℝ) : EReal) - num x.val))) * x3 (ix2 x dd) =
    s' + fullE x0 x1 x2 x3 i j h r d := by
  obtain rfl := Fin.ext hh
  obtain rfl := Fin.ext hr
  obtain rfl := Fin.ext hd'
  obtain rfl := hs
  have e : q = lane h := funext fun e => Fin.ext (by rw [hq, hA])
  have e' : dd = lane h d := Fin.ext (by rw [hd, hA])
  rw [e, e']; rfl

abbrev at3 (b : S8x512x256.Idx → Elt Ideal .f32) (h : Fin 8) (r : Fin 512) (d : Fin 256) : EReal := b (ix3 h r d)

abbrev word0 (t : Fin (cfgA 0).N) : BitVec 32 := pinT_0 0 (ix1 ⟨k0_off1 (crd 0 t) 0, by exact k0_off1_inb (crd 0 t) 0⟩)
abbrev word1 (t : Fin (cfgA 0).N) : BitVec 32 := pinT_1 0 (ix1 ⟨k0_off1 (crd 0 t) 0, by exact k0_off1_inb (crd 0 t) 0⟩)

theorem off2 : ∀ i : grid0.Coords, k0_off2 i 0#32 0 = 0 ∧ k0_off2 i 1#32 0 = 1 ∧ k0_off2 i 2#32 0 = 2 ∧ k0_off2 i 3#32 0 = 3
    ∧ k0_off2 i 4#32 0 = 4 ∧ k0_off2 i 5#32 0 = 5 ∧ k0_off2 i 6#32 0 = 6 ∧ k0_off2 i 7#32 0 = 7 := by decide +kernel

theorem congrArg₃ {α β γ δ : Type} (f : α → β → γ → δ) {a a' : α} {b b' : β} {c c' : γ} (ha : a = a') (hb : b = b') (hc : c = c') :
    f a b c = f a' b' c' := by subst ha hb hc; rfl

theorem stepD (c : Dev nD) (t : Fin (cfgA 0).N) (q0 : ¬P0_0 0 t) (q1 : P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    at3 (step0 0 m ρ c t prev).2.2 h r d = at3 prev.2.2 h r d + fullE (iblk 0 m ρ c 0 t) (iblk 0 m ρ c 1 t) (iblk 0 m ρ c 2 t) (iblk 0 m ρ c 3 t) (word0 t) (word1 t) h r d := by
  rw [step0_D 0 m ρ c t prev q0 q1]
  unfold at3
  dsimp only
  generalize iblk 0 m ρ c 0 t = X0
  generalize iblk 0 m ρ c 1 t = X1
  generalize iblk 0 m ρ c 2 t = X2
  generalize iblk 0 m ρ c 3 t = X3
  unfold kernelRun0_D
  dsimp only
  rw [whole_writes]
  frame_out
  canon_tiles x h
  all_goals
    idx_vars x
    open_payloads
    simp only [View.read_rep]
    pointwise [h0, h1, h2]
    first
    | exact full_close X0 X1 X2 X3 (word0 t) (word1 t) h _ r _ d _ _ _ _ (by omega) (fun _ => rfl) rfl
        (by simp only [off2]; omega) h1 h2 _ _ (congrArg prev.2.2 (congrArg₃ ix3 (Fin.ext (Eq.trans (by rw [show x0.val = 0 by omega]; rfl) h0.symm)) (Fin.ext h1.symm) (Fin.ext h2.symm)))
    | exact full_close X0 X1 X2 X3 (word0 t) (word1 t) h _ r _ d _ _ _ 0 (by omega) (fun _ => (Nat.zero_add _).symm) (Nat.zero_add _).symm
        (by simp only [off2]; omega) h1 h2 _ _ (congrArg prev.2.2 (congrArg₃ ix3 (Fin.ext (Eq.trans (by rw [show x0.val = 0 by omega]; rfl) h0.symm)) (Fin.ext h1.symm) (Fin.ext h2.symm)))

end Cert.Kernel10Ideal.Value

end
-- ==== Proof.RetKerB.lean ====
module

public import proofs.«01_k».proof.Proof.Gen.Kernel10Ideal.Flash
public import Idealize.ShloMosaic.Lib.Pipeline.ValueKit
public import proofs.«01_k».proof.Proof.RetKer
public import proofs.«01_k».proof.Proof.Lift

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

theorem full_close0 (x0 : Vec Ideal S8 .f32) (x1 x2 x3 : Vec Ideal S512x2048 .bf16) (i j : BitVec 32) (h h' : Fin 8) (r r' : Fin 512) (d d' : Fin 256)
    (q : Fin 256 → Fin 2048) (dd : Fin 2048) (A : ℕ) (hA : A = h.val * 256) (hq : ∀ e, (q e).val = A + e.val) (hd : dd.val = A + d'.val)
    (hh : h.val = h'.val) (hr : r.val = r'.val) (hd' : d.val = d'.val) :
    ∑ x : Fin 512, ((∑ e : Fin 256, (x1 (ix2 r' (q e)) * x2 (ix2 x (q e)) : EReal)) * Ideal.exp (x0 (ix1 h') * num r'.val)
      * Ideal.exp (x0 (ix1 h') * ((((Scalar.muli (Scalar.subi i j) 512#32).toInt : ℝ) : EReal) - num x.val))) * x3 (ix2 x dd) =
    fullE x0 x1 x2 x3 i j h r d :=
  (zero_add _).symm.trans ((full_close x0 x1 x2 x3 i j h h' r r' d d' q dd A hA hq hd hh hr hd' 0 0 rfl).trans (zero_add _))

/-- From head `k` on, the scratch still holds zero. -/
def Zero (k : ℕ) (L : List (View.Piece (Elt Ideal) S8x512x256 .f32)) : Prop :=
  ∀ (h : Fin 8) (r : Fin 512) (d : Fin 256), k ≤ h.val → View.canon L (ix3 h r d) = (0 : EReal)

theorem zero_first (inb) : Zero 0 [⟨Rect.unit (s := S8x512x256) ![0, 0, 0] S8x512x256.size inb, k0_pay1 (F := Ideal)⟩] := by
  intro h r d _
  rw [View.canon_unit_zero (Val := Elt Ideal) (by funext a; fin_cases a <;> rfl)]
  open_payloads
  pointwise []

theorem slab_emb (k : ℕ) (inb) (h : Fin 8) (r : Fin 512) (d : Fin 256) (e : h.val = k) :
    (Rect.unit (s := S8x512x256) ![k, 0, 0] S1x512x256.size inb).emb (ix3 0 r d) = ix3 h r d := by
  refine funext fun a => Fin.ext ?_
  fin_cases a
  · show k + 1 * 0 = h.val
    omega
  · show 0 + 1 * r.val = r.val
    omega
  · show 0 + 1 * d.val = d.val
    omega

theorem slab_not_mem (k : ℕ) (inb) (h : Fin 8) (r : Fin 512) (d : Fin 256) (e : h.val ≠ k) :
    ix3 h r d ∉ (Rect.unit (s := S8x512x256) ![k, 0, 0] S1x512x256.size inb).set := by
  intro hm
  rw [Rect.mem_set_unit] at hm
  have h0 : k ≤ h.val ∧ h.val < k + 1 := hm 0
  omega

theorem canon_slab (L : List (View.Piece (Elt Ideal) S8x512x256 .f32)) (k : ℕ) (inb) (P : FVec Ideal S1x512x256 .f32) (h : Fin 8) (r : Fin 512) (d : Fin 256) :
    View.canon (⟨Rect.unit (s := S8x512x256) ![k, 0, 0] S1x512x256.size inb, P⟩ :: L) (ix3 h r d) = if h.val = k then P (ix3 0 r d) else View.canon L (ix3 h r d) := by
  split
  · rename_i e
    rw [← slab_emb k inb h r d e]
    exact View.canon_cons_emb (Val := Elt Ideal) (Rect.unit (s := S8x512x256) ![k, 0, 0] S1x512x256.size inb) P L (ix3 0 r d)
  · rename_i e
    exact View.canon_cons_of_not_mem (Val := Elt Ideal) _ L (slab_not_mem k inb h r d e)

theorem zero_cons {k : ℕ} {L : List (View.Piece (Elt Ideal) S8x512x256 .f32)} (inb) (P : FVec Ideal S1x512x256 .f32) (hL : Zero k L) :
    Zero (k + 1) (⟨Rect.unit (s := S8x512x256) ![k, 0, 0] S1x512x256.size inb, P⟩ :: L) := by
  intro h r d hk
  rw [canon_slab, if_neg (by omega)]
  exact hL h r d (by omega)

theorem slab (L : List (View.Piece (Elt Ideal) S8x512x256 .f32)) (k : ℕ) (hk : k < 8) (inb) :
    scM0_0.view.readCov L (Rect.unit (s := S8x512x256) ![k, 0, 0] S1x512x256.size inb).toLoadRect = fun y => View.canon L (ix3 ⟨k, hk⟩ (y 1) (y 2)) := by
  rw [View.readCov_eq_canon']
  funext y
  refine congrArg (View.canon L) (funext fun a => Fin.ext ?_)
  fin_cases a
  · show k + 1 * (y 0).val = k
    have : (y 0).val < 1 := (y 0).isLt
    omega
  · show 0 + 1 * (y 1).val = (y 1).val
    omega
  · show 0 + 1 * (y 2).val = (y 2).val
    omega

theorem zero_slab {k : ℕ} {L : List (View.Piece (Elt Ideal) S8x512x256 .f32)} (hk : k < 8) (inb) (hL : Zero k L) :
    scM0_0.view.readCov L (Rect.unit (s := S8x512x256) ![k, 0, 0] S1x512x256.size inb).toLoadRect = fun _ => (0 : EReal) := by
  rw [slab L k hk]
  exact funext fun y => hL _ _ _ le_rfl

open kernelRun0_B.sl in
theorem readB : v39 = (fun _ => (0 : EReal)) := by
  unfold v39 HS0_1
  exact zero_slab (by decide) _ (zero_first _)

open kernelRun0_B.sl in
theorem readsB (i : grid0.Coords) (a0 a1 a2 a3 T0 T1 x0 x1 x2 x3) :
    v74 i a0 a1 a2 a3 T0 T1 x0 x1 x2 x3 = (fun _ => (0 : EReal)) ∧ v109 i a0 a1 a2 a3 T0 T1 x0 x1 x2 x3 = (fun _ => (0 : EReal))
    ∧ v144 i a0 a1 a2 a3 T0 T1 x0 x1 x2 x3 = (fun _ => (0 : EReal)) ∧ v179 i a0 a1 a2 a3 T0 T1 x0 x1 x2 x3 = (fun _ => (0 : EReal))
    ∧ v214 i a0 a1 a2 a3 T0 T1 x0 x1 x2 x3 = (fun _ => (0 : EReal)) ∧ v249 i a0 a1 a2 a3 T0 T1 x0 x1 x2 x3 = (fun _ => (0 : EReal))
    ∧ v284 i a0 a1 a2 a3 T0 T1 x0 x1 x2 x3 = (fun _ => (0 : EReal)) := by
  unfold v74 v109 v144 v179 v214 v249 v284 HS0_8 HS0_7 HS0_6 HS0_5 HS0_4 HS0_3 HS0_2 HS0_1
  refine ⟨?_, ?_, ?_, ?_, ?_, ?_, ?_⟩ <;>
  · refine zero_slab (by decide) _ ?_
    repeat first | exact zero_first _ | refine zero_cons _ _ ?_

set_option maxHeartbeats 800000 in
theorem stepB (c : Dev nD) (t : Fin (cfgA 0).N) (q0 : P0_0 0 t) (q1 : P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    at3 (step0 0 m ρ c t prev).2.2 h r d = fullE (iblk 0 m ρ c 0 t) (iblk 0 m ρ c 1 t) (iblk 0 m ρ c 2 t) (iblk 0 m ρ c 3 t) (word0 t) (word1 t) h r d := by
  rw [step0_B 0 m ρ c t prev q0 q1]
  unfold at3
  dsimp only
  generalize iblk 0 m ρ c 0 t = X0
  generalize iblk 0 m ρ c 1 t = X1
  generalize iblk 0 m ρ c 2 t = X2
  generalize iblk 0 m ρ c 3 t = X3
  unfold kernelRun0_B
  dsimp only
  rw [whole_writes]
  simp only [kernelRun0_B.sl.HS0_9, kernelRun0_B.sl.HS0_8, kernelRun0_B.sl.HS0_7, kernelRun0_B.sl.HS0_6, kernelRun0_B.sl.HS0_5, kernelRun0_B.sl.HS0_4,
    kernelRun0_B.sl.HS0_3, kernelRun0_B.sl.HS0_2, kernelRun0_B.sl.HS0_1, kernelRun0_B.sl.r_16, kernelRun0_B.sl.r_19, readB, readsB]
  have hh : h.val = 0 ∨ h.val = 1 ∨ h.val = 2 ∨ h.val = 3 ∨ h.val = 4 ∨ h.val = 5 ∨ h.val = 6 ∨ h.val = 7 := by omega
  rw [canon_slab, canon_slab, canon_slab, canon_slab, canon_slab, canon_slab, canon_slab, canon_slab]
  rcases hh with hh | hh | hh | hh | hh | hh | hh | hh
  all_goals
    simp only [hh, reduceIte, Nat.reduceEqDiff, OfNat.zero_ne_ofNat, OfNat.ofNat_ne_zero, OfNat.one_ne_ofNat, OfNat.ofNat_ne_one, one_ne_zero, zero_ne_one]
    frame_out
    open_payloads
    simp only [View.read_rep]
    pointwise []
    first
    | exact full_close0 X0 X1 X2 X3 (word0 t) (word1 t) h _ r _ d _ _ _ _ (by omega) (fun _ => rfl) rfl (by simp only [off2]; omega) rfl rfl
    | exact full_close0 X0 X1 X2 X3 (word0 t) (word1 t) h _ r _ d _ _ _ 0 (by omega) (fun _ => (Nat.zero_add _).symm) (Nat.zero_add _).symm
        (by simp only [off2]; omega) rfl rfl

end Cert.Kernel10Ideal.Value

end
-- ==== Proof.RetKerC.lean ====
module

public import proofs.«01_k».proof.Proof.RetKerB

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

/-- The kernel's floor division by 64, on words. -/
abbrev fd (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- The query block's own keys. -/
def diagE (x0 : Vec Ideal S8 .f32) (x1 x2 x3 : Vec Ideal S512x2048 .bf16) (h : Fin 8) (r : Fin 512) (d : Fin 256) : EReal :=
  ∑ x : Fin 512, Scalar.select (IntOp.cmpi CmpIPredicate.sle (fd x.val) (fd r.val))
    ((∑ e : Fin 256, (x1 (ix2 r (lane h e)) * x2 (ix2 x (lane h e)) : EReal))
      * Ideal.exp (x0 (ix1 h) * FloatOps.sitofp (F := Ideal) FTy.f32 (IntOp.absi (IntOp.subi (BitVec.ofNat 32 r.val) (BitVec.ofNat 32 x.val))))
      * x3 (ix2 x (lane h d))) (0 : EReal)

theorem diag_close (x0 : Vec Ideal S8 .f32) (x1 x2 x3 : Vec Ideal S512x2048 .bf16) (h h' : Fin 8) (r r' : Fin 512) (d d' : Fin 256)
    (q : Fin 256 → Fin 2048) (dd : Fin 2048) (A : ℕ) (hA : A = h.val * 256) (hq : ∀ e, (q e).val = A + e.val) (hd : dd.val = A + d'.val)
    (hh : h.val = h'.val) (hr : r.val = r'.val) (hd' : d.val = d'.val) (s s' : EReal) (hs : s = s') :
    s + ∑ x : Fin 512, Scalar.select (IntOp.cmpi CmpIPredicate.sle (fd x.val) (fd r'.val))
      ((∑ e : Fin 256, (x1 (ix2 r' (q e)) * x2 (ix2 x (q e)) : EReal))
        * Ideal.exp (x0 (ix1 h') * FloatOps.sitofp (F := Ideal) FTy.f32 (IntOp.absi (IntOp.subi (BitVec.ofNat 32 r'.val) (BitVec.ofNat 32 x.val))))
        * x3 (ix2 x dd)) (0 : EReal) =
    s' + diagE x0 x1 x2 x3 h r d := by
  obtain rfl := Fin.ext hh
  obtain rfl := Fin.ext hr
  obtain rfl := Fin.ext hd'
  obtain rfl := hs
  have e : q = lane h := funext fun e => Fin.ext (by rw [hq, hA])
  have e' : dd = lane h d := Fin.ext (by rw [hd, hA])
  rw [e, e']; rfl

theorem diag_close0 (x0 : Vec Ideal S8 .f32) (x1 x2 x3 : Vec Ideal S512x2048 .bf16) (h h' : Fin 8) (r r' : Fin 512) (d d' : Fin 256)
    (q : Fin 256 → Fin 2048) (dd : Fin 2048) (A : ℕ) (hA : A = h.val * 256) (hq : ∀ e, (q e).val = A + e.val) (hd : dd.val = A + d'.val)
    (hh : h.val = h'.val) (hr : r.val = r'.val) (hd' : d.val = d'.val) :
    ∑ x : Fin 512, Scalar.select (IntOp.cmpi CmpIPredicate.sle (fd x.val) (fd r'.val))
      ((∑ e : Fin 256, (x1 (ix2 r' (q e)) * x2 (ix2 x (q e)) : EReal))
        * Ideal.exp (x0 (ix1 h') * FloatOps.sitofp (F := Ideal) FTy.f32 (IntOp.absi (IntOp.subi (BitVec.ofNat 32 r'.val) (BitVec.ofNat 32 x.val))))
        * x3 (ix2 x dd)) (0 : EReal) =
    diagE x0 x1 x2 x3 h r d :=
  (zero_add _).symm.trans ((diag_close x0 x1 x2 x3 h h' r r' d d' q dd A hA hq hd hh hr hd' 0 0 rfl).trans (zero_add _))

theorem off3 : ∀ i : grid0.Coords, k0_off3 i 0#32 0 = 0 ∧ k0_off3 i 1#32 0 = 1 ∧ k0_off3 i 2#32 0 = 2 ∧ k0_off3 i 3#32 0 = 3
    ∧ k0_off3 i 4#32 0 = 4 ∧ k0_off3 i 5#32 0 = 5 ∧ k0_off3 i 6#32 0 = 6 ∧ k0_off3 i 7#32 0 = 7 := by decide +kernel

theorem canonC (c : Dev nD) (t : Fin (cfgA 0).N) (X0 : Vec Ideal S8 .f32) (X1 X2 X3 : Vec Ideal S512x2048 .bf16)
    (p : Buf (Elt Ideal) ((c : Thread nD τ).loc cc0_scratch0)) (h : Fin 8) (r : Fin 512) (d : Fin 256) :
    View.canon (kernelRun0_C.sl.HS0_8 c (crd 0 t) (ms0_0 0 t) (ms0_1 0 t) (ms0_2 0 t) (ms0_3 0 t) X0 X1 X2 X3 p) (ix3 h r d) =
      at3 p h r d + diagE X0 X1 X2 X3 h r d := by
  unfold at3
  frame_out
  canon_tiles x h
  all_goals
    idx_vars x
    open_payloads
    simp only [View.read_rep]
    pointwise [h0, h1, h2]
    first
    | exact diag_close X0 X1 X2 X3 h _ r _ d _ _ _ _ (by omega) (fun _ => rfl) rfl
        (by simp only [off3]; omega) h1 h2 _ _ (congrArg p (congrArg₃ ix3 (Fin.ext (Eq.trans (by rw [show x0.val = 0 by omega]; rfl) h0.symm)) (Fin.ext h1.symm) (Fin.ext h2.symm)))
    | exact diag_close X0 X1 X2 X3 h _ r _ d _ _ _ 0 (by omega) (fun _ => (Nat.zero_add _).symm) (Nat.zero_add _).symm
        (by simp only [off3]; omega) h1 h2 _ _ (congrArg p (congrArg₃ ix3 (Fin.ext (Eq.trans (by rw [show x0.val = 0 by omega]; rfl) h0.symm)) (Fin.ext h1.symm) (Fin.ext h2.symm)))

theorem stepC (c : Dev nD) (t : Fin (cfgA 0).N) (q0 : ¬P0_0 0 t) (q1 : ¬P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    at3 (step0 0 m ρ c t prev).2.2 h r d = at3 prev.2.2 h r d + diagE (iblk 0 m ρ c 0 t) (iblk 0 m ρ c 1 t) (iblk 0 m ρ c 2 t) (iblk 0 m ρ c 3 t) h r d := by
  rw [step0_C 0 m ρ c t prev q0 q1]
  refine Eq.trans ?_ (canonC c t _ _ _ _ _ h r d)
  unfold at3
  dsimp only
  generalize iblk 0 m ρ c 0 t = X0
  generalize iblk 0 m ρ c 1 t = X1
  generalize iblk 0 m ρ c 2 t = X2
  generalize iblk 0 m ρ c 3 t = X3
  unfold kernelRun0_C
  dsimp only
  rw [whole_writes]

end Cert.Kernel10Ideal.Value

end
-- ==== Proof.RetKerA.lean ====
module

public import proofs.«01_k».proof.Proof.RetKerC

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

open kernelRun0_A.sl in
theorem readA : v80 = (fun _ => (0 : EReal)) := by
  unfold v80 HS0_1
  exact zero_slab (by decide) _ (zero_first _)

open kernelRun0_A.sl in
theorem readsA (i : grid0.Coords) (a0 a1 a2 a3 x0 x1 x2 x3) :
    v156 i a0 a1 a2 a3 x0 x1 x2 x3 = (fun _ => (0 : EReal)) ∧ v232 i a0 a1 a2 a3 x0 x1 x2 x3 = (fun _ => (0 : EReal))
    ∧ v308 i a0 a1 a2 a3 x0 x1 x2 x3 = (fun _ => (0 : EReal)) ∧ v384 i a0 a1 a2 a3 x0 x1 x2 x3 = (fun _ => (0 : EReal))
    ∧ v460 i a0 a1 a2 a3 x0 x1 x2 x3 = (fun _ => (0 : EReal)) ∧ v536 i a0 a1 a2 a3 x0 x1 x2 x3 = (fun _ => (0 : EReal))
    ∧ v612 i a0 a1 a2 a3 x0 x1 x2 x3 = (fun _ => (0 : EReal)) := by
  unfold v156 v232 v308 v384 v460 v536 v612 HS0_8 HS0_7 HS0_6 HS0_5 HS0_4 HS0_3 HS0_2 HS0_1
  refine ⟨?_, ?_, ?_, ?_, ?_, ?_, ?_⟩ <;>
  · refine zero_slab (by decide) _ ?_
    repeat first | exact zero_first _ | refine zero_cons _ _ ?_

set_option maxHeartbeats 400000 in
theorem canonA (t : Fin (cfgA 0).N) (X0 : Vec Ideal S8 .f32) (X1 X2 X3 : Vec Ideal S512x2048 .bf16) (h : Fin 8) (r : Fin 512) (d : Fin 256) :
    View.canon (kernelRun0_A.sl.HS0_9 (crd 0 t) (ms0_0 0 t) (ms0_1 0 t) (ms0_2 0 t) (ms0_3 0 t) X0 X1 X2 X3) (ix3 h r d) =
      diagE X0 X1 X2 X3 h r d := by
  simp only [kernelRun0_A.sl.HS0_9, kernelRun0_A.sl.HS0_8, kernelRun0_A.sl.HS0_7, kernelRun0_A.sl.HS0_6, kernelRun0_A.sl.HS0_5, kernelRun0_A.sl.HS0_4,
    kernelRun0_A.sl.HS0_3, kernelRun0_A.sl.HS0_2, kernelRun0_A.sl.HS0_1,
    kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_23, kernelRun0_A.sl.r_25, kernelRun0_A.sl.r_26, kernelRun0_A.sl.r_27, readA, readsA]
  have hh : h.val = 0 ∨ h.val = 1 ∨ h.val = 2 ∨ h.val = 3 ∨ h.val = 4 ∨ h.val = 5 ∨ h.val = 6 ∨ h.val = 7 := by omega
  rw [canon_slab, canon_slab, canon_slab, canon_slab, canon_slab, canon_slab, canon_slab, canon_slab]
  rcases hh with hh | hh | hh | hh | hh | hh | hh | hh
  all_goals
    simp only [hh, reduceIte, Nat.reduceEqDiff, OfNat.zero_ne_ofNat, OfNat.ofNat_ne_zero, OfNat.one_ne_ofNat, OfNat.ofNat_ne_one, one_ne_zero, zero_ne_one]
    frame_out
    open_payloads
    simp only [View.read_rep]
    pointwise []
  · exact diag_close0 X0 X1 X2 X3 h ⟨k0_off3 (crd 0 t) 0#32 0, by simp only [off3]; omega⟩ r r d d (fun e => ⟨e.val, by omega⟩) ⟨d.val, by omega⟩ 0 (by omega)
      (fun _ => (Nat.zero_add _).symm) (Nat.zero_add _).symm (by simp only [off3]; omega) rfl rfl
  all_goals
    exact diag_close0 X0 X1 X2 X3 h _ r r d d _ _ _ (by omega) (fun _ => rfl) rfl (by simp only [off3]; omega) rfl rfl

theorem stepA (c : Dev nD) (t : Fin (cfgA 0).N) (q0 : P0_0 0 t) (q1 : ¬P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    at3 (step0 0 m ρ c t prev).2.2 h r d = diagE (iblk 0 m ρ c 0 t) (iblk 0 m ρ c 1 t) (iblk 0 m ρ c 2 t) (iblk 0 m ρ c 3 t) h r d := by
  rw [step0_A 0 m ρ c t prev q0 q1]
  refine Eq.trans ?_ (canonA t _ _ _ _ h r d)
  unfold at3
  dsimp only
  generalize iblk 0 m ρ c 0 t = X0
  generalize iblk 0 m ρ c 1 t = X1
  generalize iblk 0 m ρ c 2 t = X2
  generalize iblk 0 m ρ c 3 t = X3
  unfold kernelRun0_A
  dsimp only
  rw [whole_writes]

end Cert.Kernel10Ideal.Value

end
-- ==== Proof.RetOut.lean ====
module

public import proofs.«01_k».proof.Proof.RetKerC

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

/-- One entry of the gated, normalised row `w`. -/
def gateE (w : Fin 256 → EReal) (g : EReal) (d : Fin 256) : EReal :=
  g * Ideal.div 1 (1 + Ideal.exp (0 - g)) *
    ((w d - Ideal.div (∑ x, w x) (Ideal.ofBits FTy.f32 1132462080#32)) *
      Ideal.rsqrt (Ideal.div (∑ y, (w y - Ideal.div (∑ x, w x) (Ideal.ofBits FTy.f32 1132462080#32)) * (w y - Ideal.div (∑ x, w x) (Ideal.ofBits FTy.f32 1132462080#32)))
        (Ideal.ofBits FTy.f32 1132462080#32) + Ideal.ofBits FTy.f32 897988541#32))

theorem gate_close (W : Fin 8 → Fin 512 → Fin 256 → EReal) (X4 : Vec Ideal S512x2048 .f32) (h k : Fin 8) (r r' : Fin 512) (d d' : Fin 256) (j : Fin 2048)
    (hk : k.val = h.val) (hr : r.val = r'.val) (hd : d'.val = d.val) (hj : j.val = h.val * 256 + d.val) :
    gateE (W k r') (X4 (ix2 r' j)) d' = gateE (W h r) (X4 (ix2 r (lane h d))) d := by
  obtain rfl := Fin.ext hk
  obtain rfl := Fin.ext hr
  obtain rfl := Fin.ext hd
  obtain rfl : j = lane k d' := Fin.ext hj
  rfl

open kernelRun0_C.sl in
theorem rowsC (c : Dev nD) (i : grid0.Coords) (a0 a1 a2 a3 X0 X1 X2 X3) (p : Buf (Elt Ideal) ((c : Thread nD τ).loc cc0_scratch0)) (W : Fin 8 → Fin 512 → Fin 256 → EReal)
    (hW : ∀ h r d, View.canon (HS0_8 c i a0 a1 a2 a3 X0 X1 X2 X3 p) (ix3 h r d) = W h r d) :
    v621 c i a0 a1 a2 a3 X0 X1 X2 X3 p = (fun y => W 0 (y 1) (y 2))
    ∧ v654 c i a0 a1 a2 a3 X0 X1 X2 X3 p = (fun y => W 1 (y 1) (y 2))
    ∧ v687 c i a0 a1 a2 a3 X0 X1 X2 X3 p = (fun y => W 2 (y 1) (y 2))
    ∧ v720 c i a0 a1 a2 a3 X0 X1 X2 X3 p = (fun y => W 3 (y 1) (y 2))
    ∧ v753 c i a0 a1 a2 a3 X0 X1 X2 X3 p = (fun y => W 4 (y 1) (y 2))
    ∧ v786 c i a0 a1 a2 a3 X0 X1 X2 X3 p = (fun y => W 5 (y 1) (y 2))
    ∧ v819 c i a0 a1 a2 a3 X0 X1 X2 X3 p = (fun y => W 6 (y 1) (y 2))
    ∧ v852 c i a0 a1 a2 a3 X0 X1 X2 X3 p = (fun y => W 7 (y 1) (y 2)) := by
  unfold v621 v654 v687 v720 v753 v786 v819 v852
  refine ⟨?_, ?_, ?_, ?_, ?_, ?_, ?_, ?_⟩ <;>
  exact (slab _ _ (by decide) _).trans (funext fun y => hW _ _ _)

theorem out5C (c : Dev nD) (i : grid0.Coords) (a0 a1 a2 a3 X0 X1 X2 X3) (p : Buf (Elt Ideal) ((c : Thread nD τ).loc cc0_scratch0)) (W : Fin 8 → Fin 512 → Fin 256 → EReal)
    (hW : ∀ h r d, View.canon (kernelRun0_C.sl.HS0_8 c i a0 a1 a2 a3 X0 X1 X2 X3 p) (ix3 h r d) = W h r d) (h : Fin 8) (r : Fin 512) (d : Fin 256) :
    View.canon (kernelRun0_C.sl.HO5_8 c i a0 a1 a2 a3 X0 X1 X2 X3 p) (ix2 r (lane h d)) = W h r d := by
  simp only [kernelRun0_C.sl.HO5_8, kernelRun0_C.sl.r_33, rowsC c i a0 a1 a2 a3 X0 X1 X2 X3 p W hW]
  canon_tiles x h
  all_goals
    idx_vars x
    open_payloads
    pointwise [h0, h1]
    exact congrArg₃ W (Fin.ext (by dsimp; omega)) (Fin.ext h0.symm) (Fin.ext (by omega))

theorem out6C (c : Dev nD) (i : grid0.Coords) (a0 a1 a2 a3 a4 X0 X1 X2 X3) (X4 : S512x2048.Idx → Elt Ideal .f32) (p : Buf (Elt Ideal) ((c : Thread nD τ).loc cc0_scratch0)) (W : Fin 8 → Fin 512 → Fin 256 → EReal)
    (hW : ∀ h r d, View.canon (kernelRun0_C.sl.HS0_8 c i a0 a1 a2 a3 X0 X1 X2 X3 p) (ix3 h r d) = W h r d) (h : Fin 8) (r : Fin 512) (d : Fin 256) :
    View.canon (kernelRun0_C.sl.HO6_8 c i a0 a1 a2 a3 a4 X0 X1 X2 X3 X4 p) (ix2 r (lane h d)) = gateE (W h r) (X4 (ix2 r (lane h d))) d := by
  simp only [kernelRun0_C.sl.HO6_8, kernelRun0_C.sl.r_40, kernelRun0_C.sl.r_39, kernelRun0_C.sl.r_38, kernelRun0_C.sl.r_37, kernelRun0_C.sl.r_36, kernelRun0_C.sl.r_35,
    kernelRun0_C.sl.r_34, kernelRun0_C.sl.r_33, kernelRun0_C.sl.r_32, kernelRun0_C.sl.r_31, kernelRun0_C.sl.r_30, kernelRun0_C.sl.r_29, kernelRun0_C.sl.r_28, kernelRun0_C.sl.cst_238,
    rowsC c i a0 a1 a2 a3 X0 X1 X2 X3 p W hW]
  frame_out
  canon_tiles x h
  all_goals
    idx_vars x
    open_payloads
    simp only [View.read_rep]
    pointwise [h0, h1]
    exact gate_close W X4 h _ r x0 d x1 _ (by dsimp; omega) h0 (by omega) (by dsimp; omega)

end Cert.Kernel10Ideal.Value

end
-- ==== Proof.RetOutA.lean ====
module

public import proofs.«01_k».proof.Proof.RetKerA
public import proofs.«01_k».proof.Proof.RetOut

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg)

open kernelRun0_A.sl in
theorem rowsA (i : grid0.Coords) (a0 a1 a2 a3 X0 X1 X2 X3) (W : Fin 8 → Fin 512 → Fin 256 → EReal)
    (hW : ∀ h r d, View.canon (HS0_9 i a0 a1 a2 a3 X0 X1 X2 X3) (ix3 h r d) = W h r d) :
    v621 i a0 a1 a2 a3 X0 X1 X2 X3 = (fun y => W 0 (y 1) (y 2))
    ∧ v654 i a0 a1 a2 a3 X0 X1 X2 X3 = (fun y => W 1 (y 1) (y 2))
    ∧ v687 i a0 a1 a2 a3 X0 X1 X2 X3 = (fun y => W 2 (y 1) (y 2))
    ∧ v720 i a0 a1 a2 a3 X0 X1 X2 X3 = (fun y => W 3 (y 1) (y 2))
    ∧ v753 i a0 a1 a2 a3 X0 X1 X2 X3 = (fun y => W 4 (y 1) (y 2))
    ∧ v786 i a0 a1 a2 a3 X0 X1 X2 X3 = (fun y => W 5 (y 1) (y 2))
    ∧ v819 i a0 a1 a2 a3 X0 X1 X2 X3 = (fun y => W 6 (y 1) (y 2))
    ∧ v852 i a0 a1 a2 a3 X0 X1 X2 X3 = (fun y => W 7 (y 1) (y 2)) := by
  unfold v621 v654 v687 v720 v753 v786 v819 v852
  refine ⟨?_, ?_, ?_, ?_, ?_, ?_, ?_, ?_⟩ <;>
  exact (slab _ _ (by decide) _).trans (funext fun y => hW _ _ _)

theorem out5A (i : grid0.Coords) (a0 a1 a2 a3 X0 X1 X2 X3) (W : Fin 8 → Fin 512 → Fin 256 → EReal)
    (hW : ∀ h r d, View.canon (kernelRun0_A.sl.HS0_9 i a0 a1 a2 a3 X0 X1 X2 X3) (ix3 h r d) = W h r d) (h : Fin 8) (r : Fin 512) (d : Fin 256) :
    View.canon (kernelRun0_A.sl.HO5_8 i a0 a1 a2 a3 X0 X1 X2 X3) (ix2 r (lane h d)) = W h r d := by
  simp only [kernelRun0_A.sl.HO5_8, kernelRun0_A.sl.r_33, rowsA i a0 a1 a2 a3 X0 X1 X2 X3 W hW]
  canon_tiles x h
  all_goals
    idx_vars x
    open_payloads
    pointwise [h0, h1]
    exact congrArg₃ W (Fin.ext (by dsimp; omega)) (Fin.ext h0.symm) (Fin.ext (by omega))

theorem out6A (i : grid0.Coords) (a0 a1 a2 a3 a4 X0 X1 X2 X3) (X4 : S512x2048.Idx → Elt Ideal .f32) (W : Fin 8 → Fin 512 → Fin 256 → EReal)
    (hW : ∀ h r d, View.canon (kernelRun0_A.sl.HS0_9 i a0 a1 a2 a3 X0 X1 X2 X3) (ix3 h r d) = W h r d) (h : Fin 8) (r : Fin 512) (d : Fin 256) :
    View.canon (kernelRun0_A.sl.HO6_8 i a0 a1 a2 a3 a4 X0 X1 X2 X3 X4) (ix2 r (lane h d)) = gateE (W h r) (X4 (ix2 r (lane h d))) d := by
  simp only [kernelRun0_A.sl.HO6_8, kernelRun0_A.sl.r_40, kernelRun0_A.sl.r_39, kernelRun0_A.sl.r_38, kernelRun0_A.sl.r_37, kernelRun0_A.sl.r_36, kernelRun0_A.sl.r_35,
    kernelRun0_A.sl.r_34, kernelRun0_A.sl.r_33, kernelRun0_A.sl.r_32, kernelRun0_A.sl.r_31, kernelRun0_A.sl.r_30, kernelRun0_A.sl.r_29, kernelRun0_A.sl.r_28, kernelRun0_A.sl.cst_238,
    rowsA i a0 a1 a2 a3 X0 X1 X2 X3 W hW]
  frame_out
  canon_tiles x h
  all_goals
    idx_vars x
    open_payloads
    simp only [View.read_rep]
    pointwise [h0, h1]
    exact gate_close W X4 h _ r x0 d x1 _ (by dsimp; omega) h0 (by omega) (by dsimp; omega)

theorem step_outC (c : Dev nD) (t : Fin (cfgA 0).N) (q0 : ¬P0_0 0 t) (q1 : ¬P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    (step0 0 m ρ c t prev).1 (ix2 r (lane h d)) = at3 (step0 0 m ρ c t prev).2.2 h r d
    ∧ (step0 0 m ρ c t prev).2.1 (ix2 r (lane h d)) = gateE (at3 (step0 0 m ρ c t prev).2.2 h r) ((iblk 0 m ρ c 4 t : Vec Ideal S512x2048 .f32) (ix2 r (lane h d))) d := by
  have e := stepC m ρ c t q0 q1 prev
  constructor
  · rw [e, step0_C 0 m ρ c t prev q0 q1]
    refine Eq.trans ?_ (out5C c (crd 0 t) (ms0_0 0 t) (ms0_1 0 t) (ms0_2 0 t) (ms0_3 0 t) _ _ _ _ _ _ (canonC c t _ _ _ _ _) h r d)
    dsimp only
    unfold out0_C_5 kernelRun0_C
    exact View.read_writes_junk_apply_eq_canon (Val := Elt Ideal) VO0_5 _ _
  · rw [show at3 (step0 0 m ρ c t prev).2.2 h r = _ from funext fun d => e h r d, step0_C 0 m ρ c t prev q0 q1]
    refine Eq.trans ?_ (out6C c (crd 0 t) (ms0_0 0 t) (ms0_1 0 t) (ms0_2 0 t) (ms0_3 0 t) (ms0_4 0 t) _ _ _ _ _ _ _ (canonC c t _ _ _ _ _) h r d)
    dsimp only
    unfold out0_C_6 kernelRun0_C
    exact View.read_writes_junk_apply_eq_canon (Val := Elt Ideal) VO0_6 _ _

theorem step_outA (c : Dev nD) (t : Fin (cfgA 0).N) (q0 : P0_0 0 t) (q1 : ¬P0_1 0 t)
   (prev : (S512x2048.Idx → Elt Ideal .f32) × (S512x2048.Idx → Elt Ideal .bf16) × Buf (Elt Ideal) ((c : Thread nD τ).loc cc0_scratch0))
   (h : Fin 8) (r : Fin 512) (d : Fin 256) :
    (step0 0 m ρ c t prev).1 (ix2 r (lane h d)) = at3 (step0 0 m ρ c t prev).2.2 h r d
    ∧ (step0 0 m ρ c t prev).2.1 (ix2 r (lane h d)) = gateE (at3 (step0 0 m ρ c t prev).2.2 h r) ((iblk 0 m ρ c 4 t : Vec Ideal S512x2048 .f32) (ix2 r (lane h d))) d := by
  have e := stepA m ρ c t q0 q1 prev
  constructor
  · rw [e, step0_A 0 m ρ c t prev q0 q1]
    refine Eq.trans ?_ (out5A (crd 0 t) (ms0_0 0 t) (ms0_1 0 t) (ms0_2 0 t) (ms0_3 0 t) _ _ _ _ _ (canonA t _ _ _ _) h r d)
    dsimp only
    unfold out0_A_5 kernelRun0_A
    exact View.read_writes_junk_apply_eq_canon (Val := Elt Ideal) VO0_5 _ _
  · rw [show at3 (step0 0 m ρ c t prev).2.2 h r = _ from funext fun d => e h r d, step0_A 0 m ρ c t prev q0 q1]
    refine Eq.trans ?_ (out6A (crd 0 t) (ms0_0 0 t) (ms0_1 0 t) (ms0_2 0 t) (ms0_3 0 t) (ms0_4 0 t) _ _ _ _ _ _ (canonA t _ _ _ _) h r d)
    dsimp only
    unfold out0_A_6 kernelRun0_A
    exact View.read_writes_junk_apply_eq_canon (Val := Elt Ideal) VO0_6 _ _

end Cert.Kernel10Ideal.Value

end
-- ==== Proof.RetReal.lean ====
module

public import proofs.«01_k».proof.Proof.RetKerC
public import proofs.«01_k».proof.Proof.RetMath

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

theorem num_real (n : ℕ) (hn : n < 512) : num n = ((n : ℝ) : EReal) := by
  show (((BitVec.ofNat 32 n).toInt : ℝ) : EReal) = _
  have : (BitVec.ofNat 32 n).toInt = (n : ℤ) := by
    rw [BitVec.toInt_eq_toNat_cond, BitVec.toNat_ofNat]
    split <;> omega
  rw [this]; rfl

theorem fd_eq : ∀ n : Fin 512, fd n.val = BitVec.ofNat 32 (n.val / 64) := by decide +kernel
theorem sle_eq : ∀ a b : Fin 8, IntOp.cmpi CmpIPredicate.sle (BitVec.ofNat 32 a.val) (BitVec.ofNat 32 b.val) = if a.val ≤ b.val then 1#1 else 0#1 := by decide +kernel
theorem abs_pos : ∀ n : Fin 512, (IntOp.absi (BitVec.ofNat 32 n.val)).toInt = (n.val : ℤ) ∧ (IntOp.absi (- BitVec.ofNat 32 n.val)).toInt = (n.val : ℤ) := by decide +kernel

theorem dist_real (r x : Fin 512) : FloatOps.sitofp (F := Ideal) FTy.f32 (IntOp.absi (IntOp.subi (BitVec.ofNat 32 r.val) (BitVec.ofNat 32 x.val))) =
    ((|(r.val : ℝ) - x.val| : ℝ) : EReal) := by
  show (((IntOp.absi (BitVec.ofNat 32 r.val - BitVec.ofNat 32 x.val)).toInt : ℝ) : EReal) = _
  by_cases hx : x.val ≤ r.val
  · have e : BitVec.ofNat 32 r.val - BitVec.ofNat 32 x.val = BitVec.ofNat 32 (r.val - x.val) := by
      apply BitVec.eq_of_toNat_eq
      simp only [BitVec.toNat_sub, BitVec.toNat_ofNat]
      omega
    rw [e, (abs_pos ⟨r.val - x.val, by omega⟩).1, abs_of_nonneg (sub_nonneg.2 (by exact_mod_cast hx))]
    push_cast [Nat.cast_sub hx]
    rfl
  · have hx' : r.val ≤ x.val := by omega
    have e : BitVec.ofNat 32 r.val - BitVec.ofNat 32 x.val = - BitVec.ofNat 32 (x.val - r.val) := by
      apply BitVec.eq_of_toNat_eq
      simp only [BitVec.toNat_sub, BitVec.toNat_neg, BitVec.toNat_ofNat]
      omega
    rw [e, (abs_pos ⟨x.val - r.val, by omega⟩).2, abs_of_nonpos (sub_nonpos.2 (by exact_mod_cast hx')), neg_sub]
    push_cast [Nat.cast_sub hx']
    rfl

section
variable (x0 : Vec Ideal S8 .f32) (x1 x2 x3 : Vec Ideal S512x2048 .bf16)

theorem fullE_real (w0 w1 : BitVec 32) (h : Fin 8) (r : Fin 512) (d : Fin 256) (lg : ℝ) (q k v : ℕ → Fin 256 → ℝ) (i j : ℕ)
    (h0 : x0 (ix1 h) = ((lg : ℝ) : EReal)) (h1 : ∀ e, x1 (ix2 r (lane h e)) = ((q (512 * i + r.val) e : ℝ) : EReal))
    (h2 : ∀ x e, x2 (ix2 x (lane h e)) = ((k (512 * j + x.val) e : ℝ) : EReal)) (h3 : ∀ x e, x3 (ix2 x (lane h e)) = ((v (512 * j + x.val) e : ℝ) : EReal))
    (hw : (Scalar.muli (Scalar.subi w0 w1) 512#32).toInt = 512 * ((i : ℤ) - j)) :
    fullE x0 x1 x2 x3 w0 w1 h r d = ((Cert.Ret.full lg q k v i j r d : ℝ) : EReal) := by
  unfold fullE Cert.Ret.full
  rw [← coe_sum]
  refine Finset.sum_congr rfl fun x _ => ?_
  simp only [h0, h1, h2, h3, hw, num_real _ r.isLt, num_real _ x.isLt, ← EReal.coe_mul, coe_sum, ← EReal.coe_sub, exp_coe]
  push_cast
  rfl

theorem diagE_real (h : Fin 8) (r : Fin 512) (d : Fin 256) (lg : ℝ) (q k v : ℕ → Fin 256 → ℝ) (i : ℕ)
    (h0 : x0 (ix1 h) = ((lg : ℝ) : EReal)) (h1 : ∀ e, x1 (ix2 r (lane h e)) = ((q (512 * i + r.val) e : ℝ) : EReal))
    (h2 : ∀ x e, x2 (ix2 x (lane h e)) = ((k (512 * i + x.val) e : ℝ) : EReal)) (h3 : ∀ x e, x3 (ix2 x (lane h e)) = ((v (512 * i + x.val) e : ℝ) : EReal)) :
    diagE x0 x1 x2 x3 h r d = ((Cert.Ret.diag lg q k v i r d : ℝ) : EReal) := by
  unfold diagE Cert.Ret.diag
  rw [← coe_sum]
  refine Finset.sum_congr rfl fun x _ => ?_
  rw [fd_eq x, fd_eq r, sle_eq ⟨x.val / 64, by omega⟩ ⟨r.val / 64, by omega⟩, dist_real]
  unfold Scalar.select
  by_cases hx : x.val / 64 ≤ r.val / 64
  · simp only [h0, h1, h2, h3, ← EReal.coe_mul, coe_sum, exp_coe, hx, if_true]
    exact if_pos rfl
  · simp only [hx, if_false, mul_zero, zero_mul]
    rfl

end

end Cert.Kernel10Ideal.Value

end
-- ==== Proof.RetTraj.lean ====
module

public import proofs.«01_k».proof.Proof.RetOutA
public import proofs.«01_k».proof.Proof.RetReal

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg) (c : Dev nD)

/-- The block of queries and the block of keys at a point. -/
abbrev ii (t : Fin (cfgA 0).N) : ℕ := (word0 t).toNat
abbrev jj (t : Fin (cfgA 0).N) : ℕ := (word1 t).toNat

theorem points : ∀ t : Fin (cfgA 0).N, ii t < 8 ∧ jj t ≤ ii t ∧ (P0_0 0 t ↔ jj t = 0) ∧ (P0_1 0 t ↔ jj t < ii t)
    ∧ ((Scalar.muli (Scalar.subi (word0 t) (word1 t)) 512#32).toInt = 512 * ((ii t : ℤ) - jj t)) := by
  decide +kernel

theorem idxs : ∀ t : Fin (cfgA 0).N,
    (((cfgA 0).win 1).index t (0 : Fin 2) = ii t ∧ ((cfgA 0).win 1).index t (1 : Fin 2) = 0)
    ∧ (((cfgA 0).win 2).index t (0 : Fin 2) = jj t ∧ ((cfgA 0).win 2).index t (1 : Fin 2) = 0)
    ∧ (((cfgA 0).win 3).index t (0 : Fin 2) = jj t ∧ ((cfgA 0).win 3).index t (1 : Fin 2) = 0)
    ∧ (((cfgA 0).win 4).index t (0 : Fin 2) = ii t ∧ ((cfgA 0).win 4).index t (1 : Fin 2) = 3)
    ∧ (((cfgA 0).win 5).index t (0 : Fin 2) = ii t ∧ ((cfgA 0).win 5).index t (1 : Fin 2) = 0)
    ∧ (((cfgA 0).win 6).index t (0 : Fin 2) = ii t ∧ ((cfgA 0).win 6).index t (1 : Fin 2) = 0) := by
  decide +kernel

theorem two {f : Fin 2 → ℕ} {a b : ℕ} (h : f 0 = a ∧ f 1 = b) : f = ![a, b] := by
  funext x
  fin_cases x
  · exact h.1
  · exact h.2

theorem idx0 (t : Fin (cfgA 0).N) : ((cfgA 0).win 0).index t = ![0] := by
  funext x
  fin_cases x
  rfl
theorem idx1 (t : Fin (cfgA 0).N) : ((cfgA 0).win 1).index t = ![ii t, 0] := two (idxs t).1
theorem idx2 (t : Fin (cfgA 0).N) : ((cfgA 0).win 2).index t = ![jj t, 0] := two (idxs t).2.1
theorem idx3 (t : Fin (cfgA 0).N) : ((cfgA 0).win 3).index t = ![jj t, 0] := two (idxs t).2.2.1
theorem idx4 (t : Fin (cfgA 0).N) : ((cfgA 0).win 4).index t = ![ii t, 3] := two (idxs t).2.2.2.1
theorem idx5 (t : Fin (cfgA 0).N) : ((cfgA 0).win 5).index t = ![ii t, 0] := two (idxs t).2.2.2.2.1
theorem idx6 (t : Fin (cfgA 0).N) : ((cfgA 0).win 6).index t = ![ii t, 0] := two (idxs t).2.2.2.2.2
theorem prevs : ∀ t u : Fin (cfgA 0).N, u.val + 1 = t.val → jj t ≠ 0 → ii u = ii t ∧ jj u + 1 = jj t := by decide +kernel
theorem zeroth : ∀ hn : 0 < (cfgA 0).N, ¬ jj ⟨0, hn⟩ < ii ⟨0, hn⟩ := by decide +kernel
theorem first : ∀ t : Fin (cfgA 0).N, jj t ≠ 0 → t.val ≠ 0 := by decide +kernel

/-- Row `r` of block `b`. -/
abbrev rw_ (b : ℕ) (hb : b < 8) (r : Fin 512) : Fin 4096 := ⟨b * 512 + r.val, by omega⟩
theorem ii_lt (t : Fin (cfgA 0).N) : ii t < 8 := (points t).1
theorem jj_lt (t : Fin (cfgA 0).N) : jj t < 8 := lt_of_le_of_lt (points t).2.1 (points t).1

theorem blk0 (t : Fin (cfgA 0).N) (h : Fin 8) :
    (iblk 0 m ρ c 0 t : Vec Ideal S8 .f32) (ix1 h) = m ((c.tc : Thread nD τ).loc main_arg2) (ix1 h) := by
  blk_point [iblk, idx0 t]
theorem blk1 (t : Fin (cfgA 0).N) (r : Fin 512) (e : Fin 2048) :
    (iblk 0 m ρ c 1 t : Vec Ideal S512x2048 .bf16) (ix2 r e) = m ((c.tc : Thread nD τ).loc main_arg3) (ix2 (rw_ (ii t) (ii_lt t) r) e) := by
  blk_point [iblk, idx1 t]
theorem blk2 (t : Fin (cfgA 0).N) (r : Fin 512) (e : Fin 2048) :
    (iblk 0 m ρ c 2 t : Vec Ideal S512x2048 .bf16) (ix2 r e) = m ((c.tc : Thread nD τ).loc main_arg4) (ix2 (rw_ (jj t) (jj_lt t) r) e) := by
  blk_point [iblk, idx2 t]
theorem blk3 (t : Fin (cfgA 0).N) (r : Fin 512) (e : Fin 2048) :
    (iblk 0 m ρ c 3 t : Vec Ideal S512x2048 .bf16) (ix2 r e) = m ((c.tc : Thread nD τ).loc main_arg5) (ix2 (rw_ (jj t) (jj_lt t) r) e) := by
  blk_point [iblk, idx3 t]
theorem blk4 (t : Fin (cfgA 0).N) (r : Fin 512) (e : Fin 2048) :
    (iblk 0 m ρ c 4 t : Vec Ideal S512x2048 .f32) (ix2 r e) = m ((c.tc : Thread nD τ).loc main_arg6) (ix2 (rw_ (ii t) (ii_lt t) r) ⟨6144 + e.val, by omega⟩) := by
  blk_point [iblk, idx4 t]

/-- The arrays' entries as real numbers. -/
def lgR (h : Fin 8) : ℝ := EReal.toReal (m ((c.tc : Thread nD τ).loc main_arg2) (ix1 h))
def qR (h : Fin 8) (n : ℕ) (e : Fin 256) : ℝ := EReal.toReal (m ((c.tc : Thread nD τ).loc main_arg3) (ix2 ⟨n % 4096, Nat.mod_lt _ (by norm_num)⟩ (lane h e)))
def kR (h : Fin 8) (n : ℕ) (e : Fin 256) : ℝ := EReal.toReal (m ((c.tc : Thread nD τ).loc main_arg4) (ix2 ⟨n % 4096, Nat.mod_lt _ (by norm_num)⟩ (lane h e)))
def vR (h : Fin 8) (n : ℕ) (e : Fin 256) : ℝ := EReal.toReal (m ((c.tc : Thread nD τ).loc main_arg5) (ix2 ⟨n % 4096, Nat.mod_lt _ (by norm_num)⟩ (lane h e)))

/-- The four arrays hold real numbers. -/
structure Real_ : Prop where
  lg : ∀ h : Fin 8, m ((c.tc : Thread nD τ).loc main_arg2) (ix1 h) = ((lgR m c h : ℝ) : EReal)
  q : ∀ (n : Fin 4096) (l : Fin 2048), m ((c.tc : Thread nD τ).loc main_arg3) (ix2 n l) = ((EReal.toReal (m ((c.tc : Thread nD τ).loc main_arg3) (ix2 n l)) : ℝ) : EReal)
  k : ∀ (n : Fin 4096) (l : Fin 2048), m ((c.tc : Thread nD τ).loc main_arg4) (ix2 n l) = ((EReal.toReal (m ((c.tc : Thread nD τ).loc main_arg4) (ix2 n l)) : ℝ) : EReal)
  v : ∀ (n : Fin 4096) (l : Fin 2048), m ((c.tc : Thread nD τ).loc main_arg5) (ix2 n l) = ((EReal.toReal (m ((c.tc : Thread nD τ).loc main_arg5) (ix2 n l)) : ℝ) : EReal)

variable {m c} (R : Real_ m c)

theorem fin_row (b : ℕ) (hb : b < 8) (r : Fin 512) : rw_ b hb r = ⟨(512 * b + r.val) % 4096, Nat.mod_lt _ (by norm_num)⟩ := Fin.ext (by dsimp; omega)

include R in
theorem q_at (t : Fin (cfgA 0).N) (h : Fin 8) (r : Fin 512) (e : Fin 256) :
    (iblk 0 m ρ c 1 t : Vec Ideal S512x2048 .bf16) (ix2 r (lane h e)) = ((qR m c h (512 * ii t + r.val) e : ℝ) : EReal) := by
  rw [blk1, fin_row]; exact R.q _ _
include R in
theorem k_at (t : Fin (cfgA 0).N) (h : Fin 8) (r : Fin 512) (e : Fin 256) :
    (iblk 0 m ρ c 2 t : Vec Ideal S512x2048 .bf16) (ix2 r (lane h e)) = ((kR m c h (512 * jj t + r.val) e : ℝ) : EReal) := by
  rw [blk2, fin_row]; exact R.k _ _
include R in
theorem v_at (t : Fin (cfgA 0).N) (h : Fin 8) (r : Fin 512) (e : Fin 256) :
    (iblk 0 m ρ c 3 t : Vec Ideal S512x2048 .bf16) (ix2 r (lane h e)) = ((vR m c h (512 * jj t + r.val) e : ℝ) : EReal) := by
  rw [blk3, fin_row]; exact R.v _ _

include R in
theorem full_at (t : Fin (cfgA 0).N) (h : Fin 8) (r : Fin 512) (d : Fin 256) :
    fullE (iblk 0 m ρ c 0 t) (iblk 0 m ρ c 1 t) (iblk 0 m ρ c 2 t) (iblk 0 m ρ c 3 t) (word0 t) (word1 t) h r d =
      ((Cert.Ret.full (lgR m c h) (qR m c h) (kR m c h) (vR m c h) (ii t) (jj t) r d : ℝ) : EReal) :=
  fullE_real _ _ _ _ _ _ h r d _ _ _ _ _ _ ((blk0 m ρ c t h).trans (R.lg h)) (fun e => q_at ρ R t h r e) (fun x e => k_at ρ R t h x e)
    (fun x e => v_at ρ R t h x e) (points t).2.2.2.2

include R in
theorem diag_at (t : Fin (cfgA 0).N) (hij : jj t = ii t) (h : Fin 8) (r : Fin 512) (d : Fin 256) :
    diagE (iblk 0 m ρ c 0 t) (iblk 0 m ρ c 1 t) (iblk 0 m ρ c 2 t) (iblk 0 m ρ c 3 t) h r d =
      ((Cert.Ret.diag (lgR m c h) (qR m c h) (kR m c h) (vR m c h) (ii t) r d : ℝ) : EReal) :=
  diagE_real _ _ _ _ h r d _ _ _ _ _ ((blk0 m ρ c t h).trans (R.lg h)) (fun e => q_at ρ R t h r e) (fun x e => by rw [← hij]; exact k_at ρ R t h x e)
    (fun x e => by rw [← hij]; exact v_at ρ R t h x e)

/-- What the scratch holds after a point: the blocks so far, at the diagonal the finished rows. -/
def soFar (m : (ℓ : Loc nD τ sig) → Buf (Elt Ideal) ℓ) (c : Dev nD) (t : Fin (cfgA 0).N) (h : Fin 8) (r : Fin 512) (d : Fin 256) : ℝ :=
  if jj t < ii t then Cert.Ret.acc (lgR m c h) (qR m c h) (kR m c h) (vR m c h) (ii t) (jj t + 1) r d
  else Cert.Ret.raw (lgR m c h) (qR m c h) (kR m c h) (vR m c h) (512 * ii t + r.val) d

include R in
theorem traj (n : ℕ) : ∀ (hn : n < (cfgA 0).N) (h : Fin 8) (r : Fin 512) (d : Fin 256),
    at3 (traj0 0 m ρ c n hn).2.2 h r d = ((soFar m c ⟨n, hn⟩ h r d : ℝ) : EReal) := by
  induction n with
  | zero =>
    intro hn h r d
    obtain ⟨-, h2, h3, h4, -⟩ := points ⟨0, hn⟩
    have hj : jj ⟨0, hn⟩ = 0 := by by_contra hj; exact first _ hj rfl
    have hi : ¬ jj ⟨0, hn⟩ < ii ⟨0, hn⟩ := zeroth hn
    refine (stepA m ρ c ⟨0, hn⟩ (h3.2 hj) (fun e => hi (h4.1 e)) _ h r d).trans ?_
    rw [diag_at ρ R _ (by omega), soFar, if_neg hi, ← Cert.Ret.raw_block]
    rw [show ii ⟨0, hn⟩ = 0 by omega]
    simp [Cert.Ret.acc]
  | succ n ih =>
    intro hn h r d
    obtain ⟨-, h2, h3, h4, -⟩ := points ⟨n + 1, hn⟩
    have e : traj0 0 m ρ c (n + 1) hn = step0 0 m ρ c ⟨n + 1, hn⟩ (traj0 0 m ρ c n (Nat.lt_of_succ_lt hn)) := rfl
    rw [e]
    by_cases hj : jj ⟨n + 1, hn⟩ = 0
    · by_cases hi : jj ⟨n + 1, hn⟩ < ii ⟨n + 1, hn⟩
      · refine (stepB m ρ c _ (h3.2 hj) (h4.2 hi) _ h r d).trans ?_
        rw [full_at ρ R, soFar, if_pos hi, hj]
        simp [Cert.Ret.acc]
      · refine (stepA m ρ c _ (h3.2 hj) (fun e => hi (h4.1 e)) _ h r d).trans ?_
        rw [diag_at ρ R _ (by omega), soFar, if_neg hi, ← Cert.Ret.raw_block, show ii ⟨n + 1, hn⟩ = 0 by omega]
        simp [Cert.Ret.acc]
    · obtain ⟨p1, p2⟩ := prevs ⟨n + 1, hn⟩ ⟨n, Nat.lt_of_succ_lt hn⟩ rfl hj
      have hp := ih (Nat.lt_of_succ_lt hn) h r d
      rw [soFar, if_pos (by omega), p1, p2] at hp
      by_cases hi : jj ⟨n + 1, hn⟩ < ii ⟨n + 1, hn⟩
      · refine (stepD m ρ c _ (fun e => hj (h3.1 e)) (h4.2 hi) _ h r d).trans ?_
        rw [hp, full_at ρ R, soFar, if_pos hi, ← EReal.coe_add]
        unfold Cert.Ret.acc
        rw [Finset.sum_range_succ]
      · refine (stepC m ρ c _ (fun e => hj (h3.1 e)) (fun e => hi (h4.1 e)) _ h r d).trans ?_
        have hij : jj ⟨n + 1, hn⟩ = ii ⟨n + 1, hn⟩ := by omega
        rw [hp, diag_at ρ R _ hij, soFar, if_neg hi, ← EReal.coe_add, hij, Cert.Ret.raw_block]

end Cert.Kernel10Ideal.Value

end
-- ==== Proof.RetFinal.lean ====
module

public import proofs.«01_k».proof.Proof.RetTraj

@[expose] public section

set_option maxRecDepth 16384

noncomputable section

open Idealize.ShloMosaic Idealize.ShloMosaic.TcCoe Idealize.SL.Sem

namespace Cert.Kernel10Ideal.Value

open Cert.Kernel10Ideal Cert.Kernel10Ideal.Gen Cert.Lift

variable (m : (ℓ : Loc nD τ sig) → Buf (Elt Ideal) ℓ) (ρ : Dev nD → PrngReg) (c : Dev nD)

/-- The head a column of the result belongs to, and its place in the head. -/
abbrev hd (j : Fin 2048) : Fin 8 := ⟨j.val / 256, by omega⟩
abbrev pl (j : Fin 2048) : Fin 256 := ⟨j.val % 256, Nat.mod_lt _ (by norm_num)⟩

/-- The retention at row `n`, as a real. -/
def rawR (h : Fin 8) (n : ℕ) (d : Fin 256) : ℝ := Cert.Ret.raw (lgR m c h) (qR m c h) (kR m c h) (vR m c h) n d

/-- The two results. -/
def ret5 : FVec Ideal S4096x2048 .f32 := fun i => ((rawR m c (hd (i 1)) (i 0).val (pl (i 1)) : ℝ) : EReal)
def ret6 : FVec Ideal S4096x2048 .bf16 := fun i =>
  gateE (fun d => ((rawR m c (hd (i 1)) (i 0).val d : ℝ) : EReal))
    (m ((c.tc : Thread nD τ).loc main_arg6) (ix2 (i 0) ⟨6144 + (i 1).val, by have := (i 1).isLt; exact lt_of_lt_of_le (Nat.add_lt_add_left this 6144) (by decide)⟩)) (pl (i 1))

theorem hd_lane (h : Fin 8) (d : Fin 256) : hd (lane h d) = h := Fin.ext (by show (h.val * 256 + d.val) / 256 = h.val; omega)
theorem pl_lane (h : Fin 8) (d : Fin 256) : pl (lane h d) = d := Fin.ext (by show (h.val * 256 + d.val) % 256 = d.val; omega)
theorem lane_hd (j : Fin 2048) : lane (hd j) (pl j) = j := Fin.ext (by show j.val / 256 * 256 + j.val % 256 = j.val; omega)

theorem last5 : ∀ t : Fin (cfgA 0).N, ((cfgA 0).win 5).flush t = true → ¬ P0_1 0 t := by decide +kernel
theorem last6 : ∀ t : Fin (cfgA 0).N, ((cfgA 0).win 6).flush t = true → ¬ P0_1 0 t := by decide +kernel

theorem cov5 : ((cfgA 0).win 5).Covers := by decide +kernel
theorem cov6 : ((cfgA 0).win 6).Covers := by decide +kernel

theorem split2 (y : S512x2048.Idx) : ∃ (r : Fin 512) (h : Fin 8) (d : Fin 256), y = ix2 r (lane h d) :=
  ⟨y 0, hd (y 1), pl (y 1), by
    funext a
    match a with
    | ⟨0, _⟩ => rfl
    | ⟨1, _⟩ => exact (lane_hd (y 1)).symm⟩

theorem emb5 (t : Fin (cfgA 0).N) (y : S512x2048.Idx) :
    ((((cfgA 0).win 5).blk t).view.emb y 0).val = ii t * 512 + (y 0).val ∧ ((((cfgA 0).win 5).blk t).view.emb y 1).val = (y 1).val := by
  constructor <;> blk_simp [idx5 t]
theorem emb6 (t : Fin (cfgA 0).N) (y : S512x2048.Idx) :
    ((((cfgA 0).win 6).blk t).view.emb y 0).val = ii t * 512 + (y 0).val ∧ ((((cfgA 0).win 6).blk t).view.emb y 1).val = (y 1).val := by
  constructor <;> blk_simp [idx6 t]

variable {m c} (R : Real_ m c)

include R in
/-- What a diagonal point leaves in the blocks of the two results. -/
theorem last_point (n : ℕ) (hn : n < (cfgA 0).N) (hq : ¬ P0_1 0 ⟨n, hn⟩) (h : Fin 8) (r : Fin 512) (d : Fin 256) :
    (traj0 0 m ρ c n hn).1 (ix2 r (lane h d)) = ((rawR m c h (512 * ii ⟨n, hn⟩ + r.val) d : ℝ) : EReal)
    ∧ (traj0 0 m ρ c n hn).2.1 (ix2 r (lane h d)) = gateE (fun d => ((rawR m c h (512 * ii ⟨n, hn⟩ + r.val) d : ℝ) : EReal))
        ((iblk 0 m ρ c 4 ⟨n, hn⟩ : Vec Ideal S512x2048 .f32) (ix2 r (lane h d))) d := by
  have hj : ¬ jj ⟨n, hn⟩ < ii ⟨n, hn⟩ := fun e => hq ((points ⟨n, hn⟩).2.2.2.1.2 e)
  have e : ∀ d, at3 (traj0 0 m ρ c n hn).2.2 h r d = ((rawR m c h (512 * ii ⟨n, hn⟩ + r.val) d : ℝ) : EReal) := by
    intro d
    rw [traj ρ R n hn h r d, soFar, if_neg hj]
    rfl
  have ef : at3 (traj0 0 m ρ c n hn).2.2 h r = fun d => ((rawR m c h (512 * ii ⟨n, hn⟩ + r.val) d : ℝ) : EReal) := funext e
  have key : (traj0 0 m ρ c n hn).1 (ix2 r (lane h d)) = at3 (traj0 0 m ρ c n hn).2.2 h r d
      ∧ (traj0 0 m ρ c n hn).2.1 (ix2 r (lane h d)) = gateE (at3 (traj0 0 m ρ c n hn).2.2 h r)
        ((iblk 0 m ρ c 4 ⟨n, hn⟩ : Vec Ideal S512x2048 .f32) (ix2 r (lane h d))) d := by
    cases n with
    | zero => exact step_outA m ρ c ⟨0, hn⟩ ((points ⟨0, hn⟩).2.2.1.2 (by have := zeroth hn; by_contra h0; exact first _ h0 rfl)) hq _ h r d
    | succ n =>
      by_cases hp : P0_0 0 ⟨n + 1, hn⟩
      · exact step_outA m ρ c ⟨n + 1, hn⟩ hp hq _ h r d
      · exact step_outC m ρ c ⟨n + 1, hn⟩ hp hq _ h r d
  exact ⟨key.1.trans (e d), key.2.trans (by rw [ef])⟩

include R in
theorem final5 : (dats 0 m ρ 0 c).arrAt 5 (cfgA 0).N = ret5 m c :=
  (dats 0 m ρ 0 c).arrAt_eq_of_covers 5 _ cov5 fun t hf y => by
    obtain ⟨r, h, d, rfl⟩ := split2 y
    refine (last_point ρ R t.val t.isLt (last5 t hf) h r d).1.trans ?_
    obtain ⟨e0, e1⟩ := emb5 t (ix2 r (lane h d))
    have f1 : (((cfgA 0).win 5).blk t).view.emb (ix2 r (lane h d)) 1 = lane h d := Fin.ext e1
    show _ = ((rawR m c (hd ((((cfgA 0).win 5).blk t).view.emb (ix2 r (lane h d)) 1)) ((((cfgA 0).win 5).blk t).view.emb (ix2 r (lane h d)) 0).val
      (pl ((((cfgA 0).win 5).blk t).view.emb (ix2 r (lane h d)) 1)) : ℝ) : EReal)
    rw [f1, e0, hd_lane, pl_lane, Nat.mul_comm (ii t)]
    rfl

include R in
theorem final6 : (dats 0 m ρ 0 c).arrAt 6 (cfgA 0).N = ret6 m c :=
  (dats 0 m ρ 0 c).arrAt_eq_of_covers 6 _ cov6 fun t hf y => by
    obtain ⟨r, h, d, rfl⟩ := split2 y
    refine (last_point ρ R t.val t.isLt (last6 t hf) h r d).2.trans ?_
    rw [blk4]
    obtain ⟨e0, e1⟩ := emb6 t (ix2 r (lane h d))
    have f : (((cfgA 0).win 6).blk t).view.emb (ix2 r (lane h d)) = ix2 (rw_ (ii t) (ii_lt t) r) (lane h d) := by
      funext a; apply Fin.ext
      match a with
      | ⟨0, _⟩ => exact e0
      | ⟨1, _⟩ => exact e1
    show _ = ret6 m c ((((cfgA 0).win 6).blk t).view.emb (ix2 r (lane h d)))
    rw [f]
    show _ = gateE (fun d' => ((rawR m c (hd (lane h d)) (ii t * 512 + r.val) d' : ℝ) : EReal)) _ (pl (lane h d))
    rw [hd_lane, pl_lane, Nat.mul_comm (ii t)]
    rfl

end Cert.Kernel10Ideal.Value

end
-- ==== Proof.RetRefC.lean ====
module

public import proofs.«01_k».proof.Proof.RetRefB
public import proofs.«01_k».proof.Proof.RetFinal

@[expose] public section

set_option maxRecDepth 16384

noncomputable section

open Idealize.ShloMosaic Idealize.ShloMosaic.TcCoe Idealize.SL.Sem Idealize.ShloMosaic.StableHlo

namespace Cert.Reference10Ideal.Value

open Cert.Reference10Ideal Cert.Reference10Ideal.Gen Cert.Lift

/-- The chunk of a row, and its place in it. -/
abbrev chunkOf (n : Fin 4096) : Fin 64 := ⟨n.val / 64, by omega⟩
abbrev inChunk (n : Fin 4096) : Fin 64 := ⟨n.val % 64, Nat.mod_lt _ (by norm_num)⟩

theorem head_of (h : Fin 8) (d : Fin 256) (p : (h.val * 256 + d.val) / 256 < 8) : (⟨(h.val * 256 + d.val) / 256, p⟩ : Fin 8) = h := Fin.ext (by show (h.val * 256 + d.val) / 256 = h.val; omega)
theorem place_of (h : Fin 8) (d : Fin 256) (p : (h.val * 256 + d.val) % 256 < 256) : (⟨(h.val * 256 + d.val) % 256, p⟩ : Fin 256) = d := Fin.ext (by show (h.val * 256 + d.val) % 256 = d.val; omega)

/-- The heads of an array of chunks. -/
def joined (x : FVec Ideal S64x1x8x64x256 .f32) : FVec Ideal S1x4096x8x256 .f32 :=
  shapeCast S1x4096x8x256 (transpose S1x64x64x8x256 [1, 0, 3, 2, 4] x transposes_S64x1x8x64x256_S1x64x64x8x256_1_0_3_2_4) shapeCasts_S1x64x64x8x256_S1x4096x8x256

theorem joined_at (x : FVec Ideal S64x1x8x64x256 .f32) (n : Fin 4096) (h : Fin 8) (d : Fin 256) :
    joined x (ix4 0 n h d) = x (ix5 (chunkOf n) 0 h (inChunk n) d) := by
  unfold joined
  pointwise []

theorem out72_at (W : Valuation τ sig (Elt Ideal)) (n : Fin 4096) (h : Fin 8) (d : Fin 256) :
    (out_main_v72 W : FVec Ideal S4096x2048 .f32) (ix2 n (colOf h d)) = joined (W (Proc.devRef .tc main_v49_9)) (ix4 0 n h d) := by
  show shapeCast S4096x2048 (joined (W (Proc.devRef .tc main_v49_9))) shapeCasts_S1x4096x8x256_S4096x2048 (ix2 n (colOf h d)) = _
  generalize joined (W (Proc.devRef .tc main_v49_9)) = X
  pointwise []
  rw [head_of, place_of]

theorem out75_at (W : Valuation τ sig (Elt Ideal)) (n : Fin 4096) (h : Fin 8) (d : Fin 256) :
    (out_main_v75 W : FVec Ideal S4096x2048 .bf16) (ix2 n (colOf h d)) =
      Cert.Kernel10Ideal.Value.gateE (fun d => joined (W (Proc.devRef .tc main_v49_9)) (ix4 0 n h d))
        ((W (Proc.devRef .tc main_arg6) : FVec Ideal S4096x10240 .f32) (ix2 n ⟨6144 + (h.val * 256 + d.val), by omega⟩)) d := by
  unfold out_main_v75
  simp only [show ∀ x, shapeCast _ (transpose S1x64x64x8x256 [1, 0, 3, 2, 4] x transposes_S64x1x8x64x256_S1x64x64x8x256_1_0_3_2_4) shapeCasts_S1x64x64x8x256_S1x4096x8x256 = joined x from fun _ => rfl]
  generalize joined (W (Proc.devRef .tc main_v49_9)) = X
  generalize (W (Proc.devRef .tc main_arg6) : FVec Ideal S4096x10240 .f32) = P
  pointwise []
  simp only [head_of, place_of, Cert.Kernel10Ideal.Value.gateE, zero_sub]

variable {m : (ℓ : Loc nD τ sig) → Buf (Elt Ideal) ℓ} {c : Dev nD} {lg : Fin 8 → ℝ} {q k v : Fin 8 → ℕ → Fin 256 → ℝ}

theorem joined_end (G : Given m c lg q k v) (n : Fin 4096) (h : Fin 8) (d : Fin 256) :
    joined ((STEP^[64] (entryContents preI m c)) (Proc.devRef .tc main_v49_9)) (ix4 0 n h d) = ((Cert.Ret.raw (lg h) (q h) (k h) (v h) n.val d : ℝ) : EReal) := by
  rw [joined_at]
  refine ((after_all G 64 le_rfl).w9 (chunkOf n) h (inChunk n) d (chunkOf n).isLt).trans ?_
  rw [show 64 * (chunkOf n).val + (inChunk n).val = n.val from Nat.div_add_mod n.val 64]

theorem end72 (G : Given m c lg q k v) (n : Fin 4096) (h : Fin 8) (d : Fin 256) :
    (out_main_v72 (STEP^[64] (entryContents preI m c)) : FVec Ideal S4096x2048 .f32) (ix2 n (colOf h d)) = ((Cert.Ret.raw (lg h) (q h) (k h) (v h) n.val d : ℝ) : EReal) :=
  (out72_at _ n h d).trans (joined_end G n h d)

theorem end75 (G : Given m c lg q k v) (n : Fin 4096) (h : Fin 8) (d : Fin 256) :
    (out_main_v75 (STEP^[64] (entryContents preI m c)) : FVec Ideal S4096x2048 .bf16) (ix2 n (colOf h d)) =
      Cert.Kernel10Ideal.Value.gateE (fun d => ((Cert.Ret.raw (lg h) (q h) (k h) (v h) n.val d : ℝ) : EReal))
        ((m ((c.tc : Thread nD τ).loc main_arg6) : FVec Ideal S4096x10240 .f32) (ix2 n ⟨6144 + (h.val * 256 + d.val), by omega⟩)) d := by
  rw [out75_at, iter_main_arg6, funext (joined_end G n h)]

end Cert.Reference10Ideal.Value

end
-- ==== Proof.RetClaim.lean ====
module

public import proofs.«01_k».proof.Proof.RetRefC
public import proofs.«01_k».proof.Proof.RetPins
public import proofs.«01_k».proof.Defs

@[expose] public section

set_option maxRecDepth 16384

noncomputable section

open Idealize.ShloMosaic Idealize.ShloMosaic.TcCoe Idealize.SL.Sem

namespace Cert.RetClaim

open Cert.Kernel10Ideal.Value

/-- The reference's arrays, being the kernel's, are the same real numbers. -/
theorem given {m : (ℓ : Loc Cert.Kernel10Ideal.nD Cert.Kernel10Ideal.τ Cert.Kernel10Ideal.sig) → Buf (Elt Ideal) ℓ} {c : Dev Cert.Kernel10Ideal.nD}
    {m' : (ℓ : Loc Cert.Reference10Ideal.nD Cert.Reference10Ideal.τ Cert.Reference10Ideal.sig) → Buf (Elt Ideal) ℓ} (R : Real_ m c)
    (e2 : m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2))
    (e3 : m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3))
    (e4 : m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4))
    (e5 : m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) :
    Cert.Reference10Ideal.Value.Given m' c (lgR m c) (qR m c) (kR m c) (vR m c) where
  lg h := (congrFun e2 (ix1 h)).trans (R.lg _)
  q n h e := (congrFun e3 _).trans ((R.q n (lane h e)).trans (by unfold qR; simp only [Nat.mod_eq_of_lt n.isLt]))
  k n h e := (congrFun e4 _).trans ((R.k n (lane h e)).trans (by unfold kR; simp only [Nat.mod_eq_of_lt n.isLt]))
  v n h e := (congrFun e5 _).trans ((R.v n (lane h e)).trans (by unfold vR; simp only [Nat.mod_eq_of_lt n.isLt]))

theorem split (i : Cert.Kernel10Ideal.S4096x2048.Idx) : ∃ (n : Fin 4096) (h : Fin 8) (d : Fin 256), i = ix2 n (lane h d) :=
  ⟨i 0, hd (i 1), pl (i 1), by
    funext a
    match a with
    | ⟨0, _⟩ => rfl
    | ⟨1, _⟩ => exact (lane_hd (i 1)).symm⟩

theorem algebraic : Cert.algebraic_Kernel10Ideal_Reference10Ideal_pre_finite10 := by
  intro m g m' g' hp hm
  have R : ∀ c, Real_ m c := fun c => by
    obtain ⟨-, r2, r3, r4, r5⟩ := Cert.RetPins.finite_read _ _ _ _ _ _ _ (hp c)
    exact ⟨fun h => r2 _, fun n l => r3 _, fun n l => r4 _, fun n l => r5 _⟩
  refine ⟨fun c => ret5 m c, fun c => ret6 m c,
    (θ_run (Cert.Kernel10Ideal.defs (F := Ideal)) _ _).mono (fun r h c => ?_) (θ_run_and (Cert.Kernel10Ideal.Gen.run_main 0 m g (Cert.RetPins.pinned_finite m hp)) (Cert.Kernel10Ideal.Gen.unchanged 0 m g (Cert.RetPins.pinned_finite m hp))),
    (θ_run (Cert.Reference10Ideal.defs (F := Ideal)) _ _).mono (fun r h c => ?_) (Cert.Reference10Ideal.Value.run (F := Ideal) m' g')⟩
  · exact ⟨((h.1 c).1 5).trans (final5 g (R c)), ((h.1 c).1 6).trans (final6 g (R c)), h.2 c⟩
  · obtain ⟨h3, h4, ha⟩ := h c
    obtain ⟨e0, e1, e2, e3, e4, e5, e6⟩ := hm c
    have G := given (R c) e2 e3 e4 e5
    refine ⟨h3.trans (funext fun i => ?_), h4.trans (funext fun i => ?_), ha⟩
    · obtain ⟨n, h, d, rfl⟩ := split i
      refine (Cert.Reference10Ideal.Value.end72 G n h d).trans ?_
      show _ = ((rawR m c (hd (lane h d)) n.val (pl (lane h d)) : ℝ) : EReal)
      rw [hd_lane, pl_lane]
      rfl
    · obtain ⟨n, h, d, rfl⟩ := split i
      refine (Cert.Reference10Ideal.Value.end75 G n h d).trans ?_
      rw [e6]
      show _ = gateE (fun d' => ((rawR m c (hd (lane h d)) n.val d' : ℝ) : EReal)) _ (pl (lane h d))
      rw [hd_lane, pl_lane]
      rfl

end Cert.RetClaim

end
-- ==== Proof.RmsMath.lean ====
module

public import proofs.«01_k».proof.Proof.Lift

@[expose] public section

/-! The gradient of the root-mean-square norm of one row: the form the kernel computes (`kdx`) and the form the
    differentiated reference computes (`rdx`), and that they are the same. -/

noncomputable section

namespace Cert.Rms

open Idealize.ShloMosaic Cert.Lift

variable (x : Fin 4096 → ℝ)

/-- The row's mean square, with the small constant added. -/
def ms : ℝ := (∑ j, x j * x j) / 4096 + eps
/-- One over its square root. -/
def rs : ℝ := (Real.sqrt (ms x))⁻¹

theorem ms_pos : 0 < ms x := by
  unfold ms
  have : 0 ≤ ∑ j, x j * x j := Finset.sum_nonneg fun j _ => mul_self_nonneg _
  have := eps_pos
  positivity

theorem rs_sq : rs x * rs x = 1 / ms x := by
  unfold rs
  rw [← mul_inv, Real.mul_self_sqrt (ms_pos x).le, one_div]

/-! The formulas over the extended reals, as the two texts spell them. -/

variable (X D G : Fin 4096 → EReal)

/-- The row's mean square, with the small constant added. -/
def kms : EReal := Ideal.div (∑ k, X k * X k) (Ideal.ofBits .f32 0x45800000#32) + Ideal.ofBits .f32 0x358637BD#32
/-- One over its square root. -/
def krs : EReal := Ideal.rsqrt (kms X)
/-- The row's gradient as the kernel computes it. -/
def kdx (j : Fin 4096) : EReal :=
  krs X * (D j * G j) - X j * (krs X * krs X * krs X) * Ideal.div (∑ k, D k * G k * X k) (Ideal.ofBits .f32 0x45800000#32)
/-- The gradient of the mean square, as the reference computes it. -/
def rw' : EReal :=
  Ideal.div ((∑ k, X k * (D k * G k)) * (Ideal.ofBits .f32 0xBF000000#32 * Ideal.div (krs X) (kms X))) (Ideal.ofBits .f32 0x45800000#32)
/-- The row's gradient as the reference computes it. -/
def rdx (j : Fin 4096) : EReal := D j * G j * krs X + X j * rw' X D G + rw' X D G * X j

theorem ofBits_4096 : Ideal.ofBits .f32 0x45800000#32 = ((4096 : ℝ) : EReal) := by
  simp [Ideal.ofBits, Ideal.ieee, -EReal.coe_mul]; norm_num

theorem div_4096 (a : ℝ) : Ideal.div (a : EReal) (Ideal.ofBits .f32 0x45800000#32) = ((a / 4096 : ℝ) : EReal) := by
  rw [ofBits_4096, div_coe _ _ (by norm_num)]

theorem kms_coe : kms (fun k => ((x k : ℝ) : EReal)) = ((ms x : ℝ) : EReal) := by
  unfold kms ms
  simp only [← EReal.coe_mul, coe_sum, div_4096, ofBits_eps, ← EReal.coe_add]
theorem krs_coe : krs (fun k => ((x k : ℝ) : EReal)) = ((rs x : ℝ) : EReal) := by
  unfold krs
  rw [kms_coe]
  exact rsqrt_coe _ (ms_pos x)
/-- A sum of terms none of which is negative is infinite as soon as one of them is. -/
theorem sum_top (f : Fin 4096 → EReal) (hf : ∀ k, 0 ≤ f k) (k : Fin 4096) (hk : f k = ⊤) : ∑ j, f j = ⊤ :=
  top_le_iff.1 (hk ▸ Finset.single_le_sum (f := f) (fun j _ => hf j) (Finset.mem_univ k))

theorem sq_nonneg' (a : EReal) : 0 ≤ a * a := by
  induction a with
  | bot => simp
  | top => simp
  | coe a => rw [← EReal.coe_mul]; exact_mod_cast mul_self_nonneg a

theorem two_sum (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add, two_mul]

theorem div_real (a : EReal) (b : ℝ) (hb : b ≠ 0) : Ideal.div a (b : EReal) = a * ((b⁻¹ : ℝ) : EReal) := by
  unfold Ideal.div
  rw [if_neg (by simpa using hb), ← EReal.coe_inv]

/-- On a row with an infinite entry the norm's factor vanishes. -/
theorem krs_top (k : Fin 4096) (h : X k = ⊤ ∨ X k = ⊥) : kms X = ⊤ ∧ krs X = 0 := by
  have e : ∑ j, X j * X j = ⊤ := sum_top _ (fun j => sq_nonneg' _) k (by rcases h with h | h <;> simp [h])
  have e' : kms X = ⊤ := by
    unfold kms
    rw [e, ofBits_4096, div_real _ _ (by norm_num), EReal.top_mul_coe_of_pos (by norm_num), ofBits_eps]
    rfl
  refine ⟨e', ?_⟩
  unfold krs
  rw [e']
  rfl

theorem zero_div' (a : EReal) (ha : a ≠ 0) : Ideal.div 0 a = 0 := by
  unfold Ideal.div
  rw [if_neg ha, zero_mul]

/-- The kernel's form is the reference's, whatever the extended reals of the row are. -/
theorem kdx_eq (j : Fin 4096) : kdx X D G j = rdx X D G j := by
  have hc : (∑ k, X k * (D k * G k)) = ∑ k, D k * G k * X k := Finset.sum_congr rfl fun k _ => mul_comm _ _
  by_cases hX : ∃ k, X k = ⊤ ∨ X k = ⊥
  · obtain ⟨k, hk⟩ := hX
    obtain ⟨e, e'⟩ := krs_top X k hk
    have hw : rw' X D G = 0 := by
      unfold rw'
      rw [e', e, zero_div' _ (by simp), mul_zero, mul_zero, ofBits_4096, zero_div' _ (by simp)]
    unfold kdx rdx
    rw [e', hw]
    simp
  · have hx : ∀ k, X k = (((X k).toReal : ℝ) : EReal) := fun k =>
      (EReal.coe_toReal (fun h => hX ⟨k, .inl h⟩) (fun h => hX ⟨k, .inr h⟩)).symm
    obtain ⟨x, rfl⟩ : ∃ x : Fin 4096 → ℝ, X = fun k => ((x k : ℝ) : EReal) := ⟨_, funext hx⟩
    unfold kdx rdx rw'
    rw [hc, krs_coe, kms_coe, ofBits_4096, ofBits_neg_half, div_coe _ _ (ms_pos x).ne']
    generalize (∑ k, D k * G k * ((x k : ℝ) : EReal)) = S
    simp only [← EReal.coe_mul, div_real _ (4096 : ℝ) (by norm_num)]
    have h2 : rs x / ms x = rs x * (rs x * rs x) := by rw [rs_sq]; ring
    rw [h2, mul_comm (D j * G j), sub_eq_add_neg, ← EReal.neg_mul, ← EReal.coe_neg, add_assoc,
      mul_comm _ ((x j : ℝ) : EReal), two_sum]
    simp only [mul_comm S, mul_assoc, ← mul_assoc _ _ S, ← EReal.coe_mul]
    congr 1
    simp only [← mul_assoc, ← EReal.coe_mul]
    congr 2
    ring

end Cert.Rms

end
-- ==== Proof.RmsValue.lean ====
module

public import proofs.«01_k».proof.Proof.Gen.Kernel11Ideal.Value
public import proofs.«01_k».proof.Proof.RmsMath
public import Idealize.ShloMosaic.Lib.Pipeline.ValueKit

@[expose] public section

set_option maxRecDepth 16384

/-! The norm gradient's kernel: what a grid point writes, element by element. -/

noncomputable section

open Idealize.ShloMosaic Idealize.ShloMosaic.TcCoe Idealize.SL.Sem

namespace Cert.Kernel11Ideal.Value

open Cert.Kernel11Ideal Cert.Kernel11Ideal.Gen Cert.Rms

/-- A block's gradient at one element. -/
def dxAt (x : Vec Ideal S256x4096 .f32) (d : Vec Ideal S256x4096 .bf16) (g : Vec Ideal S1x4096 .f32) (e : Vec Ideal S256x4096 .f32)
    (r : Fin 256) (l : Fin 4096) : EReal :=
  kdx (fun k => x (ix2 r k)) (fun k => d (ix2 r k)) (fun k => g (ix2 0 k)) l + (e (ix2 r l) : EReal)
/-- A block's share of the gain's gradient. -/
def part (x : Vec Ideal S256x4096 .f32) (d : Vec Ideal S256x4096 .bf16) (l : Fin 4096) : EReal :=
  ∑ r : Fin 256, (d (ix2 r l) : EReal) * (x (ix2 r l) : EReal) * krs (fun k => x (ix2 r k))

variable (m : (ℓ : Loc nD τ sig) → Buf (Elt Ideal) ℓ) (c : Dev nD)

theorem pay4_at (x : Vec Ideal S256x4096 .f32) (d : Vec Ideal S256x4096 .bf16) (g : Vec Ideal S1x4096 .f32) (e : Vec Ideal S256x4096 .f32)
    (r : Fin 256) (l : Fin 4096) : k0_pay4 x d g e (ix2 r l) = dxAt x d g e r l := by
  open_payloads
  pointwise []
  rfl
theorem pay6_at (x : Vec Ideal S256x4096 .f32) (d : Vec Ideal S256x4096 .bf16) (l : Fin 4096) :
    k0_pay6 x d (ix2 0 l) = part x d l := by
  open_payloads
  pointwise []
  rfl

theorem outA4 (t : Fin cfg0.N) (h : t.val = 0) : (outsAt0 m c t.val t.isLt).1 = k0_pay4 (iblk m c 0 t) (iblk m c 1 t) (iblk m c 2 t) (iblk m c 3 t) := by
  rw [outsAt0_A m c t (by omega) (by omega)]
  frame_out
theorem outB4 (t : Fin cfg0.N) (h : 1 ≤ t.val) : (outsAt0 m c t.val t.isLt).1 = k0_pay4 (iblk m c 0 t) (iblk m c 1 t) (iblk m c 2 t) (iblk m c 3 t) := by
  rw [outsAt0_B m c t (by have : t.val < 16 := lt_of_lt_of_eq t.isLt N_0; omega) h]
  frame_out
theorem outA5 (t : Fin cfg0.N) (h : t.val = 0) : (outsAt0 m c t.val t.isLt).2.1 = k0_pay5 (iblk m c 0 t) (iblk m c 1 t) (iblk m c 2 t) (iblk m c 3 t) := by
  rw [outsAt0_A m c t (by omega) (by omega)]
  frame_out
theorem outB5 (t : Fin cfg0.N) (h : 1 ≤ t.val) : (outsAt0 m c t.val t.isLt).2.1 = k0_pay5 (iblk m c 0 t) (iblk m c 1 t) (iblk m c 2 t) (iblk m c 3 t) := by
  rw [outsAt0_B m c t (by have : t.val < 16 := lt_of_lt_of_eq t.isLt N_0; omega) h]
  frame_out

theorem out4 (t : Fin cfg0.N) (r : Fin 256) (l : Fin 4096) :
    (outsAt0 m c t.val t.isLt).1 (ix2 r l) = dxAt (iblk m c 0 t) (iblk m c 1 t) (iblk m c 2 t) (iblk m c 3 t) r l := by
  rcases Nat.eq_zero_or_pos t.val with h | h
  · rw [outA4 m c t h]; exact pay4_at _ _ _ _ _ _
  · rw [outB4 m c t h]; exact pay4_at _ _ _ _ _ _
theorem out5 (t : Fin cfg0.N) (r : Fin 256) (l : Fin 4096) :
    (outsAt0 m c t.val t.isLt).2.1 (ix2 r l) = dxAt (iblk m c 0 t) (iblk m c 1 t) (iblk m c 2 t) (iblk m c 3 t) r l := by
  rcases Nat.eq_zero_or_pos t.val with h | h
  · rw [outA5 m c t h]; exact pay4_at _ _ _ _ _ _
  · rw [outB5 m c t h]; exact pay4_at _ _ _ _ _ _

theorem stepA (t : Fin cfg0.N) (h : t.val = 0) (l : Fin 4096) :
    (outsAt0 m c t.val t.isLt).2.2 (ix2 0 l) = part (iblk m c 0 t) (iblk m c 1 t) l := by
  rw [outsAt0_A m c t (by omega) (by omega)]
  frame_out
  exact pay6_at _ _ _
theorem stepB (t : Fin cfg0.N) (h : 1 ≤ t.val) (l : Fin 4096) :
    (outsAt0 m c t.val t.isLt).2.2 (ix2 0 l) =
      ((outsAt0 m c (t.val - 1) (lt_of_le_of_lt (Nat.sub_le _ _) t.isLt)).2.2 (ix2 0 l) : EReal) + part (iblk m c 0 t) (iblk m c 1 t) l := by
  rw [outsAt0_B m c t (by have : t.val < 16 := lt_of_lt_of_eq t.isLt N_0; omega) h]
  frame_out
  unfold k0_pay1
  pointwise []
  exact congrArg₂ (fun x y : EReal => x + y) rfl (pay6_at _ _ _)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- A block's row `r` is the array's row `256 n + r`. -/
abbrev rowN (n : ℕ) (hn : n < 16) (r : Fin 256) : Fin 4096 := ⟨n * 256 + r.val, by omega⟩
abbrev row (t : Fin cfg0.N) (r : Fin 256) : Fin 4096 := rowN t.val (lt_of_lt_of_eq t.isLt N_0) r

theorem blk0 (t : Fin cfg0.N) (r : Fin 256) (k : Fin 4096) :
    iblk m c 0 t (ix2 r k) = m ((c.tc : Thread nD τ).loc main_arg0) (ix2 (row t r) k) := by
  blk_point [iblk, V, idx0 t]
theorem blk1 (t : Fin cfg0.N) (r : Fin 256) (k : Fin 4096) :
    iblk m c 1 t (ix2 r k) = m ((c.tc : Thread nD τ).loc main_arg1) (ix2 (row t r) k) := by
  blk_point [iblk, V, idx1 t]
theorem blk2 (t : Fin cfg0.N) (k : Fin 4096) :
    iblk m c 2 t (ix2 0 k) = m ((c.tc : Thread nD τ).loc main_arg2) (ix2 0 k) := by
  blk_point [iblk, V, idx2 t]
theorem blk3 (t : Fin cfg0.N) (r : Fin 256) (k : Fin 4096) :
    iblk m c 3 t (ix2 r k) = m ((c.tc : Thread nD τ).loc main_arg3) (ix2 (row t r) k) := by
  blk_point [iblk, V, idx3 t]

/-- One row's term of the gain's gradient. -/
def term (x : FVec Ideal S4096x4096 .f32) (d : FVec Ideal S4096x4096 .bf16) (l R : Fin 4096) : EReal :=
  (d (ix2 R l) : EReal) * (x (ix2 R l) : EReal) * krs (fun k => x (ix2 R k))

/-- After point `n` the third output holds the terms of the rows up to that point's. -/
theorem acc (l : Fin 4096) : ∀ (n : ℕ) (hn : n < cfg0.N) (h16 : n < 16), (outsAt0 m c n hn).2.2 (ix2 0 l) =
    ∑ p : Fin (n + 1), ∑ r : Fin 256, term (m ((c.tc : Thread nD τ).loc main_arg0)) (m ((c.tc : Thread nD τ).loc main_arg1)) l
      (rowN p.val (by omega) r)
  | 0, hn, h16 => by
    rw [stepA m c ⟨0, hn⟩ rfl l, Fin.sum_univ_one]
    unfold part term
    simp only [blk0 m c, blk1 m c]
    rfl
  | n + 1, hn, h16 => by
    rw [Fin.sum_univ_castSucc]
    refine (stepB m c ⟨n + 1, hn⟩ (by show 1 ≤ n + 1; omega) l).trans ?_
    refine congrArg₂ (fun x y : EReal => x + y) (acc l n (lt_trans (Nat.lt_succ_self n) hn) (by omega)) ?_
    unfold part term
    simp only [blk0 m c, blk1 m c]
    rfl

theorem sum_rows (f : Fin 4096 → EReal) : ∑ p : Fin 16, ∑ r : Fin 256, f (rowN p.val p.isLt r) = ∑ R, f R := by
  rw [← Fintype.sum_prod_type']
  refine Fintype.sum_equiv (finProdFinEquiv (m := 16) (n := 256)) _ _ fun a => congrArg f (Fin.ext ?_)
  show a.1.val * 256 + a.2.val = a.2.val + 256 * a.1.val
  omega

end Cert.Kernel11Ideal.Value

end
-- ==== Proof.RmsRef.lean ====
module

public import proofs.«01_k».proof.Proof.Gen.Reference11Ideal.Run
public import proofs.«01_k».proof.Proof.RmsMath
public import Idealize.ShloMosaic.Lib.Pipeline.ValueKit

@[expose] public section

set_option maxRecDepth 16384

/-! The norm gradient's reference, element by element. -/

noncomputable section

open Idealize.ShloMosaic Idealize.ShloMosaic.TcCoe Idealize.SL.Sem

namespace Cert.Reference11Ideal.Value

open Cert.Reference11Ideal Cert.Reference11Ideal.Gen Cert.Rms

variable (x : FVec Ideal S4096x4096 .f32) (d : FVec Ideal S4096x4096 .bf16) (g : FVec Ideal S1x4096 .f32) (e : FVec Ideal S4096x4096 .f32)

/-- The rows' mean squares with the small constant, and one over their square roots. -/
def fms : FVec Ideal S4096x1 .f32 :=
  addf (Host.divf (broadcastInDim S4096x1 ![0] bcast_S4096_S4096x1_0 (Host.reduceAdd (mulf x x) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32))
def frs : FVec Ideal S4096x1 .f32 := Host.rsqrt (fms x)
/-- The gradient of the normalised rows. -/
def fdy : FVec Ideal S4096x4096 .f32 :=
  mulf (extf .f32 d bitsLt_bf16_f32) (broadcastInDim S4096x4096 ![0, 1] bcast_S1x4096_S4096x4096_0_1
    (broadcastInDim S1x4096 ![1] bcast_S4096_S1x4096_1 (shapeCast _ g shapeCasts_S1x4096_S4096)))
/-- The gradient of the mean squares. -/
def fw : FVec Ideal S4096x4096 .f32 :=
  broadcastInDim S4096x4096 ![0] bcast_S4096_S4096x4096_0 (Host.reduceAdd (Host.divf (mulf (shapeCast _ (Host.reduceAdd (mulf x (fdy d g))
    (constant S_ .f32 0x00000000#32) reducesTo_S4096x4096_S4096_d1 h_S_) shapeCasts_S4096_S4096x1)
    (mulf (broadcastInDim S4096x1 ![] bcast_S_S4096x1 (constant S_ .f32 0xBF000000#32)) (Host.divf (frs x) (fms x))))
    (broadcastInDim S4096x1 ![] bcast_S_S4096x1 (constant S_ .f32 0x45800000#32))) (constant S_ .f32 0x00000000#32) reducesTo_S4096x1_S4096_d1 h_S_)
/-- The three results. -/
def ref0 : FVec Ideal S4096x4096 .f32 :=
  addf (addf (addf (mulf (fdy d g) (broadcastInDim S4096x4096 ![0, 1] bcast_S4096x1_S4096x4096_0_1 (frs x))) (mulf x (fw x d g))) (mulf (fw x d g) x)) e
def ref1 : FVec Ideal S4096x4096 .bf16 := truncf .bf16 (ref0 x d g e) bitsLt_bf16_f32
def ref2 : FVec Ideal S1x4096 .f32 :=
  broadcastInDim S1x4096 ![1] bcast_S4096_S1x4096_1 (Host.reduceAdd (shapeCast _ (Host.reduceAdd (mulf (mulf x
    (broadcastInDim S4096x4096 ![0, 1] bcast_S4096x1_S4096x4096_0_1 (frs x))) (extf .f32 d bitsLt_bf16_f32)) (constant S_ .f32 0x00000000#32)
    reducesTo_S4096x4096_S4096_d0 h_S_) shapeCasts_S4096_S1x4096) (constant S_ .f32 0x00000000#32) reducesTo_S1x4096_S4096_d0 h_S_)

theorem fms_at (r : Fin 4096) : fms x (ix2 r 0) = kms (fun k => x (ix2 r k)) := by
  unfold fms
  pointwise []
  rfl
theorem frs_at (r : Fin 4096) : frs x (ix2 r 0) = krs (fun k => x (ix2 r k)) := by
  unfold frs
  pointwise []
  exact congrArg Ideal.rsqrt (fms_at x r)
theorem fdy_at (r l : Fin 4096) : fdy d g (ix2 r l) = (d (ix2 r l) : EReal) * (g (ix2 0 l) : EReal) := by
  unfold fdy
  pointwise []
theorem fw_at (r l : Fin 4096) : fw x d g (ix2 r l) = rw' (fun k => x (ix2 r k)) (fun k => d (ix2 r k)) (fun k => g (ix2 0 k)) := by
  unfold fw
  pointwise []
  refine (Fin.sum_univ_one _).trans ?_
  simp only [fdy_at]
  rw [show (ix2 r (0 : Fin 1) : S4096x1.Idx) = ix2 r 0 from rfl, frs_at, fms_at]
  rfl
theorem ref0_at (r l : Fin 4096) : ref0 x d g e (ix2 r l) =
    kdx (fun k => x (ix2 r k)) (fun k => d (ix2 r k)) (fun k => g (ix2 0 k)) l + (e (ix2 r l) : EReal) := by
  rw [kdx_eq]
  unfold ref0
  pointwise []
  simp only [fdy_at, frs_at, fw_at]
  rfl
theorem ref2_at (l : Fin 4096) : ref2 x d (ix2 0 l) =
    ∑ r : Fin 4096, (d (ix2 r l) : EReal) * (x (ix2 r l) : EReal) * krs (fun k => x (ix2 r k)) := by
  unfold ref2
  pointwise []
  refine (Fin.sum_univ_one _).trans ?_
  simp only [frs_at]
  refine Finset.sum_congr rfl fun r _ => ?_
  exact (mul_comm _ _).trans (mul_assoc _ _ _).symm

end Cert.Reference11Ideal.Value

end
-- ==== Proof.RmsClaim.lean ====
module

public import proofs.«01_k».proof.Defs
public import proofs.«01_k».proof.Proof.RmsValue
public import proofs.«01_k».proof.Proof.RmsRef

@[expose] public section

set_option maxRecDepth 16384

/-! The norm gradient's value claim. -/

noncomputable section

open Idealize.ShloMosaic Idealize.ShloMosaic.TcCoe Idealize.SL.Sem

namespace Cert.Kernel11Ideal.Value

open Cert.Kernel11Ideal Cert.Kernel11Ideal.Gen Cert.Rms Cert.Reference11Ideal.Value

variable (m : (ℓ : Loc nD τ sig) → Buf (Elt Ideal) ℓ) (c : Dev nD)

theorem dx_eq (t : Fin cfg0.N) (r : Fin 256) (l : Fin 4096) :
    dxAt (iblk m c 0 t) (iblk m c 1 t) (iblk m c 2 t) (iblk m c 3 t) r l =
      ref0 (m ((c.tc : Thread nD τ).loc main_arg0)) (m ((c.tc : Thread nD τ).loc main_arg1)) (m ((c.tc : Thread nD τ).loc main_arg2)) (m ((c.tc : Thread nD τ).loc main_arg3)) (ix2 (row t r) l) := by
  rw [ref0_at]
  unfold dxAt
  simp only [blk0 m c, blk1 m c, blk2 m c, blk3 m c]

theorem split (y : S256x4096.Idx) : ∃ (r : Fin 256) (l : Fin 4096), y = ix2 r l :=
  ⟨y 0, y 1, by funext a; match a with | ⟨0, _⟩ => rfl | ⟨1, _⟩ => rfl⟩
theorem at_row (t : Fin cfg0.N) (r : Fin 256) (l : Fin 4096) (i : S4096x4096.Idx) (h0 : (i 0).val = t.val * 256 + r.val) (h1 : (i 1).val = l.val) :
    i = ix2 (row t r) l := by
  funext a; apply Fin.ext
  match a with
  | ⟨0, _⟩ => exact h0
  | ⟨1, _⟩ => exact h1

theorem emb4_0 (t : Fin cfg0.N) (y : S256x4096.Idx) : ((win0_4.blk t).view.emb y 0).val = t.val * 256 + (y 0).val := by
  blk_simp [idx4 t]
theorem emb4_1 (t : Fin cfg0.N) (y : S256x4096.Idx) : ((win0_4.blk t).view.emb y 1).val = (y 1).val := by
  blk_simp [idx4 t]
theorem emb5_0 (t : Fin cfg0.N) (y : S256x4096.Idx) : ((win0_5.blk t).view.emb y 0).val = t.val * 256 + (y 0).val := by
  blk_simp [idx5 t]
theorem emb5_1 (t : Fin cfg0.N) (y : S256x4096.Idx) : ((win0_5.blk t).view.emb y 1).val = (y 1).val := by
  blk_simp [idx5 t]
theorem emb6_1 (t : Fin cfg0.N) (y : S1x4096.Idx) : ((win0_6.blk t).view.emb y 1).val = (y 1).val := by
  blk_simp [idx6 t]

theorem block4 (t : Fin cfg0.N) (y : S256x4096.Idx) (i : S4096x4096.Idx) (h0 : (i 0).val = t.val * 256 + (y 0).val) (h1 : (i 1).val = (y 1).val) :
    (outsAt0 m c t.val t.isLt).1 y = ref0 (m ((c.tc : Thread nD τ).loc main_arg0)) (m ((c.tc : Thread nD τ).loc main_arg1)) (m ((c.tc : Thread nD τ).loc main_arg2)) (m ((c.tc : Thread nD τ).loc main_arg3)) i := by
  obtain ⟨r, l, rfl⟩ := split y
  obtain rfl := at_row t r l i h0 h1
  exact (out4 m c t r l).trans (dx_eq m c t r l)
theorem block5 (t : Fin cfg0.N) (y : S256x4096.Idx) (i : S4096x4096.Idx) (h0 : (i 0).val = t.val * 256 + (y 0).val) (h1 : (i 1).val = (y 1).val) :
    (outsAt0 m c t.val t.isLt).2.1 y = ref1 (m ((c.tc : Thread nD τ).loc main_arg0)) (m ((c.tc : Thread nD τ).loc main_arg1)) (m ((c.tc : Thread nD τ).loc main_arg2)) (m ((c.tc : Thread nD τ).loc main_arg3)) i := by
  obtain ⟨r, l, rfl⟩ := split y
  obtain rfl := at_row t r l i h0 h1
  exact (out5 m c t r l).trans (dx_eq m c t r l)
theorem block6 (t : Fin cfg0.N) (h : t.val = 15) (y i : S1x4096.Idx) (h1 : (i 1).val = (y 1).val) :
    (outsAt0 m c t.val t.isLt).2.2 y = ref2 (m ((c.tc : Thread nD τ).loc main_arg0)) (m ((c.tc : Thread nD τ).loc main_arg1)) i := by
  obtain ⟨l, rfl⟩ : ∃ l : Fin 4096, y = ix2 0 l :=
    ⟨y 1, by funext a; match a with | ⟨0, _⟩ => exact Fin.ext (Nat.lt_one_iff.mp (y 0).isLt) | ⟨1, _⟩ => rfl⟩
  obtain rfl : i = ix2 0 l := by
    funext a; apply Fin.ext
    match a with
    | ⟨0, _⟩ => exact Nat.lt_one_iff.mp (i 0).isLt
    | ⟨1, _⟩ => exact h1
  obtain ⟨n, hn⟩ := t
  obtain rfl : n = 15 := h
  exact (acc m c l 15 hn (by decide)).trans ((sum_rows _).trans (ref2_at _ _ l).symm)

theorem cov4 : (cfg0.win 4).Covers := by decide +kernel
theorem cov5 : (cfg0.win 5).Covers := by decide +kernel
theorem cov6 : (cfg0.win 6).Covers := by decide +kernel

theorem arr4 : (dats m 0 c).arrAt 4 (cfgs 0).N = ref0 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_covers 4 _ cov4 fun t _ y =>
    (congrFun (after0_4 m c t) y).trans (block4 m c t y _ (emb4_0 t y) (emb4_1 t y))
theorem arr5 : (dats m 0 c).arrAt 5 (cfgs 0).N = ref1 (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_covers 5 _ cov5 fun t _ y =>
    (congrFun (after0_5 m c t) y).trans (block5 m c t y _ (emb5_0 t y) (emb5_1 t y))
theorem arr6 : (dats m 0 c).arrAt 6 (cfgs 0).N = ref2 (m ((c.tc : Thread nD τ).loc main_arg0)) (m ((c.tc : Thread nD τ).loc main_arg1)) :=
  (dats m 0 c).arrAt_eq_of_covers 6 _ cov6 fun t hf y =>
    (congrFun (after0_6 m c t) y).trans (block6 m c t (by have := (flush0_6 t).1 hf; have : t.val < 16 := lt_of_lt_of_eq t.isLt N_0; omega) y _ (emb6_1 t y))

end Cert.Kernel11Ideal.Value

namespace Cert.RmsClaim

open Cert.Reference11Ideal.Value

theorem algebraic : Cert.algebraic_Kernel11Ideal_Reference11Ideal := by
  intro m g m' g' hp hm
  refine ⟨fun c => ref0 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => ref1 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)),
    fun c => ref2 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run (Cert.Kernel11Ideal.defs (F := Ideal)) _ _).mono (fun r h c => ⟨(h c).1.trans (Cert.Kernel11Ideal.Value.arr4 m c),
      (h c).2.1.trans (Cert.Kernel11Ideal.Value.arr5 m c), (h c).2.2.1.trans (Cert.Kernel11Ideal.Value.arr6 m c), (h c).2.2.2⟩)
      (Cert.Kernel11Ideal.Value.run_blocks (F := Ideal) m g),
    (θ_run (Cert.Reference11Ideal.defs (F := Ideal)) _ _).mono (fun r h c => ?_) (Cert.Reference11Ideal.Value.run (F := Ideal) m' g')⟩
  obtain ⟨h0, h1, h2, ha⟩ := h c
  obtain ⟨e0, e1, e2, e3⟩ := hm c
  refine ⟨h0.trans ((show _ = ref0 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) from rfl).trans ?_),
    h1.trans ((show _ = ref1 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) from rfl).trans ?_),
    h2.trans ((show _ = ref2 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) from rfl).trans ?_), ha⟩
  · rw [e0, e1, e2, e3]
  · rw [e0, e1, e2, e3]
  · rw [e0, e1]

end Cert.RmsClaim

end
-- ==== Proof.RopeValue.lean ====
module

public import proofs.«01_k».proof.Proof.Gen.Kernel12Ideal.Value
public import proofs.«01_k».proof.Proof.Lift
public import Idealize.ShloMosaic.Lib.Pipeline.ValueKit

@[expose] public section

set_option maxRecDepth 16384

/-! The rotary gradient's kernel: what a grid point writes, element by element. -/

noncomputable section

open Idealize.ShloMosaic Idealize.ShloMosaic.TcCoe Idealize.SL.Sem

namespace Cert.Kernel12Ideal.Value

open Cert.Kernel12Ideal Cert.Kernel12Ideal.Gen

/-- The lanes a head's lane is paired with: those at its offset in the head's first and second half. -/
abbrev lo (l : Fin 2048) : Fin 2048 := ⟨l.val / 256 * 256 + l.val % 128, by omega⟩
abbrev hi (l : Fin 2048) : Fin 2048 := ⟨l.val / 256 * 256 + 128 + l.val % 128, by omega⟩
abbrev off (l : Fin 2048) : Fin 128 := ⟨l.val % 128, by omega⟩

/-- The rotation backwards, as the kernel's text spells it. -/
def turn (l : Fin 2048) (u v c s : EReal) : EReal :=
  if l.val % 256 < 128 then u * c - v * (0 - s) else v * c + u * (0 - s)

theorem turn_fst (x : Vec Ideal S256x2048 .f32) (c s : Vec Ideal S256x128 .f32) (r : Fin 256) (l a b : Fin 2048) (t : Fin 128) (h : l.val % 256 < 128)
    (ha : a.val = (lo l).val) (hb : b.val = (hi l).val) (ht : t.val = (off l).val) :
    (x (ix2 r a) : EReal) * (c (ix2 r t) : EReal) - (x (ix2 r b) : EReal) * (0 - (s (ix2 r t) : EReal)) =
      turn l (x (ix2 r (lo l))) (x (ix2 r (hi l))) (c (ix2 r (off l))) (s (ix2 r (off l))) := by
  obtain rfl := Fin.ext ha
  obtain rfl := Fin.ext hb
  obtain rfl := Fin.ext ht
  exact (if_pos h).symm
theorem turn_snd (x : Vec Ideal S256x2048 .f32) (c s : Vec Ideal S256x128 .f32) (r : Fin 256) (l a b : Fin 2048) (t : Fin 128) (h : ¬l.val % 256 < 128)
    (ha : a.val = (lo l).val) (hb : b.val = (hi l).val) (ht : t.val = (off l).val) :
    (x (ix2 r b) : EReal) * (c (ix2 r t) : EReal) + (x (ix2 r a) : EReal) * (0 - (s (ix2 r t) : EReal)) =
      turn l (x (ix2 r (lo l))) (x (ix2 r (hi l))) (c (ix2 r (off l))) (s (ix2 r (off l))) := by
  obtain rfl := Fin.ext ha
  obtain rfl := Fin.ext hb
  obtain rfl := Fin.ext ht
  exact (if_neg h).symm

theorem out4_at (x y : Vec Ideal S256x2048 .f32) (c s : Vec Ideal S256x128 .f32) (r : Fin 256) (l : Fin 2048) :
    out0_4 x y c s (ix2 r l) = turn l (x (ix2 r (lo l))) (x (ix2 r (hi l))) (c (ix2 r (off l))) (s (ix2 r (off l))) := by
  unfold out0_4
  canon_tiles x h
  all_goals
    idx_vars x
    open_payloads
    pointwise [h0, h1]
    obtain rfl := Fin.ext h0
    split
    · exact turn_fst _ _ _ _ _ _ _ _ (by omega) (by dsimp only; omega) (by dsimp only; omega) (by dsimp only; omega)
    · exact turn_snd _ _ _ _ _ _ _ _ (by omega) (by dsimp only; omega) (by dsimp only; omega) (by dsimp only; omega)

theorem out5_at (x y : Vec Ideal S256x2048 .f32) (c s : Vec Ideal S256x128 .f32) (r : Fin 256) (l : Fin 2048) :
    out0_5 x y c s (ix2 r l) =
      turn l (y (ix2 r (lo l))) (y (ix2 r (hi l))) (c (ix2 r (off l))) (s (ix2 r (off l))) * Ideal.ofBits .f32 0x3D800000#32 := by
  unfold out0_5
  canon_tiles x h
  all_goals
    idx_vars x
    open_payloads
    pointwise [h0, h1]
    obtain rfl := Fin.ext h0
    refine congrArg (fun z : EReal => z * Ideal.ofBits .f32 0x3D800000#32) ?_
    split
    · exact turn_fst _ _ _ _ _ _ _ _ (by omega) (by dsimp only; omega) (by dsimp only; omega) (by dsimp only; omega)
    · exact turn_snd _ _ _ _ _ _ _ _ (by omega) (by dsimp only; omega) (by dsimp only; omega) (by dsimp only; omega)

end Cert.Kernel12Ideal.Value

end
-- ==== Proof.RopeRef.lean ====
module

public import proofs.«01_k».proof.Proof.Gen.Reference12Ideal.Run
public import proofs.«01_k».proof.Proof.Lift
public import Idealize.ShloMosaic.Lib.Pipeline.ValueKit

@[expose] public section

set_option maxRecDepth 16384

/-! The rotary gradient's reference, element by element. -/

noncomputable section

open Idealize.ShloMosaic Idealize.ShloMosaic.TcCoe Idealize.SL.Sem

namespace Cert.Reference12Ideal.Value

open Cert.Reference12Ideal Cert.Reference12Ideal.Gen

variable (x : FVec Ideal S4096x2048 .f32) (c s : FVec Ideal S4096x128 .f32) (v : FVec Ideal S1x4096x8x256 .f32)

/-- A table spread over the heads. -/
def tab : FVec Ideal S1x4096x8x128 .f32 :=
  broadcastInDim S1x4096x8x128 ![0, 1, 2, 3] bcast_S1x4096x1x128_S1x4096x8x128_0_1_2_3 (broadcastInDim S1x4096x1x128 ![1, 3] bcast_S4096x128_S1x4096x1x128_1_3 c)
/-- The two halves of every head. -/
def half0 : FVec Ideal S1x4096x8x128 .f32 := extractStridedSlice S1x4096x8x128 ![0, 0, 0, 0] v slices_S1x4096x8x256_S1x4096x8x128_0_0_0_0
def half1 : FVec Ideal S1x4096x8x128 .f32 := extractStridedSlice S1x4096x8x128 ![0, 0, 0, 128] v slices_S1x4096x8x256_S1x4096x8x128_0_0_0_128
/-- The rotation backwards. -/
def back : FVec Ideal S4096x2048 .bf16 :=
  truncf .bf16 (shapeCast _ (concatenate S1x4096x8x256 3
    [⟨S1x4096x8x128, (addf (mulf (half1 v) (tab s)) (mulf (half0 v) (tab c)))⟩,
      ⟨S1x4096x8x128, (addf (mulf (half1 v) (tab c)) (mulf (Host.negf (half0 v)) (tab s)))⟩]
    concatenates_S1x4096x8x128_S1x4096x8x128_S1x4096x8x256_d3) shapeCasts_S1x4096x8x256_S4096x2048) bitsLt_bf16_f32
/-- The heads of the gradients, the keys' with the scale. -/
def qs : FVec Ideal S1x4096x8x256 .f32 := shapeCast _ x shapeCasts_S4096x2048_S1x4096x8x256
def ks : FVec Ideal S1x4096x8x256 .f32 := mulf (qs x) (broadcastInDim S1x4096x8x256 ![] bcast_S_S1x4096x8x256 (constant S_ .f32 0x3D800000#32))

theorem tab_at (r : Fin 4096) (h : Fin 8) (j : Fin 128) : tab c (ix4 0 r h j) = c (ix2 r j) := by
  unfold tab
  pointwise []
theorem half0_at (r : Fin 4096) (h : Fin 8) (j : Fin 128) : half0 v (ix4 0 r h j) = v (ix4 0 r h ⟨j.val, by omega⟩) := by
  unfold half0
  pointwise []
theorem half1_at (r : Fin 4096) (h : Fin 8) (j : Fin 128) : half1 v (ix4 0 r h j) = v (ix4 0 r h ⟨128 + j.val, by omega⟩) := by
  unfold half1
  pointwise []
theorem qs_at (r : Fin 4096) (h : Fin 8) (j : Fin 256) : qs x (ix4 0 r h j) = x (ix2 r ⟨h.val * 256 + j.val, by omega⟩) := by
  unfold qs
  pointwise []
theorem ks_at (r : Fin 4096) (h : Fin 8) (j : Fin 256) :
    ks x (ix4 0 r h j) = (x (ix2 r ⟨h.val * 256 + j.val, by omega⟩) : EReal) * Ideal.ofBits .f32 0x3D800000#32 := by
  unfold ks
  pointwise []
  rw [qs_at]

abbrev hd (l : Fin 2048) : Fin 8 := ⟨l.val / 256, by omega⟩
abbrev off (l : Fin 2048) : Fin 128 := ⟨l.val % 128, by omega⟩

/-- The rotation backwards, as the reference's text spells it. -/
def rturn (l : Fin 2048) (u v c s : EReal) : EReal :=
  if l.val % 256 < 128 then v * s + u * c else v * c + -u * s

theorem back_at (r : Fin 4096) (l : Fin 2048) : back c s v (ix2 r l) =
    rturn l (v (ix4 0 r (hd l) ⟨l.val % 128, by omega⟩)) (v (ix4 0 r (hd l) ⟨128 + l.val % 128, by omega⟩)) (c (ix2 r (off l))) (s (ix2 r (off l))) := by
  unfold back rturn
  pointwise []
  simp only [tab_at, half0_at, half1_at]
  by_cases h : l.val % 256 < 128
  · rw [dif_pos h, if_pos h]
    have e : l.val % 256 = l.val % 128 := by omega
    simp only [e]
  · rw [dif_neg h, if_neg h]
    have e : l.val % 256 - 128 = l.val % 128 := by omega
    simp only [e]

end Cert.Reference12Ideal.Value

end
-- ==== Proof.RopeClaim.lean ====
module

public import proofs.«01_k».proof.Defs
public import proofs.«01_k».proof.Proof.RopeValue
public import proofs.«01_k».proof.Proof.RopeRef

@[expose] public section

set_option maxRecDepth 16384

/-! The rotary gradient's value claim. -/

noncomputable section

open Idealize.ShloMosaic Idealize.ShloMosaic.TcCoe Idealize.SL.Sem

namespace Cert.RopeClaim

open Cert.Kernel12Ideal.Value (turn)
open Cert.Reference12Ideal.Value (rturn)

theorem turn_eq (l : Fin 2048) (u v c s : EReal) : turn l u v c s = rturn l u v c s := by
  unfold turn rturn
  rw [zero_sub, mul_neg, mul_neg, neg_mul, sub_eq_add_neg, neg_neg, add_comm (u * c)]

theorem ofBits_16 : Ideal.ofBits .f32 0x3D800000#32 = ((1 / 16 : ℝ) : EReal) := by
  simp [Ideal.ofBits, Ideal.ieee, -EReal.coe_mul]; norm_num

/-- The scale, a positive real number, may be applied before the rotation or after it. -/
theorem turn_scale (l : Fin 2048) (u v c s : EReal) : turn l u v c s * Ideal.ofBits .f32 0x3D800000#32 =
    rturn l (u * Ideal.ofBits .f32 0x3D800000#32) (v * Ideal.ofBits .f32 0x3D800000#32) c s := by
  rw [turn_eq, ofBits_16]
  have h0 : (0 : EReal) ≤ ((1 / 16 : ℝ) : EReal) := by exact_mod_cast (by norm_num : (0 : ℝ) ≤ 1 / 16)
  have ht : ((1 / 16 : ℝ) : EReal) ≠ ⊤ := EReal.coe_ne_top _
  generalize ((1 / 16 : ℝ) : EReal) = z at h0 ht
  unfold rturn
  split
  · rw [EReal.right_distrib_of_nonneg_of_ne_top h0 ht, mul_right_comm v z, mul_right_comm u z]
  · rw [EReal.right_distrib_of_nonneg_of_ne_top h0 ht, mul_right_comm v z, ← neg_mul u z, mul_right_comm (-u) z]

end Cert.RopeClaim

namespace Cert.Kernel12Ideal.Value

open Cert.Kernel12Ideal Cert.Kernel12Ideal.Gen Cert.Reference12Ideal.Value Cert.RopeClaim

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- A block's row `r` is the array's row `256 t + r`. -/
abbrev row (t : Fin cfg0.N) (r : Fin 256) : Fin 4096 := ⟨t.val * 256 + r.val, by have : t.val < 16 := lt_of_lt_of_eq t.isLt N_0; omega⟩

theorem blk0 (t : Fin cfg0.N) (r : Fin 256) (k : Fin 2048) :
    iblk m c 0 t (ix2 r k) = m ((c.tc : Thread nD τ).loc main_arg0) (ix2 (row t r) k) := by
  blk_point [iblk, V, idx0 t]
theorem blk1 (t : Fin cfg0.N) (r : Fin 256) (k : Fin 2048) :
    iblk m c 1 t (ix2 r k) = m ((c.tc : Thread nD τ).loc main_arg1) (ix2 (row t r) k) := by
  blk_point [iblk, V, idx1 t]
theorem blk2 (t : Fin cfg0.N) (r : Fin 256) (k : Fin 128) :
    iblk m c 2 t (ix2 r k) = m ((c.tc : Thread nD τ).loc main_arg2) (ix2 (row t r) k) := by
  blk_point [iblk, V, idx2 t]
theorem blk3 (t : Fin cfg0.N) (r : Fin 256) (k : Fin 128) :
    iblk m c 3 t (ix2 r k) = m ((c.tc : Thread nD τ).loc main_arg3) (ix2 (row t r) k) := by
  blk_point [iblk, V, idx3 t]

theorem lane_lo (l : Fin 2048) (h : l.val / 256 * 256 + l.val % 128 < 2048) : (⟨l.val / 256 * 256 + l.val % 128, h⟩ : Fin 2048) = lo l := rfl
theorem lane_hi (l : Fin 2048) (h : l.val / 256 * 256 + (128 + l.val % 128) < 2048) : (⟨l.val / 256 * 256 + (128 + l.val % 128), h⟩ : Fin 2048) = hi l :=
  Fin.ext (Nat.add_assoc _ _ _).symm

theorem point4 (t : Fin cfg0.N) (r : Fin 256) (l : Fin 2048) :
    out0_4 (iblk m c 0 t) (iblk m c 1 t) (iblk m c 2 t) (iblk m c 3 t) (ix2 r l) =
      back (m ((c.tc : Thread nD τ).loc main_arg2)) (m ((c.tc : Thread nD τ).loc main_arg3)) (qs (m ((c.tc : Thread nD τ).loc main_arg0))) (ix2 (row t r) l) := by
  rw [out4_at, back_at, turn_eq]
  simp only [qs_at, lane_lo, lane_hi, blk0 m c, blk2 m c, blk3 m c]
theorem point5 (t : Fin cfg0.N) (r : Fin 256) (l : Fin 2048) :
    out0_5 (iblk m c 0 t) (iblk m c 1 t) (iblk m c 2 t) (iblk m c 3 t) (ix2 r l) =
      back (m ((c.tc : Thread nD τ).loc main_arg2)) (m ((c.tc : Thread nD τ).loc main_arg3)) (ks (m ((c.tc : Thread nD τ).loc main_arg1))) (ix2 (row t r) l) := by
  rw [out5_at, back_at, turn_scale]
  simp only [ks_at, lane_lo, lane_hi, blk1 m c, blk2 m c, blk3 m c]

theorem split (y : S256x2048.Idx) : ∃ (r : Fin 256) (l : Fin 2048), y = ix2 r l :=
  ⟨y 0, y 1, by funext a; match a with | ⟨0, _⟩ => rfl | ⟨1, _⟩ => rfl⟩
theorem at_row (t : Fin cfg0.N) (r : Fin 256) (l : Fin 2048) (i : S4096x2048.Idx) (h0 : (i 0).val = t.val * 256 + r.val) (h1 : (i 1).val = l.val) :
    i = ix2 (row t r) l := by
  funext a; apply Fin.ext
  match a with
  | ⟨0, _⟩ => exact h0
  | ⟨1, _⟩ => exact h1

theorem emb4_0 (t : Fin cfg0.N) (y : S256x2048.Idx) : ((win0_4.blk t).view.emb y 0).val = t.val * 256 + (y 0).val := by
  blk_simp [idx4 t]
theorem emb4_1 (t : Fin cfg0.N) (y : S256x2048.Idx) : ((win0_4.blk t).view.emb y 1).val = (y 1).val := by
  blk_simp [idx4 t]
theorem emb5_0 (t : Fin cfg0.N) (y : S256x2048.Idx) : ((win0_5.blk t).view.emb y 0).val = t.val * 256 + (y 0).val := by
  blk_simp [idx5 t]
theorem emb5_1 (t : Fin cfg0.N) (y : S256x2048.Idx) : ((win0_5.blk t).view.emb y 1).val = (y 1).val := by
  blk_simp [idx5 t]

theorem block4 (t : Fin cfg0.N) (y : S256x2048.Idx) (i : S4096x2048.Idx) (h0 : (i 0).val = t.val * 256 + (y 0).val) (h1 : (i 1).val = (y 1).val) :
    out0_4 (iblk m c 0 t) (iblk m c 1 t) (iblk m c 2 t) (iblk m c 3 t) y = back (m ((c.tc : Thread nD τ).loc main_arg2)) (m ((c.tc : Thread nD τ).loc main_arg3)) (qs (m ((c.tc : Thread nD τ).loc main_arg0))) i := by
  obtain ⟨r, l, rfl⟩ := split y
  obtain rfl := at_row t r l i h0 h1
  exact point4 m c t r l
theorem block5 (t : Fin cfg0.N) (y : S256x2048.Idx) (i : S4096x2048.Idx) (h0 : (i 0).val = t.val * 256 + (y 0).val) (h1 : (i 1).val = (y 1).val) :
    out0_5 (iblk m c 0 t) (iblk m c 1 t) (iblk m c 2 t) (iblk m c 3 t) y = back (m ((c.tc : Thread nD τ).loc main_arg2)) (m ((c.tc : Thread nD τ).loc main_arg3)) (ks (m ((c.tc : Thread nD τ).loc main_arg1))) i := by
  obtain ⟨r, l, rfl⟩ := split y
  obtain rfl := at_row t r l i h0 h1
  exact point5 m c t r l

theorem cov4 : (cfg0.win 4).Covers := by decide +kernel
theorem cov5 : (cfg0.win 5).Covers := by decide +kernel

theorem arr4 : (dats m 0 c).arrAt 4 (cfgs 0).N = back (m ((c.tc : Thread nD τ).loc main_arg2)) (m ((c.tc : Thread nD τ).loc main_arg3)) (qs (m ((c.tc : Thread nD τ).loc main_arg0))) :=
  (dats m 0 c).arrAt_eq_of_covers 4 _ cov4 fun t _ y =>
    (congrFun (after0_4 m c t) y).trans (block4 m c t y _ (emb4_0 t y) (emb4_1 t y))
theorem arr5 : (dats m 0 c).arrAt 5 (cfgs 0).N = back (m ((c.tc : Thread nD τ).loc main_arg2)) (m ((c.tc : Thread nD τ).loc main_arg3)) (ks (m ((c.tc : Thread nD τ).loc main_arg1))) :=
  (dats m 0 c).arrAt_eq_of_covers 5 _ cov5 fun t _ y =>
    (congrFun (after0_5 m c t) y).trans (block5 m c t y _ (emb5_0 t y) (emb5_1 t y))

end Cert.Kernel12Ideal.Value

namespace Cert.RopeClaim

open Cert.Reference12Ideal.Value

theorem algebraic : Cert.algebraic_Kernel12Ideal_Reference12Ideal := by
  intro m g m' g' hp hm
  refine ⟨fun c => back (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (qs (m ((c.tc : Thread Cert.Kernel12Ideal.nD Cert.Kernel12Ideal.τ).loc Cert.Kernel12Ideal.main_arg0))),
    fun c => back (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (ks (m ((c.tc : Thread Cert.Kernel12Ideal.nD Cert.Kernel12Ideal.τ).loc Cert.Kernel12Ideal.main_arg1))),
    (θ_run (Cert.Kernel12Ideal.defs (F := Ideal)) _ _).mono (fun r h c => ⟨(h c).1.trans (Cert.Kernel12Ideal.Value.arr4 m c),
      (h c).2.1.trans (Cert.Kernel12Ideal.Value.arr5 m c), (h c).2.2⟩)
      (Cert.Kernel12Ideal.Value.run_blocks (F := Ideal) m g),
    (θ_run (Cert.Reference12Ideal.defs (F := Ideal)) _ _).mono (fun r h c => ?_) (Cert.Reference12Ideal.Value.run (F := Ideal) m' g')⟩
  obtain ⟨h0, h1, ha⟩ := h c
  obtain ⟨e0, e1, e2, e3⟩ := hm c
  refine ⟨h0.trans ((show _ = back (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (qs (m' ((c.tc : Thread Cert.Reference12Ideal.nD Cert.Reference12Ideal.τ).loc Cert.Reference12Ideal.main_arg0))) from rfl).trans ?_),
    h1.trans ((show _ = back (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (ks (m' ((c.tc : Thread Cert.Reference12Ideal.nD Cert.Reference12Ideal.τ).loc Cert.Reference12Ideal.main_arg1))) from rfl).trans ?_), ha⟩
  · rw [e0, e2, e3]
  · rw [e1, e2, e3]

end Cert.RopeClaim

end
-- ==== Proof.Tiles.lean ====
module

public import Idealize.ShloMosaic.Lib.Pointwise
public import Mathlib.Algebra.BigOperators.Fin

@[expose] public section

/-! What the products of several programs share: a block of a matrix is read at its own rows and columns, and a sum
    is taken in four equal parts. -/

noncomputable section

namespace Cert.Tiles

open Idealize.ShloMosaic

/-- A block `g` agrees with the matrix `f` at the block's place when it does so row by row and column by column. -/
theorem tile {A B a b p q : ℕ} {α : Type} (g : (⟨2, ![a, b]⟩ : Shape).Idx → α) (f : (⟨2, ![A, B]⟩ : Shape).Idx → α)
    (h : ∀ (r : Fin a) (l : Fin b) (R : Fin A) (L : Fin B), R.val = p + r.val → L.val = q + l.val → g (ix2 r l) = f (ix2 R L))
    (y : (⟨2, ![a, b]⟩ : Shape).Idx) (i : (⟨2, ![A, B]⟩ : Shape).Idx) (h0 : (i 0).val = p + (y 0).val) (h1 : (i 1).val = q + (y 1).val) :
    g y = f i := by
  rw [eq_ix2 y, eq_ix2 i]
  exact h _ _ _ _ h0 h1

/-- The product of a matrix with the transpose of another. -/
def abt {A B K : ℕ} (a : (⟨2, ![A, K]⟩ : Shape).Idx → EReal) (w : (⟨2, ![B, K]⟩ : Shape).Idx → EReal) : (⟨2, ![A, B]⟩ : Shape).Idx → EReal :=
  fun i => ∑ k : Fin K, a (ix2 (i 0 : Fin A) k) * w (ix2 (i 1 : Fin B) k)

/-- The product of two matrices. -/
def ab {A B K : ℕ} (a : (⟨2, ![A, K]⟩ : Shape).Idx → EReal) (w : (⟨2, ![K, B]⟩ : Shape).Idx → EReal) : (⟨2, ![A, B]⟩ : Shape).Idx → EReal :=
  fun i => ∑ k : Fin K, a (ix2 (i 0 : Fin A) k) * w (ix2 k (i 1 : Fin B))

/-- The product of a block of rows of `a` with the transpose of a block of rows of `w` is a block of `abt a w`. -/
theorem abt_block {A B K p q n n' : ℕ} {a : (⟨2, ![A, K]⟩ : Shape).Idx → EReal} {w : (⟨2, ![B, K]⟩ : Shape).Idx → EReal}
    {x : (⟨2, ![n, K]⟩ : Shape).Idx → EReal} {v : (⟨2, ![n', K]⟩ : Shape).Idx → EReal} {g : (⟨2, ![n, n']⟩ : Shape).Idx → EReal}
    (hg : ∀ (r : Fin n) (l : Fin n'), g (ix2 r l) = ∑ k : Fin K, x (ix2 r k) * v (ix2 l k))
    (hx : ∀ (r : Fin n) (R : Fin A), R.val = p + r.val → ∀ k, x (ix2 r k) = a (ix2 R k))
    (hv : ∀ (l : Fin n') (L : Fin B), L.val = q + l.val → ∀ k, v (ix2 l k) = w (ix2 L k))
    (y : (⟨2, ![n, n']⟩ : Shape).Idx) (i : (⟨2, ![A, B]⟩ : Shape).Idx) (h0 : (i 0).val = p + (y 0).val) (h1 : (i 1).val = q + (y 1).val) :
    g y = abt a w i :=
  tile g (abt a w) (fun r l R L hR hL => (hg r l).trans
    (Finset.sum_congr rfl fun k _ => congrArg₂ (· * ·) (hx r R hR k) (hv l L hL k))) y i h0 h1

/-- The product of a block of rows of `a` with a block of columns of `w` is a block of `ab a w`. -/
theorem ab_block {A B K p q n n' : ℕ} {a : (⟨2, ![A, K]⟩ : Shape).Idx → EReal} {w : (⟨2, ![K, B]⟩ : Shape).Idx → EReal}
    {x : (⟨2, ![n, K]⟩ : Shape).Idx → EReal} {v : (⟨2, ![K, n']⟩ : Shape).Idx → EReal} {g : (⟨2, ![n, n']⟩ : Shape).Idx → EReal}
    (hg : ∀ (r : Fin n) (l : Fin n'), g (ix2 r l) = ∑ k : Fin K, x (ix2 r k) * v (ix2 k l))
    (hx : ∀ (r : Fin n) (R : Fin A), R.val = p + r.val → ∀ k, x (ix2 r k) = a (ix2 R k))
    (hv : ∀ (l : Fin n') (L : Fin B), L.val = q + l.val → ∀ k, v (ix2 k l) = w (ix2 k L))
    (y : (⟨2, ![n, n']⟩ : Shape).Idx) (i : (⟨2, ![A, B]⟩ : Shape).Idx) (h0 : (i 0).val = p + (y 0).val) (h1 : (i 1).val = q + (y 1).val) :
    g y = ab a w i :=
  tile g (ab a w) (fun r l R L hR hL => (hg r l).trans
    (Finset.sum_congr rfl fun k _ => congrArg₂ (· * ·) (hx r R hR k) (hv l L hL k))) y i h0 h1

/-- The same for a stack of four matrices of which a block is one matrix's columns. -/
theorem tile3 {A B b p q : ℕ} {α : Type} (g : (⟨3, ![1, A, b]⟩ : Shape).Idx → α) (f : (⟨3, ![4, A, B]⟩ : Shape).Idx → α)
    (h : ∀ (u : Fin 1) (r : Fin A) (l : Fin b) (P : Fin 4) (L : Fin B), P.val = p + u.val → L.val = q + l.val →
      g (ix3 u r l) = f (ix3 P r L))
    (y : (⟨3, ![1, A, b]⟩ : Shape).Idx) (i : (⟨3, ![4, A, B]⟩ : Shape).Idx)
    (h0 : (i 0).val = p + (y 0).val) (h1 : (i 1).val = (y 1).val) (h2 : (i 2).val = q + (y 2).val) : g y = f i := by
  rw [eq_ix3 y, eq_ix3 i, show (i 1 : Fin A) = y 1 from Fin.ext h1]
  exact h _ _ _ _ _ h0 h2

/-- A sum in four equal parts. -/
theorem quarters {n N : ℕ} (hN : N = n + n + n + n) (f : Fin N → EReal) :
    ∑ k, f k = ((∑ k : Fin n, f ⟨0 * n + k.val, by omega⟩ + ∑ k : Fin n, f ⟨1 * n + k.val, by omega⟩)
      + ∑ k : Fin n, f ⟨2 * n + k.val, by omega⟩) + ∑ k : Fin n, f ⟨3 * n + k.val, by omega⟩ := by
  subst hN
  rw [Fin.sum_univ_add, Fin.sum_univ_add, Fin.sum_univ_add]
  refine congrArg₂ (· + ·) (congrArg₂ (· + ·) (congrArg₂ (· + ·) ?_ ?_) ?_) ?_ <;>
    exact Finset.sum_congr rfl fun k _ => congrArg f (Fin.ext (by simp [Fin.castAdd, Fin.natAdd]; try omega))

/-- The precondition on a class says that it is zero or one. -/
theorem class_of (w : BitVec 32) (h : IntOp.ori (IntOp.cmpi .eq w 0#32) (IntOp.cmpi .eq w 1#32) = 1#1) : w = 0#32 ∨ w = 1#32 := by
  by_cases h0 : w = 0#32
  · exact .inl h0
  by_cases h1 : w = 1#32
  · exact .inr h1
  simp only [IntOp.ori, IntOp.cmpi, beq_eq_false_iff_ne.2 h0, beq_eq_false_iff_ne.2 h1] at h
  exact absurd h (by decide)

theorem class_le (w : BitVec 32) (h : w = 0#32 ∨ w = 1#32) : w.toNat ≤ 1 := by
  rcases h with h | h <;> rw [h] <;> decide

/-- Shard `2 q + w` is the one of class `w` in pair `q`. -/
theorem shard (w : BitVec 32) (h : w = 0#32 ∨ w = 1#32) (q : ℕ) (hq : q < 4) :
    (Scalar.addi (Scalar.muli 2#32 (BitVec.ofNat 32 q)) w).toNat = 2 * q + w.toNat := by
  rcases h with h | h <;> rw [h] <;>
    simp [Scalar.addi, Scalar.muli, IntOp.addi, IntOp.muli, BitVec.toNat_add, BitVec.toNat_mul, BitVec.toNat_ofNat] <;> omega

end Cert.Tiles

end
-- ==== Proof.Acc13.lean ====
module

public import proofs.«01_k».proof.Defs
public import proofs.«01_k».proof.Proof.Gen.Kernel13Ideal.Value
public import proofs.«01_k».proof.Proof.Gen.Reference13Ideal.Run
public import proofs.«01_k».proof.Proof.Tiles
public import Idealize.ShloMosaic.Lib.Pipeline.ValueKit

@[expose] public section

set_option maxRecDepth 16384

/-! One half of the input gradient of the mixing block's input projection: four accumulated partial products are the
    reference's product. -/

noncomputable section

open Idealize.ShloMosaic Idealize.ShloMosaic.TcCoe Idealize.SL.Sem

namespace Cert.Reference13Ideal.Value

open Cert.Reference13Ideal Cert.Reference13Ideal.Gen

/-- The reference's result as a function of its two arguments. -/
def ref (a : FVec Ideal S4096x10240 .bf16) (w : FVec Ideal S10240x2048 .bf16) : FVec Ideal S4096x2048 .bf16 :=
  truncf .bf16 (Host.dotGeneral dot_S4096x10240_S2048x10240_S4096x2048_1_1_0_0_n_n none (extf .f32 a bitsLt_bf16_f32)
    (transpose S2048x10240 [1, 0] (extf .f32 w bitsLt_bf16_f32) transposes_S10240x2048_S2048x10240_1_0)) bitsLt_bf16_f32

theorem ref_at (a : FVec Ideal S4096x10240 .bf16) (w : FVec Ideal S10240x2048 .bf16) (R : Fin 4096) (L : Fin 2048) :
    ref a w (ix2 R L) = ∑ k : Fin 10240, a (ix2 R k) * w (ix2 k L) := by
  unfold ref
  pointwise []

end Cert.Reference13Ideal.Value

namespace Cert.Kernel13Ideal.Value

open Cert.Kernel13Ideal Cert.Kernel13Ideal.Gen

/-- One grid point's partial product. -/
def part (x : Vec Ideal S1024x2560 .bf16) (w : Vec Ideal S2560x1024 .bf16) (r l : Fin 1024) : EReal :=
  ∑ k : Fin 2560, x (ix2 r k) * w (ix2 k l)

variable (m : (ℓ : Loc nD τ sig) → Buf (Elt Ideal) ℓ) (c : Dev nD)

theorem stepA (t : Fin cfg0.N) (h : t.val % 4 = 0) (r l : Fin 1024) :
    (outsAt0 m c t.val t.isLt).2 (ix2 r l) = part (iblk m c 0 t) (iblk m c 1 t) r l := by
  rw [outsAt0_A m c t h (by omega) (by omega)]
  frame_out
  open_payloads
  pointwise []
  rfl

theorem stepB (t : Fin cfg0.N) (h : 1 ≤ t.val % 4 ∧ t.val % 4 ≤ 2) (r l : Fin 1024) :
    (outsAt0 m c t.val t.isLt).2 (ix2 r l) =
      ((outsAt0 m c (t.val - 1) (lt_of_le_of_lt (Nat.sub_le _ _) t.isLt)).2 (ix2 r l) : EReal) + part (iblk m c 0 t) (iblk m c 1 t) r l := by
  rw [outsAt0_B m c t (by omega) h (by omega)]
  frame_out
  open_payloads
  pointwise []
  exact congrArg₂ (fun x y : EReal => x + y) (congrFun (Memref.IsWhole.read_unread _ _) _) rfl

theorem stepC (t : Fin cfg0.N) (h : t.val % 4 = 3) (r l : Fin 1024) :
    (outsAt0 m c t.val t.isLt).1 (ix2 r l) =
      ((outsAt0 m c (t.val - 1) (lt_of_le_of_lt (Nat.sub_le _ _) t.isLt)).2 (ix2 r l) : EReal) + part (iblk m c 0 t) (iblk m c 1 t) r l := by
  rw [outsAt0_C m c t (by omega) (by omega) h]
  frame_out
  open_payloads
  pointwise []
  exact congrArg₂ (fun x y : EReal => x + y) (congrFun (Memref.IsWhole.read_unread _ _) _) rfl

theorem idx0 : ∀ t : Fin cfg0.N, win0_0.index t = ![t.val / 8, t.val % 4] := (by decide +kernel : ∀ t : Fin grid0.N, _)
theorem idx1 : ∀ t : Fin cfg0.N, win0_1.index t = ![t.val % 4, t.val / 4 % 2] := (by decide +kernel : ∀ t : Fin grid0.N, _)
theorem idx2 : ∀ t : Fin cfg0.N, win0_2.index t = ![t.val / 8, t.val / 4 % 2] := (by decide +kernel : ∀ t : Fin grid0.N, _)

theorem blk0 (t : Fin cfg0.N) (r : Fin 1024) (k : Fin 2560) (R : Fin 4096) (K : Fin 10240) (h : R.val = t.val / 8 * 1024 + r.val)
    (h' : K.val = t.val % 4 * 2560 + k.val) : iblk m c 0 t (ix2 r k) = m ((c.tc : Thread nD τ).loc main_arg0) (ix2 R K) := by
  obtain ⟨R, hR⟩ := R
  obtain ⟨K, hK⟩ := K
  subst h h'
  blk_point [iblk, V, idx0 t]
theorem blk1 (t : Fin cfg0.N) (k : Fin 2560) (l : Fin 1024) (K : Fin 10240) (L : Fin 2048) (h : K.val = t.val % 4 * 2560 + k.val)
    (h' : L.val = t.val / 4 % 2 * 1024 + l.val) : iblk m c 1 t (ix2 k l) = m ((c.tc : Thread nD τ).loc main_arg1) (ix2 K L) := by
  obtain ⟨K, hK⟩ := K
  obtain ⟨L, hL⟩ := L
  subst h h'
  blk_point [iblk, V, idx1 t]

/-- A quarter of the whole product's sum. -/
def quarter (a : FVec Ideal S4096x10240 .bf16) (w : FVec Ideal S10240x2048 .bf16) (R : Fin 4096) (L : Fin 2048) (n : ℕ) (hn : n < 4) : EReal :=
  ∑ k : Fin 2560, a (ix2 R (⟨n * 2560 + k.val, by omega⟩ : Fin 10240)) * w (ix2 (⟨n * 2560 + k.val, by omega⟩ : Fin 10240) L)

theorem quarter_sum (a : FVec Ideal S4096x10240 .bf16) (w : FVec Ideal S10240x2048 .bf16) (R : Fin 4096) (L : Fin 2048) :
    ((quarter a w R L 0 (by decide) + quarter a w R L 1 (by decide)) + quarter a w R L 2 (by decide)) + quarter a w R L 3 (by decide) =
      Cert.Reference13Ideal.Value.ref a w (ix2 R L) := by
  rw [Cert.Reference13Ideal.Value.ref_at]
  exact (Cert.Tiles.quarters (N := 10240) (n := 2560) rfl fun k => (a (ix2 R k) * w (ix2 k L) : EReal)).symm

/-- A grid point's partial product is one quarter of the whole sum. -/
theorem part_eq (t : Fin cfg0.N) (n : ℕ) (hn : n < 4) (ht : t.val % 4 = n) (r l : Fin 1024) (R : Fin 4096) (L : Fin 2048)
    (hR : R.val = t.val / 8 * 1024 + r.val) (hL : L.val = t.val / 4 % 2 * 1024 + l.val) :
    part (iblk m c 0 t) (iblk m c 1 t) r l =
      quarter (m ((c.tc : Thread nD τ).loc main_arg0)) (m ((c.tc : Thread nD τ).loc main_arg1)) R L n hn := by
  unfold part quarter
  refine Finset.sum_congr rfl fun k _ => ?_
  rw [blk0 m c t r k R ⟨n * 2560 + k.val, by omega⟩ hR (by rw [ht]), blk1 m c t k l ⟨n * 2560 + k.val, by omega⟩ L (by rw [ht]) hL]

theorem acc (t : Fin cfg0.N) (h : t.val % 4 = 3) (r l : Fin 1024) (R : Fin 4096) (L : Fin 2048)
    (hR : R.val = t.val / 8 * 1024 + r.val) (hL : L.val = t.val / 4 % 2 * 1024 + l.val) :
    (outsAt0 m c t.val t.isLt).1 (ix2 r l) =
      Cert.Reference13Ideal.Value.ref (m ((c.tc : Thread nD τ).loc main_arg0)) (m ((c.tc : Thread nD τ).loc main_arg1)) (ix2 R L) := by
  have l2 : t.val - 1 < cfg0.N := lt_of_le_of_lt (Nat.sub_le _ _) t.isLt
  have l1 : t.val - 1 - 1 < cfg0.N := lt_of_le_of_lt (Nat.sub_le _ _) l2
  have l0 : t.val - 1 - 1 - 1 < cfg0.N := lt_of_le_of_lt (Nat.sub_le _ _) l1
  have e3 := stepC m c t h r l
  have e2 := stepB m c ⟨t.val - 1, l2⟩ (by show 1 ≤ (t.val - 1) % 4 ∧ (t.val - 1) % 4 ≤ 2; omega) r l
  have e1 := stepB m c ⟨t.val - 1 - 1, l1⟩ (by show 1 ≤ (t.val - 1 - 1) % 4 ∧ (t.val - 1 - 1) % 4 ≤ 2; omega) r l
  have e0 := stepA m c ⟨t.val - 1 - 1 - 1, l0⟩ (by show (t.val - 1 - 1 - 1) % 4 = 0; omega) r l
  rw [part_eq m c t 3 (by decide) h r l R L hR hL] at e3
  rw [part_eq m c ⟨t.val - 1, l2⟩ 2 (by decide) (by show (t.val - 1) % 4 = 2; omega) r l R L
    (by show R.val = (t.val - 1) / 8 * 1024 + r.val; omega) (by show L.val = (t.val - 1) / 4 % 2 * 1024 + l.val; omega)] at e2
  rw [part_eq m c ⟨t.val - 1 - 1, l1⟩ 1 (by decide) (by show (t.val - 1 - 1) % 4 = 1; omega) r l R L
    (by show R.val = (t.val - 1 - 1) / 8 * 1024 + r.val; omega) (by show L.val = (t.val - 1 - 1) / 4 % 2 * 1024 + l.val; omega)] at e1
  rw [part_eq m c ⟨t.val - 1 - 1 - 1, l0⟩ 0 (by decide) (by show (t.val - 1 - 1 - 1) % 4 = 0; omega) r l R L
    (by show R.val = (t.val - 1 - 1 - 1) / 8 * 1024 + r.val; omega) (by show L.val = (t.val - 1 - 1 - 1) / 4 % 2 * 1024 + l.val; omega)] at e0
  rw [e3, e2, e1, e0]
  exact quarter_sum _ _ R L

theorem emb0 (t : Fin cfg0.N) (y : S1024x1024.Idx) : ((win0_2.blk t).view.emb y 0).val = t.val / 8 * 1024 + (y 0).val := by
  blk_simp [idx2 t]
theorem emb1 (t : Fin cfg0.N) (y : S1024x1024.Idx) : ((win0_2.blk t).view.emb y 1).val = t.val / 4 % 2 * 1024 + (y 1).val := by
  blk_simp [idx2 t]

theorem cov : (cfg0.win 2).Covers := by decide +kernel

theorem final : (dats m 0 c).arrAt 2 (cfgs 0).N =
    Cert.Reference13Ideal.Value.ref (m ((c.tc : Thread nD τ).loc main_arg0)) (m ((c.tc : Thread nD τ).loc main_arg1)) :=
  (dats m 0 c).arrAt_eq_of_covers 2 _ cov fun t hf y =>
    (congrFun (after0_2 m c t) y).trans (Cert.Tiles.tile (outsAt0 m c t.val t.isLt).1 _ (acc m c t ((flush0_2 t).1 hf)) y _ (emb0 t y) (emb1 t y))

theorem algebraic : Cert.algebraic_Kernel13Ideal_Reference13Ideal := by
  intro m g m' g' hp hm
  refine ⟨fun c => Cert.Reference13Ideal.Value.ref (m ((c.tc : Thread nD τ).loc main_arg0)) (m ((c.tc : Thread nD τ).loc main_arg1)),
    (θ_run (defs (F := Ideal)) _ _).mono (fun r h c => ⟨(h c).1.trans (final m c), (h c).2⟩) (run_blocks (F := Ideal) m g),
    (θ_run (Cert.Reference13Ideal.defs (F := Ideal)) _ _).mono (fun r h c => ?_) (Cert.Reference13Ideal.Value.run (F := Ideal) m' g')⟩
  obtain ⟨h2, ha⟩ := h c
  obtain ⟨e0, e1⟩ := hm c
  refine ⟨h2.trans ?_, ha⟩
  rw [e0, e1]
  rfl

end Cert.Kernel13Ideal.Value

end
-- ==== Proof.Win14.lean ====
module

public import proofs.«01_k».proof.Defs
public import proofs.«01_k».proof.Proof.Gen.Kernel14Ideal.Value
public import proofs.«01_k».proof.Proof.Gen.Reference14Ideal.Run
public import proofs.«01_k».proof.Proof.Tiles
public import Idealize.ShloMosaic.Lib.Pipeline.ValueKit

@[expose] public section

set_option maxRecDepth 16384

/-! The weight gradient of the mixing block's input projection: each block of the product of the two transposed
    operands is the reference's. -/

noncomputable section

open Idealize.ShloMosaic Idealize.ShloMosaic.TcCoe Idealize.SL.Sem

namespace Cert.Reference14Ideal.Value

open Cert.Reference14Ideal Cert.Reference14Ideal.Gen

/-- The reference's result as a function of its two arguments. -/
def ref (a : FVec Ideal S4096x10240 .bf16) (b : FVec Ideal S4096x4096 .bf16) : FVec Ideal S10240x4096 .bf16 :=
  truncf .bf16 (transpose S10240x4096 [1, 0] (transpose S4096x10240 [1, 0]
    (Host.dotGeneral dot_S4096x10240_S4096x4096_S10240x4096_0_0_1_1_n_n none (extf .f32 a bitsLt_bf16_f32) (extf .f32 b bitsLt_bf16_f32))
    transposes_S10240x4096_S4096x10240_1_0) transposes_S4096x10240_S10240x4096_1_0) bitsLt_bf16_f32

theorem ref_at (a : FVec Ideal S4096x10240 .bf16) (b : FVec Ideal S4096x4096 .bf16) (R : Fin 10240) (L : Fin 4096) :
    ref a b (ix2 R L) = ∑ k : Fin 4096, a (ix2 k R) * b (ix2 k L) := by
  unfold ref
  pointwise []

end Cert.Reference14Ideal.Value

namespace Cert.Kernel14Ideal.Value

open Cert.Kernel14Ideal Cert.Kernel14Ideal.Gen

theorem out_at (x : Vec Ideal S4096x1024 .bf16) (w : Vec Ideal S4096x1024 .bf16) (r l : Fin 1024) :
    out0_2 x w (ix2 r l) = ∑ k : Fin 4096, x (ix2 k r) * w (ix2 k l) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx0 : ∀ t : Fin cfg0.N, win0_0.index t = ![0, t.val / 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

theorem blk0 (t : Fin cfg0.N) (r : Fin 1024) (R : Fin 10240) (h : R.val = t.val / 4 * 1024 + r.val) (k : Fin 4096) :
    iblk m c 0 t (ix2 k r) = m ((c.tc : Thread nD τ).loc main_arg0) (ix2 k R) := by
  obtain ⟨R, hR⟩ := R
  subst h
  blk_point [iblk, V, idx0 t]
theorem blk1 (t : Fin cfg0.N) (l : Fin 1024) (L : Fin 4096) (h : L.val = t.val % 4 * 1024 + l.val) (k : Fin 4096) :
    iblk m c 1 t (ix2 k l) = m ((c.tc : Thread nD τ).loc main_arg1) (ix2 k L) := by
  obtain ⟨L, hL⟩ := L
  subst h
  blk_point [iblk, V, idx1 t]

theorem emb0 (t : Fin cfg0.N) (y : S1024x1024.Idx) : ((win0_2.blk t).view.emb y 0).val = t.val / 4 * 1024 + (y 0).val := by
  blk_simp [idx2 t]
theorem emb1 (t : Fin cfg0.N) (y : S1024x1024.Idx) : ((win0_2.blk t).view.emb y 1).val = t.val % 4 * 1024 + (y 1).val := by
  blk_simp [idx2 t]

theorem cov : (cfg0.win 2).Covers := by decide +kernel

theorem final : (dats m 0 c).arrAt 2 (cfgs 0).N =
    Cert.Reference14Ideal.Value.ref (m ((c.tc : Thread nD τ).loc main_arg0)) (m ((c.tc : Thread nD τ).loc main_arg1)) :=
  (dats m 0 c).arrAt_eq_of_covers 2 _ cov fun t _ y =>
    (congrFun (after0_2 m c t) y).trans (Cert.Tiles.tile (out0_2 (iblk m c 0 t) (iblk m c 1 t)) _ (fun r l R L hR hL => by
      rw [out_at, Cert.Reference14Ideal.Value.ref_at]
      simp only [blk0 m c t r R hR, blk1 m c t l L hL]) y _ (emb0 t y) (emb1 t y))

theorem algebraic : Cert.algebraic_Kernel14Ideal_Reference14Ideal := by
  intro m g m' g' hp hm
  refine ⟨fun c => Cert.Reference14Ideal.Value.ref (m ((c.tc : Thread nD τ).loc main_arg0)) (m ((c.tc : Thread nD τ).loc main_arg1)),
    (θ_run (defs (F := Ideal)) _ _).mono (fun r h c => ⟨(h c).1.trans (final m c), (h c).2⟩) (run_blocks (F := Ideal) m g),
    (θ_run (Cert.Reference14Ideal.defs (F := Ideal)) _ _).mono (fun r h c => ?_) (Cert.Reference14Ideal.Value.run (F := Ideal) m' g')⟩
  obtain ⟨h2, ha⟩ := h c
  obtain ⟨e0, e1⟩ := hm c
  refine ⟨h2.trans ?_, ha⟩
  rw [e0, e1]
  rfl

end Cert.Kernel14Ideal.Value

end
-- ==== Proof.HalfO.lean ====
module

public import proofs.«01_k».proof.Defs
public import proofs.«01_k».proof.Proof.Gen.Kernel15Ideal.Frame
public import proofs.«01_k».proof.Proof.Gen.Kernel16Ideal.Frame
public import proofs.«01_k».proof.Proof.Gen.Pre_core15
public import proofs.«01_k».proof.Proof.Gen.Pre_core16
public import proofs.«01_k».proof.Proof.Tiles

@[expose] public section

set_option maxRecDepth 16384

/-! The two halves of a square weight's gradient, for kernel and ideal kernel at once: the class that the precondition
    admits keeps every block of the first operand inside it. -/

noncomputable section

open Idealize.ShloMosaic Idealize.ShloMosaic.TcCoe Idealize.SL.Sem

namespace Cert.Kernel15Ideal.Half

open Cert.Kernel15Ideal Cert.Kernel15Ideal.Gen

variable {F : FTy → Type} [FloatOps F] (m : (ℓ : Loc nD τ sig) → Buf (Elt F) ℓ)

/-- The class the call is launched with. -/
abbrev cls : BitVec 32 := m (((0 : Dev nD).tc : Thread nD τ).loc main_arg2) (fun a => a.elim0)

theorem cls_of_pre (h : ∀ c : Dev nD, Cert.Pre_core15.fn (F := F) (m ((c.tc : Thread nD τ).loc main_arg0)) (m ((c.tc : Thread nD τ).loc main_arg1))
    (m ((c.tc : Thread nD τ).loc main_arg2)) = fun _ => 1#1) : cls m = 0#32 ∨ cls m = 1#32 :=
  Cert.Tiles.class_of _ (congrFun (h 0) (fun a => a.elim0))

theorem tbl_at (i : S1.Idx) : tbl m 0 i = cls m :=
  (congrFun (show tbl m 0 = shapeCast S1 (m (((0 : Dev nD).tc : Thread nD τ).loc main_arg2)) shapeCasts_S_S1 from by
    show StableHlo.after hostOps0 (fun b => m ((0 : Dev nD), b)) main_v0 = _
    after_results
    rfl) i).trans
    (congrArg (m (((0 : Dev nD).tc : Thread nD τ).loc main_arg2)) (funext fun a => a.elim0))

theorem ix_eq (h : cls m = 0#32 ∨ cls m = 1#32) (i : grid0.Coords) :
    cc0_transform_0 inb_S1_S1_0 numel1_S1 (tbl m) i = ![0, 2 * (i 0).val + (cls m).toNat] := by
  unfold cc0_transform_0
  dsimp only
  rw [show (tbl m).at 0 (Rect.unit (s := S1) ![0] S1.size inb_S1_S1_0) numel1_S1 = cls m from tbl_at m _]
  funext a
  match a with
  | ⟨0, _⟩ => rfl
  | ⟨1, _⟩ => exact Cert.Tiles.shard _ h _ (i 0).isLt

theorem ok_of (h : cls m = 0#32 ∨ cls m = 1#32) : Ok m := by
  intro i
  have hi : (i 0).val < 4 := (i 0).isLt
  have hc := Cert.Tiles.class_le _ h
  have e := ix_eq m h i
  refine ⟨fun a => ?_, .inr (.inr ⟨by decide, rfl, ?_, rfl⟩)⟩
  · rw [e]
    match a with
    | ⟨0, _⟩ => show (0 + 1) * 4096 ≤ 4096; omega
    | ⟨1, _⟩ => show (2 * (i 0).val + (cls m).toNat + 1) * 512 ≤ 4096; omega
  · show cc0_transform_0 inb_S1_S1_0 numel1_S1 (tbl m) i 0 * 4096 = 0
    rw [e]; rfl

end Cert.Kernel15Ideal.Half

namespace Cert.Kernel16Ideal.Half

open Cert.Kernel16Ideal Cert.Kernel16Ideal.Gen

variable {F : FTy → Type} [FloatOps F] (m : (ℓ : Loc nD τ sig) → Buf (Elt F) ℓ)

/-- The class the call is launched with. -/
abbrev cls : BitVec 32 := m (((0 : Dev nD).tc : Thread nD τ).loc main_arg2) (fun a => a.elim0)

theorem cls_of_pre (h : ∀ c : Dev nD, Cert.Pre_core16.fn (F := F) (m ((c.tc : Thread nD τ).loc main_arg0)) (m ((c.tc : Thread nD τ).loc main_arg1))
    (m ((c.tc : Thread nD τ).loc main_arg2)) (m ((c.tc : Thread nD τ).loc main_arg3)) = fun _ => 1#1) : cls m = 0#32 ∨ cls m = 1#32 :=
  Cert.Tiles.class_of _ (congrFun (h 0) (fun a => a.elim0))

theorem tbl_at (i : S1.Idx) : tbl m 0 i = cls m :=
  (congrFun (show tbl m 0 = shapeCast S1 (m (((0 : Dev nD).tc : Thread nD τ).loc main_arg2)) shapeCasts_S_S1 from by
    show StableHlo.after hostOps0 (fun b => m ((0 : Dev nD), b)) main_v0 = _
    after_results
    rfl) i).trans
    (congrArg (m (((0 : Dev nD).tc : Thread nD τ).loc main_arg2)) (funext fun a => a.elim0))

theorem ix_eq (h : cls m = 0#32 ∨ cls m = 1#32) (i : grid0.Coords) :
    cc0_transform_0 inb_S1_S1_0 numel1_S1 (tbl m) i = ![0, 2 * (i 0).val + (cls m).toNat] := by
  unfold cc0_transform_0
  dsimp only
  rw [show (tbl m).at 0 (Rect.unit (s := S1) ![0] S1.size inb_S1_S1_0) numel1_S1 = cls m from tbl_at m _]
  funext a
  match a with
  | ⟨0, _⟩ => rfl
  | ⟨1, _⟩ => exact Cert.Tiles.shard _ h _ (i 0).isLt

theorem ok_of (h : cls m = 0#32 ∨ cls m = 1#32) : Ok m := by
  intro i
  have hi : (i 0).val < 4 := (i 0).isLt
  have hc := Cert.Tiles.class_le _ h
  have e := ix_eq m h i
  refine ⟨fun a => ?_, .inr (.inr ⟨by decide, rfl, ?_, rfl⟩)⟩
  · rw [e]
    match a with
    | ⟨0, _⟩ => show (0 + 1) * 4096 ≤ 4096; omega
    | ⟨1, _⟩ => show (2 * (i 0).val + (cls m).toNat + 1) * 512 ≤ 4096; omega
  · show cc0_transform_0 inb_S1_S1_0 numel1_S1 (tbl m) i 0 * 4096 = 0
    rw [e]; rfl

end Cert.Kernel16Ideal.Half

end
-- ==== Proof.GradORef.lean ====
module

public import proofs.«01_k».proof.Proof.Gen.Reference15Ideal.Run
public import proofs.«01_k».proof.Proof.Gen.Reference16Ideal.Run
public import proofs.«01_k».proof.Proof.Lift

@[expose] public section

set_option maxRecDepth 16384

/-! The half of a square weight's gradient that belongs to one class, element by element. -/

noncomputable section

open Idealize.ShloMosaic Idealize.ShloMosaic.TcCoe Idealize.SL.Sem

namespace Cert.Reference15Ideal.Value

open Cert.Reference15Ideal Cert.Reference15Ideal.Gen

/-- The whole gradient, its rows in four pairs of shards. -/
def pairs (a b : FVec Ideal S4096x4096 .bf16) : FVec Ideal S4x2x512x4096 .f32 :=
  shapeCast _ (transpose S4096x4096 [1, 0] (Host.dotGeneral dot_S4096x4096_S4096x4096_S4096x4096_0_0_1_1_n_n none (extf .f32 b bitsLt_bf16_f32)
    (extf .f32 a bitsLt_bf16_f32)) transposes_S4096x4096_S4096x4096_1_0) shapeCasts_S4096x4096_S4x2x512x4096

/-- The shards of class `s`. -/
def half (a b : FVec Ideal S4096x4096 .bf16) (s : IVec S_ 32) : FVec Ideal S4x512x4096 .f32 :=
  select (broadcastInDim S4x512x4096 ![] bcast_S_S4x512x4096 (cmpi .eq s (constantI S_ 32 0#32)))
    (shapeCast _ (extractStridedSlice S4x1x512x4096 ![0, 0, 0, 0] (pairs a b) slices_S4x2x512x4096_S4x1x512x4096_0_0_0_0) shapeCasts_S4x1x512x4096_S4x512x4096)
    (shapeCast _ (extractStridedSlice S4x1x512x4096 ![0, 1, 0, 0] (pairs a b) slices_S4x2x512x4096_S4x1x512x4096_0_1_0_0) shapeCasts_S4x1x512x4096_S4x512x4096)

/-- The reference's result as a function of its arguments. -/
def ref (a b : FVec Ideal S4096x4096 .bf16) (s : IVec S_ 32) : FVec Ideal S4x512x4096 .bf16 :=
  truncf .bf16 (half a b s) bitsLt_bf16_f32

theorem half_at (a b : FVec Ideal S4096x4096 .bf16) (s : IVec S_ 32) (q : Fin 4) (r : Fin 512) (l : Fin 4096)
    (w : BitVec 32) (hs : s (fun a => a.elim0) = w) (hw : w = 0#32 ∨ w = 1#32) (R : Fin 4096) (hR : R.val = (2 * q.val + w.toNat) * 512 + r.val) :
    half a b s (ix3 q r l) = ∑ k : Fin 4096, (a (ix2 k R) * b (ix2 k l) : EReal) := by
  unfold half pairs
  pointwise []
  rw [show s ix0 = w from (congrArg s (funext fun a => a.elim0)).trans hs]
  rcases hw with rfl | rfl
  · rw [show R = ⟨q.val * 1024 + r.val, by omega⟩ from Fin.ext (by rw [hR]; show (2 * q.val + 0) * 512 + r.val = q.val * 1024 + r.val; omega)]
    rw [show IntOp.cmpi CmpIPredicate.eq 0#32 0#32 = 1#1 from by decide]
    unfold Scalar.select
    rw [if_pos (by decide : (1#1 : BitVec 1) = 1)]
    exact Finset.sum_congr rfl fun k _ => mul_comm (b (ix2 k l) : EReal) _
  · rw [show R = ⟨q.val * 1024 + 512 + r.val, by omega⟩ from Fin.ext (by rw [hR]; show (2 * q.val + 1) * 512 + r.val = q.val * 1024 + 512 + r.val; omega)]
    rw [show IntOp.cmpi CmpIPredicate.eq 1#32 0#32 = 0#1 from by decide]
    unfold Scalar.select
    rw [if_neg (by decide : ¬(0#1 : BitVec 1) = 1)]
    exact Finset.sum_congr rfl fun k _ => mul_comm (b (ix2 k l) : EReal) _

end Cert.Reference15Ideal.Value

namespace Cert.Reference16Ideal.Value

open Cert.Reference16Ideal Cert.Reference16Ideal.Gen

/-- The reference's result as a function of its arguments: the same half with the sibling's added. -/
def ref (a b : FVec Ideal S4096x4096 .bf16) (s : IVec S_ 32) (o : FVec Ideal S4x512x4096 .bf16) : FVec Ideal S4x512x4096 .bf16 :=
  truncf .bf16 (addf (extf .f32 o bitsLt_bf16_f32) (Cert.Reference15Ideal.Value.half a b s)) bitsLt_bf16_f32

end Cert.Reference16Ideal.Value

end
-- ==== Proof.GradO.lean ====
module

public import proofs.«01_k».proof.Proof.HalfO
public import proofs.«01_k».proof.Proof.GradORef
public import Idealize.ShloMosaic.Lib.Pipeline.ValueKit
public import Idealize.ShloMosaic.Lib.Pipeline.Covers

@[expose] public section

set_option maxRecDepth 16384

/-! A square weight's gradient, the sibling's half and a core's own: each block of the kernel's product is the
    reference's. -/

noncomputable section

open Idealize.ShloMosaic Idealize.ShloMosaic.TcCoe Idealize.SL.Sem

namespace Cert.Kernel15Ideal.Half

open Cert.Kernel15Ideal Cert.Kernel15Ideal.Gen

theorem pay_at (x : Vec Ideal S4096x512 .bf16) (w : Vec Ideal S4096x1024 .bf16) (u : Fin 1) (r : Fin 512) (l : Fin 1024) :
    k0_pay1 x w (ix3 u r l) = ∑ k : Fin 4096, x (ix2 k r) * w (ix2 k l) := by
  open_payloads
  pointwise []

theorem out_eq (c : Dev nD) (i : grid0.Coords) (arg3 : Memref sig .tc .vmem S4096x512 .bf16) (harg3 : arg3.IsWhole)
    (arg4 : Memref sig .tc .vmem S4096x1024 .bf16) (harg4 : arg4.IsWhole) (arg5 : Memref sig .tc .vmem S1x512x1024 .bf16) (harg5 : arg5.IsWhole)
    (x0 : Vec Ideal S4096x512 .bf16) (x1 : Vec Ideal S4096x1024 .bf16) (xt0 : TbBuf0 (F := Ideal) c tbM0_0) :
    out0_A_2 c i arg3 harg3 arg4 harg4 arg5 harg5 x0 x1 xt0 = k0_pay1 x0 x1 := by
  frame_out

variable (m : (ℓ : Loc nD τ sig) → Buf (Elt Ideal) ℓ) (c : Dev nD) (hO : Ok m)

theorem idx1 : ∀ t : Fin grid0.N, cc0_transform_1 (grid0.coords t) = ![0, t.val % 4] := by decide +kernel
theorem idx2 : ∀ t : Fin grid0.N, cc0_transform_2 (grid0.coords t) = ![t.val / 4, 0, t.val % 4] := by decide +kernel
theorem idx0 : ∀ t : Fin grid0.N, (grid0.coords t 0).val = t.val / 4 := by decide +kernel

theorem surj : ∀ β : (a : Fin 3) → Fin (![4, 1, 4] a), ∃ i : grid0.Coords, ∀ a, cc0_transform_2 i a = β a := by decide +kernel

theorem nblk : ∀ a : Fin 3, ((cfgM m hO).win 2).nblk a = (![4, 1, 4] : Fin 3 → ℕ) a
  | ⟨0, _⟩ => (by decide : (4 + 1 - 1) / 1 = 4)
  | ⟨1, _⟩ => (by decide : (512 + 512 - 1) / 512 = 1)
  | ⟨2, _⟩ => (by decide : (4096 + 1024 - 1) / 1024 = 4)

theorem size : ∀ a : Fin 3, 0 < ((cfgM m hO).win 2).size a
  | ⟨0, _⟩ => (by decide : 0 < 1)
  | ⟨1, _⟩ => (by decide : 0 < 512)
  | ⟨2, _⟩ => (by decide : 0 < 1024)

theorem cov : ((cfgM m hO).win 2).Covers :=
  ((cfgM m hO).win 2).covers_of_indexMap_surj rfl (size m hO) fun β =>
    surj fun a => ⟨(β a).val, lt_of_lt_of_eq (β a).isLt (nblk m hO a)⟩

theorem emb0 (t : Fin (cfgM m hO).N) (y : S1x512x1024.Idx) : (((((cfgM m hO).win 2).blk t).view.emb y) (0 : Fin 3)).val = t.val / 4 + (y 0).val := by
  blk_simp [show ((cfgM m hO).win 2).index t = ![t.val / 4, 0, t.val % 4] from idx2 t]
theorem emb1 (t : Fin (cfgM m hO).N) (y : S1x512x1024.Idx) : (((((cfgM m hO).win 2).blk t).view.emb y) (1 : Fin 3)).val = (y 1).val := by
  blk_simp [show ((cfgM m hO).win 2).index t = ![t.val / 4, 0, t.val % 4] from idx2 t]
theorem emb2 (t : Fin (cfgM m hO).N) (y : S1x512x1024.Idx) : (((((cfgM m hO).win 2).blk t).view.emb y) (2 : Fin 3)).val = t.val % 4 * 1024 + (y 2).val := by
  blk_simp [show ((cfgM m hO).win 2).index t = ![t.val / 4, 0, t.val % 4] from idx2 t]

theorem index0 (hc : cls m = 0#32 ∨ cls m = 1#32) (t : Fin (cfgM m hO).N) :
    ((cfgM m hO).win 0).index t = ![0, 2 * (t.val / 4) + (cls m).toNat] := by
  refine (ix_eq m hc (grid0.coords t)).trans ?_
  rw [idx0 t]

theorem blk0 (hc : cls m = 0#32 ∨ cls m = 1#32) (t : Fin (cfgM m hO).N) (r : Fin 512) (R : Fin 4096)
    (h : R.val = (2 * (t.val / 4) + (cls m).toNat) * 512 + r.val) (k : Fin 4096) :
    (iblk m hO c 0 t : Vec Ideal S4096x512 .bf16) (ix2 k r) = m ((c.tc : Thread nD τ).loc main_arg0) (ix2 k R) := by
  obtain ⟨R, hR⟩ := R
  subst h
  rw [← V_main_arg0 m c]
  blk_point [iblk, index0 m hO hc t]
theorem blk1 (t : Fin (cfgM m hO).N) (l : Fin 1024) (L : Fin 4096) (h : L.val = t.val % 4 * 1024 + l.val) (k : Fin 4096) :
    (iblk m hO c 1 t : Vec Ideal S4096x1024 .bf16) (ix2 k l) = m ((c.tc : Thread nD τ).loc main_arg1) (ix2 k L) := by
  obtain ⟨L, hL⟩ := L
  subst h
  rw [← V_main_arg1 m c]
  blk_point [iblk, show ((cfgM m hO).win 1).index t = ![0, t.val % 4] from idx1 t]

theorem block (hc : cls m = 0#32 ∨ cls m = 1#32) (t : Fin (cfgM m hO).N) (u : Fin 1) (r : Fin 512) (l : Fin 1024) (P : Fin 4) (L : Fin 4096)
    (hP : P.val = t.val / 4 + u.val) (hL : L.val = t.val % 4 * 1024 + l.val) :
    k0_pay1 (iblk m hO c 0 t) (iblk m hO c 1 t) (ix3 u r l) =
      Cert.Reference15Ideal.Value.ref (m ((c.tc : Thread nD τ).loc main_arg0)) (m ((c.tc : Thread nD τ).loc main_arg1)) (m ((c.tc : Thread nD τ).loc main_arg2)) (ix3 P r L) := by
  obtain rfl : c = 0 := Subsingleton.elim _ _
  have h2 := Cert.Tiles.class_le _ hc
  have hR : (2 * P.val + (cls m).toNat) * 512 + r.val < 4096 := by omega
  refine (pay_at _ _ u r l).trans (Eq.trans ?_ (Cert.Reference15Ideal.Value.half_at _ _ _ P r L (cls m) rfl hc ⟨_, hR⟩ rfl).symm)
  exact Finset.sum_congr rfl fun k _ => congrArg₂ (fun x y : EReal => x * y)
    (blk0 m 0 hO hc t r ⟨_, hR⟩ (by show (2 * P.val + (cls m).toNat) * 512 + r.val = _; rw [hP, Nat.lt_one_iff.1 u.isLt]; rfl) k) (blk1 m 0 hO t l L hL k)

theorem final (hc : cls m = 0#32 ∨ cls m = 1#32) : (dats m hO 0 c).arrAt 2 (cfgM m hO).N =
    Cert.Reference15Ideal.Value.ref (m ((c.tc : Thread nD τ).loc main_arg0)) (m ((c.tc : Thread nD τ).loc main_arg1)) (m ((c.tc : Thread nD τ).loc main_arg2)) :=
  (dats m hO 0 c).arrAt_eq_of_covers 2 _ (cov m hO) fun t _ y =>
    (congrFun ((after0_2 m hO c t).trans (out_eq _ _ _ _ _ _ _ _ _ _ _)) y).trans
      (Cert.Tiles.tile3 (k0_pay1 (iblk m hO c 0 t) (iblk m hO c 1 t)) _ (block m c hO hc t) y _ (emb0 m hO t y) (emb1 m hO t y) (emb2 m hO t y))

theorem algebraic : Cert.algebraic_Kernel15Ideal_Reference15Ideal := by
  intro m g m' g' hp hm
  have hc := cls_of_pre m hp
  have hO := ok_of m hc
  refine ⟨fun c => Cert.Reference15Ideal.Value.ref (m ((c.tc : Thread nD τ).loc main_arg0)) (m ((c.tc : Thread nD τ).loc main_arg1)) (m ((c.tc : Thread nD τ).loc main_arg2)),
    (θ_run (defs (F := Ideal)) _ _).mono (fun r h c => ⟨((h.1 c).1 2).trans (final m c hO hc), h.2 c⟩) (θ_run_and (run_main (F := Ideal) m g hO) (unchanged m g hO)),
    (θ_run (Cert.Reference15Ideal.defs (F := Ideal)) _ _).mono (fun r h c => ?_) (Cert.Reference15Ideal.Value.run (F := Ideal) m' g')⟩
  obtain ⟨h2, ha⟩ := h c
  obtain ⟨e0, e1, e2⟩ := hm c
  refine ⟨h2.trans ?_, ha⟩
  rw [e0, e1, e2]
  rfl

end Cert.Kernel15Ideal.Half

end
-- ==== Proof.GradOwn.lean ====
module

public import proofs.«01_k».proof.Proof.HalfO
public import proofs.«01_k».proof.Proof.GradORef
public import Idealize.ShloMosaic.Lib.Pipeline.ValueKit
public import Idealize.ShloMosaic.Lib.Pipeline.Covers

@[expose] public section

set_option maxRecDepth 16384

/-! A core's own half of a square weight's gradient, with the half received from the sibling added. -/

noncomputable section

open Idealize.ShloMosaic Idealize.ShloMosaic.TcCoe Idealize.SL.Sem

namespace Cert.Kernel16Ideal.Half

open Cert.Kernel16Ideal Cert.Kernel16Ideal.Gen

theorem pay_at (x : Vec Ideal S4096x512 .bf16) (w : Vec Ideal S4096x1024 .bf16) (o : Vec Ideal S1x512x1024 .bf16) (u : Fin 1) (r : Fin 512) (l : Fin 1024) :
    k0_pay1 x w o (ix3 u r l) = (∑ k : Fin 4096, (x (ix2 k r) * w (ix2 k l) : EReal)) + (o (ix3 u r l) : EReal) := by
  obtain rfl : u = 0 := Subsingleton.elim _ _
  open_payloads
  pointwise []

theorem out_eq (c : Dev nD) (i : grid0.Coords) (arg3 : Memref sig .tc .vmem S4096x512 .bf16) (harg3 : arg3.IsWhole)
    (arg4 : Memref sig .tc .vmem S4096x1024 .bf16) (harg4 : arg4.IsWhole) (arg5 : Memref sig .tc .vmem S1x512x1024 .bf16) (harg5 : arg5.IsWhole)
    (arg6 : Memref sig .tc .vmem S1x512x1024 .bf16) (harg6 : arg6.IsWhole)
    (x0 : Vec Ideal S4096x512 .bf16) (x1 : Vec Ideal S4096x1024 .bf16) (x2 : Vec Ideal S1x512x1024 .bf16) (xt0 : TbBuf0 (F := Ideal) c tbM0_0) :
    out0_A_3 c i arg3 harg3 arg4 harg4 arg5 harg5 arg6 harg6 x0 x1 x2 xt0 = k0_pay1 x0 x1 x2 := by
  frame_out

variable (m : (ℓ : Loc nD τ sig) → Buf (Elt Ideal) ℓ) (c : Dev nD) (hO : Ok m)

theorem idx1 : ∀ t : Fin grid0.N, cc0_transform_1 (grid0.coords t) = ![0, t.val % 4] := by decide +kernel
theorem idx3 : ∀ t : Fin grid0.N, cc0_transform_3 (grid0.coords t) = ![t.val / 4, 0, t.val % 4] := by decide +kernel
theorem idx0 : ∀ t : Fin grid0.N, (grid0.coords t 0).val = t.val / 4 := by decide +kernel

theorem surj : ∀ β : (a : Fin 3) → Fin (![4, 1, 4] a), ∃ i : grid0.Coords, ∀ a, cc0_transform_3 i a = β a := by decide +kernel

theorem nblk : ∀ a : Fin 3, ((cfgM m hO).win 3).nblk a = (![4, 1, 4] : Fin 3 → ℕ) a
  | ⟨0, _⟩ => (by decide : (4 + 1 - 1) / 1 = 4)
  | ⟨1, _⟩ => (by decide : (512 + 512 - 1) / 512 = 1)
  | ⟨2, _⟩ => (by decide : (4096 + 1024 - 1) / 1024 = 4)

theorem size : ∀ a : Fin 3, 0 < ((cfgM m hO).win 3).size a
  | ⟨0, _⟩ => (by decide : 0 < 1)
  | ⟨1, _⟩ => (by decide : 0 < 512)
  | ⟨2, _⟩ => (by decide : 0 < 1024)

theorem cov : ((cfgM m hO).win 3).Covers :=
  ((cfgM m hO).win 3).covers_of_indexMap_surj rfl (size m hO) fun β =>
    surj fun a => ⟨(β a).val, lt_of_lt_of_eq (β a).isLt (nblk m hO a)⟩

theorem emb0 (t : Fin (cfgM m hO).N) (y : S1x512x1024.Idx) : (((((cfgM m hO).win 3).blk t).view.emb y) (0 : Fin 3)).val = t.val / 4 + (y 0).val := by
  blk_simp [show ((cfgM m hO).win 3).index t = ![t.val / 4, 0, t.val % 4] from idx3 t]
theorem emb1 (t : Fin (cfgM m hO).N) (y : S1x512x1024.Idx) : (((((cfgM m hO).win 3).blk t).view.emb y) (1 : Fin 3)).val = (y 1).val := by
  blk_simp [show ((cfgM m hO).win 3).index t = ![t.val / 4, 0, t.val % 4] from idx3 t]
theorem emb2 (t : Fin (cfgM m hO).N) (y : S1x512x1024.Idx) : (((((cfgM m hO).win 3).blk t).view.emb y) (2 : Fin 3)).val = t.val % 4 * 1024 + (y 2).val := by
  blk_simp [show ((cfgM m hO).win 3).index t = ![t.val / 4, 0, t.val % 4] from idx3 t]

theorem index0 (hc : cls m = 0#32 ∨ cls m = 1#32) (t : Fin (cfgM m hO).N) :
    ((cfgM m hO).win 0).index t = ![0, 2 * (t.val / 4) + (cls m).toNat] := by
  refine (ix_eq m hc (grid0.coords t)).trans ?_
  rw [idx0 t]

theorem blk0 (hc : cls m = 0#32 ∨ cls m = 1#32) (t : Fin (cfgM m hO).N) (r : Fin 512) (R : Fin 4096)
    (h : R.val = (2 * (t.val / 4) + (cls m).toNat) * 512 + r.val) (k : Fin 4096) :
    (iblk m hO c 0 t : Vec Ideal S4096x512 .bf16) (ix2 k r) = m ((c.tc : Thread nD τ).loc main_arg0) (ix2 k R) := by
  obtain ⟨R, hR⟩ := R
  subst h
  rw [← V_main_arg0 m c]
  blk_point [iblk, index0 m hO hc t]
theorem blk1 (t : Fin (cfgM m hO).N) (l : Fin 1024) (L : Fin 4096) (h : L.val = t.val % 4 * 1024 + l.val) (k : Fin 4096) :
    (iblk m hO c 1 t : Vec Ideal S4096x1024 .bf16) (ix2 k l) = m ((c.tc : Thread nD τ).loc main_arg1) (ix2 k L) := by
  obtain ⟨L, hL⟩ := L
  subst h
  rw [← V_main_arg1 m c]
  blk_point [iblk, show ((cfgM m hO).win 1).index t = ![0, t.val % 4] from idx1 t]
theorem blk2 (t : Fin (cfgM m hO).N) (u : Fin 1) (r : Fin 512) (l : Fin 1024) (P : Fin 4) (L : Fin 4096) (h : P.val = t.val / 4 + u.val)
    (h' : L.val = t.val % 4 * 1024 + l.val) :
    (iblk m hO c 2 t : Vec Ideal S1x512x1024 .bf16) (ix3 u r l) = m ((c.tc : Thread nD τ).loc main_arg3) (ix3 P r L) := by
  obtain ⟨P, hP⟩ := P
  obtain ⟨L, hL⟩ := L
  subst h h'
  rw [← V_main_arg3 m c]
  blk_point [iblk, show ((cfgM m hO).win 2).index t = ![t.val / 4, 0, t.val % 4] from idx3 t]

theorem block (hc : cls m = 0#32 ∨ cls m = 1#32) (t : Fin (cfgM m hO).N) (u : Fin 1) (r : Fin 512) (l : Fin 1024) (P : Fin 4) (L : Fin 4096)
    (hP : P.val = t.val / 4 + u.val) (hL : L.val = t.val % 4 * 1024 + l.val) :
    k0_pay1 (iblk m hO c 0 t) (iblk m hO c 1 t) (iblk m hO c 2 t) (ix3 u r l) =
      Cert.Reference16Ideal.Value.ref (m ((c.tc : Thread nD τ).loc main_arg0)) (m ((c.tc : Thread nD τ).loc main_arg1))
        (m ((c.tc : Thread nD τ).loc main_arg2)) (m ((c.tc : Thread nD τ).loc main_arg3)) (ix3 P r L) := by
  obtain rfl : c = 0 := Subsingleton.elim _ _
  have h2 := Cert.Tiles.class_le _ hc
  have hR : (2 * P.val + (cls m).toNat) * 512 + r.val < 4096 := by omega
  refine (pay_at _ _ _ u r l).trans ((add_comm _ _).trans (congrArg₂ (fun x y : EReal => x + y) (blk2 m 0 hO t u r l P L hP hL)
    (Eq.trans ?_ (Cert.Reference15Ideal.Value.half_at _ _ _ P r L (cls m) rfl hc ⟨_, hR⟩ rfl).symm)))
  exact Finset.sum_congr rfl fun k _ => congrArg₂ (fun x y : EReal => x * y)
    (blk0 m 0 hO hc t r ⟨_, hR⟩ (by show (2 * P.val + (cls m).toNat) * 512 + r.val = _; rw [hP, Nat.lt_one_iff.1 u.isLt]; rfl) k) (blk1 m 0 hO t l L hL k)

theorem final (hc : cls m = 0#32 ∨ cls m = 1#32) : (dats m hO 0 c).arrAt 3 (cfgM m hO).N =
    Cert.Reference16Ideal.Value.ref (m ((c.tc : Thread nD τ).loc main_arg0)) (m ((c.tc : Thread nD τ).loc main_arg1))
      (m ((c.tc : Thread nD τ).loc main_arg2)) (m ((c.tc : Thread nD τ).loc main_arg3)) :=
  (dats m hO 0 c).arrAt_eq_of_covers 3 _ (cov m hO) fun t _ y =>
    (congrFun ((after0_3 m hO c t).trans (out_eq _ _ _ _ _ _ _ _ _ _ _ _ _ _)) y).trans
      (Cert.Tiles.tile3 (k0_pay1 (iblk m hO c 0 t) (iblk m hO c 1 t) (iblk m hO c 2 t)) _ (block m c hO hc t) y _ (emb0 m hO t y) (emb1 m hO t y) (emb2 m hO t y))

theorem algebraic : Cert.algebraic_Kernel16Ideal_Reference16Ideal := by
  intro m g m' g' hp hm
  have hc := cls_of_pre m hp
  have hO := ok_of m hc
  refine ⟨fun c => Cert.Reference16Ideal.Value.ref (m ((c.tc : Thread nD τ).loc main_arg0)) (m ((c.tc : Thread nD τ).loc main_arg1))
      (m ((c.tc : Thread nD τ).loc main_arg2)) (m ((c.tc : Thread nD τ).loc main_arg3)),
    (θ_run (defs (F := Ideal)) _ _).mono (fun r h c => ⟨((h.1 c).1 3).trans (final m c hO hc), h.2 c⟩) (θ_run_and (run_main (F := Ideal) m g hO) (unchanged m g hO)),
    (θ_run (Cert.Reference16Ideal.defs (F := Ideal)) _ _).mono (fun r h c => ?_) (Cert.Reference16Ideal.Value.run (F := Ideal) m' g')⟩
  obtain ⟨h2, ha⟩ := h c
  obtain ⟨e0, e1, e2, e3⟩ := hm c
  refine ⟨h2.trans ?_, ha⟩
  rw [e0, e1, e2, e3]
  rfl

end Cert.Kernel16Ideal.Half

end
-- ==== Proof.Attn17.lean ====
module

public import proofs.«01_k».proof.Defs
public import proofs.«01_k».proof.Proof.Gen.Kernel17Ideal.Value
public import proofs.«01_k».proof.Proof.Gen.Reference17Ideal.Run
public import proofs.«01_k».proof.Proof.Tiles
public import Idealize.ShloMosaic.Lib.Pipeline.ValueKit

@[expose] public section

set_option maxRecDepth 16384

/-! The gradient of the mixing block's output projection with respect to its input: each block of the kernel's product
    is the reference's. -/

noncomputable section

open Idealize.ShloMosaic Idealize.ShloMosaic.TcCoe Idealize.SL.Sem

namespace Cert.Kernel17Ideal.Value

open Cert.Kernel17Ideal Cert.Kernel17Ideal.Gen

theorem ref_eq (a : FVec Ideal S4096x4096 .bf16) (w : FVec Ideal S4096x4096 .bf16) :
    Host.dotGeneral Cert.Reference17Ideal.dot_S4096x4096_S4096x4096_S4096x4096_1_1_0_0_n_n none
    (extf .f32 a Cert.Reference17Ideal.Gen.bitsLt_bf16_f32) (extf .f32 w Cert.Reference17Ideal.Gen.bitsLt_bf16_f32) = (Cert.Tiles.abt a w : FVec Ideal S4096x4096 .f32) := by
  funext i
  rw [eq_ix2 i]
  pointwise [Cert.Tiles.abt]

theorem out_at (x : Vec Ideal S1024x4096 .bf16) (w : Vec Ideal S1024x4096 .bf16) (r l : Fin 1024) :
    out0_2 x w (ix2 r l) = ∑ k : Fin 4096, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x4096 .f32) :=
  (dats m 0 c).arrAt_eq_of_covers 2 _ (by decide +kernel) fun t _ y => (congrFun (after0_2 m c t) y).trans
    (Cert.Tiles.abt_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel17Ideal_Reference17Ideal := by
  intro m g m' g' hp hm
  refine ⟨_, (θ_run (defs (F := Ideal)) _ _).mono (fun r h c => ⟨(h c).1.trans (final m c), (h c).2⟩) (run_blocks (F := Ideal) m g),
    (θ_run (Cert.Reference17Ideal.defs (F := Ideal)) _ _).mono (fun r h c => ⟨(h c).1.trans ?_, (h c).2⟩) (Cert.Reference17Ideal.Value.run (F := Ideal) m' g')⟩
  obtain ⟨e0, e1⟩ := hm c
  rw [e0, e1]
  exact ref_eq _ _

end Cert.Kernel17Ideal.Value

end
-- ==== Proof.Attn18.lean ====
module

public import proofs.«01_k».proof.Defs
public import proofs.«01_k».proof.Proof.Gen.Kernel18Ideal.Value
public import proofs.«01_k».proof.Proof.Gen.Reference18Ideal.Run
public import proofs.«01_k».proof.Proof.Tiles
public import Idealize.ShloMosaic.Lib.Pipeline.ValueKit

@[expose] public section

set_option maxRecDepth 16384

/-! The mixing block's output projection with the residual stream added: each block of the kernel's sum is the
    reference's. -/

noncomputable section

open Idealize.ShloMosaic Idealize.ShloMosaic.TcCoe Idealize.SL.Sem

namespace Cert.Kernel18Ideal.Value

open Cert.Kernel18Ideal Cert.Kernel18Ideal.Gen

/-- The reference's result as a function of its three arguments. -/
def ref (a : FVec Ideal S4096x4096 .bf16) (w : FVec Ideal S4096x4096 .bf16) (x : FVec Ideal S4096x4096 .f32) : FVec Ideal S4096x4096 .f32 :=
  addf x (Host.dotGeneral Cert.Reference18Ideal.dot_S4096x4096_S4096x4096_S4096x4096_1_0_0_1_n_n none
    (extf .f32 a Cert.Reference18Ideal.Gen.bitsLt_bf16_f32) (extf .f32 w Cert.Reference18Ideal.Gen.bitsLt_bf16_f32))

theorem ref_at (a : FVec Ideal S4096x4096 .bf16) (w : FVec Ideal S4096x4096 .bf16) (x : FVec Ideal S4096x4096 .f32) (R L : Fin 4096) :
    ref a w x (ix2 R L) = (∑ k : Fin 4096, (a (ix2 R k) * w (ix2 k L) : EReal)) + (x (ix2 R L) : EReal) := by
  unfold ref
  pointwise []
  exact add_comm _ _

theorem out_at (x : Vec Ideal S1024x4096 .bf16) (w : Vec Ideal S4096x1024 .bf16) (o : Vec Ideal S1024x1024 .f32) (r l : Fin 1024) :
    out0_3 x w o (ix2 r l) = (∑ k : Fin 4096, (x (ix2 r k) * w (ix2 k l) : EReal)) + (o (ix2 r l) : EReal) := by
  unfold out0_3
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx3 : ∀ t : Fin cfg0.N, win0_3.index t = ![t.val / 4, t.val % 4] := (by decide +kernel : ∀ t : Fin grid0.N, _)

theorem blk0 (t : Fin cfg0.N) (r : Fin 1024) (R : Fin 4096) (h : R.val = t.val / 4 * 1024 + r.val) (k : Fin 4096) :
    iblk m c 0 t (ix2 r k) = m ((c.tc : Thread nD τ).loc main_arg0) (ix2 R k) := by
  obtain ⟨R, hR⟩ := R
  subst h
  blk_point [iblk, V, idx0 t]
theorem blk1 (t : Fin cfg0.N) (l : Fin 1024) (L : Fin 4096) (h : L.val = t.val % 4 * 1024 + l.val) (k : Fin 4096) :
    iblk m c 1 t (ix2 k l) = m ((c.tc : Thread nD τ).loc main_arg1) (ix2 k L) := by
  obtain ⟨L, hL⟩ := L
  subst h
  blk_point [iblk, V, idx1 t]
theorem blk2 (t : Fin cfg0.N) (r l : Fin 1024) (R L : Fin 4096) (h : R.val = t.val / 4 * 1024 + r.val) (h' : L.val = t.val % 4 * 1024 + l.val) :
    iblk m c 2 t (ix2 r l) = m ((c.tc : Thread nD τ).loc main_arg2) (ix2 R L) := by
  obtain ⟨R, hR⟩ := R
  obtain ⟨L, hL⟩ := L
  subst h h'
  blk_point [iblk, V, show win0_2.index t = ![t.val / 4, t.val % 4] from idx3 t]

theorem emb0 (t : Fin cfg0.N) (y : S1024x1024.Idx) : ((win0_3.blk t).view.emb y 0).val = t.val / 4 * 1024 + (y 0).val := by
  blk_simp [idx3 t]
theorem emb1 (t : Fin cfg0.N) (y : S1024x1024.Idx) : ((win0_3.blk t).view.emb y 1).val = t.val % 4 * 1024 + (y 1).val := by
  blk_simp [idx3 t]

theorem cov : (cfg0.win 3).Covers := by decide +kernel

theorem final : (dats m 0 c).arrAt 3 (cfgs 0).N =
    ref (m ((c.tc : Thread nD τ).loc main_arg0)) (m ((c.tc : Thread nD τ).loc main_arg1)) (m ((c.tc : Thread nD τ).loc main_arg2)) :=
  (dats m 0 c).arrAt_eq_of_covers 3 _ cov fun t _ y =>
    (congrFun (after0_3 m c t) y).trans (Cert.Tiles.tile (out0_3 (iblk m c 0 t) (iblk m c 1 t) (iblk m c 2 t)) _ (fun r l R L hR hL => by
      rw [out_at, ref_at]
      simp only [blk0 m c t r R hR, blk1 m c t l L hL, blk2 m c t r l R L hR hL]) y _ (emb0 t y) (emb1 t y))

theorem algebraic : Cert.algebraic_Kernel18Ideal_Reference18Ideal := by
  intro m g m' g' hp hm
  refine ⟨fun c => ref (m ((c.tc : Thread nD τ).loc main_arg0)) (m ((c.tc : Thread nD τ).loc main_arg1)) (m ((c.tc : Thread nD τ).loc main_arg2)),
    (θ_run (defs (F := Ideal)) _ _).mono (fun r h c => ⟨(h c).1.trans (final m c), (h c).2⟩) (run_blocks (F := Ideal) m g),
    (θ_run (Cert.Reference18Ideal.defs (F := Ideal)) _ _).mono (fun r h c => ?_) (Cert.Reference18Ideal.Value.run (F := Ideal) m' g')⟩
  obtain ⟨h2, ha⟩ := h c
  obtain ⟨e0, e1, e2⟩ := hm c
  refine ⟨h2.trans ?_, ha⟩
  rw [e0, e1, e2]
  rfl

end Cert.Kernel18Ideal.Value

end
-- ==== Proof.Proj19.lean ====
module

public import proofs.«01_k».proof.Defs
public import proofs.«01_k».proof.Proof.Gen.Kernel19Ideal.Value
public import proofs.«01_k».proof.Proof.Gen.Reference19Ideal.Run
public import proofs.«01_k».proof.Proof.Tiles
public import Idealize.ShloMosaic.Lib.Pipeline.ValueKit

@[expose] public section

set_option maxRecDepth 16384

/-! The first half of the mixing block's input projection: the sum over the first half of the columns. -/

noncomputable section

open Idealize.ShloMosaic Idealize.ShloMosaic.TcCoe Idealize.SL.Sem

namespace Cert.Kernel19Ideal.Value

open Cert.Kernel19Ideal Cert.Kernel19Ideal.Gen

theorem ref_eq (a : FVec Ideal S4096x2048 .bf16) (w : FVec Ideal S10240x2048 .bf16) :
    Host.dotGeneral Cert.Reference19Ideal.dot_S4096x2048_S2048x10240_S4096x10240_1_0_0_1_n_n none
    (extf .f32 a Cert.Reference19Ideal.Gen.bitsLt_bf16_f32)
    (transpose Cert.Reference19Ideal.S2048x10240 [1, 0] (extf .f32 w Cert.Reference19Ideal.Gen.bitsLt_bf16_f32)
      Cert.Reference19Ideal.Gen.transposes_S10240x2048_S2048x10240_1_0) = (Cert.Tiles.abt a w : FVec Ideal S4096x10240 .f32) := by
  funext i
  rw [eq_ix2 i]
  pointwise [Cert.Tiles.abt]

theorem out_at (x : Vec Ideal S1024x2048 .bf16) (w : Vec Ideal S1024x2048 .bf16) (r l : Fin 1024) :
    out0_2 x w (ix2 r l) = ∑ k : Fin 2048, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 10, 0] ∧ win0_1.index t = ![t.val % 10, 0] ∧ win0_2.index t = ![t.val / 10, t.val % 10] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x10240 .f32) :=
  (dats m 0 c).arrAt_eq_of_covers 2 _ (by decide +kernel) fun t _ y => (congrFun (after0_2 m c t) y).trans
    (Cert.Tiles.abt_block (p := t.val / 10 * 1024) (q := t.val % 10 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel19Ideal_Reference19Ideal := by
  intro m g m' g' hp hm
  refine ⟨_, (θ_run (defs (F := Ideal)) _ _).mono (fun r h c => ⟨(h c).1.trans (final m c), (h c).2⟩) (run_blocks (F := Ideal) m g),
    (θ_run (Cert.Reference19Ideal.defs (F := Ideal)) _ _).mono (fun r h c => ⟨(h c).1.trans ?_, (h c).2⟩) (Cert.Reference19Ideal.Value.run (F := Ideal) m' g')⟩
  obtain ⟨e0, e1⟩ := hm c
  rw [e0, e1]
  exact ref_eq _ _

end Cert.Kernel19Ideal.Value

end
-- ==== Proof.Proj20.lean ====
module

public import proofs.«01_k».proof.Defs
public import proofs.«01_k».proof.Proof.Gen.Kernel20Ideal.Value
public import proofs.«01_k».proof.Proof.Gen.Reference20Ideal.Run
public import proofs.«01_k».proof.Proof.Tiles
public import Idealize.ShloMosaic.Lib.Pipeline.ValueKit

@[expose] public section

set_option maxRecDepth 16384

/-! The second half of the mixing block's input projection, added to the first. -/

noncomputable section

open Idealize.ShloMosaic Idealize.ShloMosaic.TcCoe Idealize.SL.Sem

namespace Cert.Kernel20Ideal.Value

open Cert.Kernel20Ideal Cert.Kernel20Ideal.Gen

/-- The reference's result as a function of its three arguments. -/
def ref (a : FVec Ideal S4096x2048 .bf16) (w : FVec Ideal S10240x2048 .bf16) (p : FVec Ideal S4096x10240 .f32) : FVec Ideal S4096x10240 .f32 :=
  addf p (Host.dotGeneral Cert.Reference20Ideal.dot_S4096x2048_S2048x10240_S4096x10240_1_0_0_1_n_n none
    (extf .f32 a Cert.Reference20Ideal.Gen.bitsLt_bf16_f32)
    (transpose Cert.Reference20Ideal.S2048x10240 [1, 0] (extf .f32 w Cert.Reference20Ideal.Gen.bitsLt_bf16_f32)
      Cert.Reference20Ideal.Gen.transposes_S10240x2048_S2048x10240_1_0))

theorem ref_at (a : FVec Ideal S4096x2048 .bf16) (w : FVec Ideal S10240x2048 .bf16) (p : FVec Ideal S4096x10240 .f32) (R : Fin 4096) (L : Fin 10240) :
    ref a w p (ix2 R L) = (∑ k : Fin 2048, (a (ix2 R k) * w (ix2 L k) : EReal)) + (p (ix2 R L) : EReal) := by
  unfold ref
  pointwise []
  exact add_comm _ _

theorem out_at (x : Vec Ideal S1024x2048 .bf16) (w : Vec Ideal S1024x2048 .bf16) (o : Vec Ideal S1024x1024 .f32) (r l : Fin 1024) :
    out0_3 x w o (ix2 r l) = (∑ k : Fin 2048, (x (ix2 r k) * w (ix2 l k) : EReal)) + (o (ix2 r l) : EReal) := by
  unfold out0_3
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx0 : ∀ t : Fin cfg0.N, win0_0.index t = ![t.val / 10, 0] := (by decide +kernel : ∀ t : Fin grid0.N, _)
theorem idx1 : ∀ t : Fin cfg0.N, win0_1.index t = ![t.val % 10, 0] := (by decide +kernel : ∀ t : Fin grid0.N, _)
theorem idx3 : ∀ t : Fin cfg0.N, win0_3.index t = ![t.val / 10, t.val % 10] := (by decide +kernel : ∀ t : Fin grid0.N, _)

theorem blk0 (t : Fin cfg0.N) (r : Fin 1024) (R : Fin 4096) (h : R.val = t.val / 10 * 1024 + r.val) (k : Fin 2048) :
    iblk m c 0 t (ix2 r k) = m ((c.tc : Thread nD τ).loc main_arg0) (ix2 R k) := by
  obtain ⟨R, hR⟩ := R
  subst h
  blk_point [iblk, V, idx0 t]
theorem blk1 (t : Fin cfg0.N) (l : Fin 1024) (L : Fin 10240) (h : L.val = t.val % 10 * 1024 + l.val) (k : Fin 2048) :
    iblk m c 1 t (ix2 l k) = m ((c.tc : Thread nD τ).loc main_arg1) (ix2 L k) := by
  obtain ⟨L, hL⟩ := L
  subst h
  blk_point [iblk, V, idx1 t]
theorem blk2 (t : Fin cfg0.N) (r l : Fin 1024) (R : Fin 4096) (L : Fin 10240) (h : R.val = t.val / 10 * 1024 + r.val)
    (h' : L.val = t.val % 10 * 1024 + l.val) : iblk m c 2 t (ix2 r l) = m ((c.tc : Thread nD τ).loc main_arg2) (ix2 R L) := by
  obtain ⟨R, hR⟩ := R
  obtain ⟨L, hL⟩ := L
  subst h h'
  blk_point [iblk, V, show win0_2.index t = ![t.val / 10, t.val % 10] from idx3 t]

theorem emb0 (t : Fin cfg0.N) (y : S1024x1024.Idx) : ((win0_3.blk t).view.emb y 0).val = t.val / 10 * 1024 + (y 0).val := by
  blk_simp [idx3 t]
theorem emb1 (t : Fin cfg0.N) (y : S1024x1024.Idx) : ((win0_3.blk t).view.emb y 1).val = t.val % 10 * 1024 + (y 1).val := by
  blk_simp [idx3 t]

theorem cov : (cfg0.win 3).Covers := by decide +kernel

theorem final : (dats m 0 c).arrAt 3 (cfgs 0).N =
    ref (m ((c.tc : Thread nD τ).loc main_arg0)) (m ((c.tc : Thread nD τ).loc main_arg1)) (m ((c.tc : Thread nD τ).loc main_arg2)) :=
  (dats m 0 c).arrAt_eq_of_covers 3 _ cov fun t _ y =>
    (congrFun (after0_3 m c t) y).trans (Cert.Tiles.tile (out0_3 (iblk m c 0 t) (iblk m c 1 t) (iblk m c 2 t)) _ (fun r l R L hR hL => by
      rw [out_at, ref_at]
      simp only [blk0 m c t r R hR, blk1 m c t l L hL, blk2 m c t r l R L hR hL]) y _ (emb0 t y) (emb1 t y))

theorem algebraic : Cert.algebraic_Kernel20Ideal_Reference20Ideal := by
  intro m g m' g' hp hm
  refine ⟨fun c => ref (m ((c.tc : Thread nD τ).loc main_arg0)) (m ((c.tc : Thread nD τ).loc main_arg1)) (m ((c.tc : Thread nD τ).loc main_arg2)),
    (θ_run (defs (F := Ideal)) _ _).mono (fun r h c => ⟨(h c).1.trans (final m c), (h c).2⟩) (run_blocks (F := Ideal) m g),
    (θ_run (Cert.Reference20Ideal.defs (F := Ideal)) _ _).mono (fun r h c => ?_) (Cert.Reference20Ideal.Value.run (F := Ideal) m' g')⟩
  obtain ⟨h2, ha⟩ := h c
  obtain ⟨e0, e1, e2⟩ := hm c
  refine ⟨h2.trans ?_, ha⟩
  rw [e0, e1, e2]
  rfl

end Cert.Kernel20Ideal.Value

end
-- ==== Proof.Ple.lean ====
module

public import proofs.«01_k».proof.Defs
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Tiles
public import Idealize.ShloMosaic.Lib.Pipeline.ValueKit

@[expose] public section

set_option maxRecDepth 16384

/-! The projection of the embedding's gate, and its gradient with respect to its input. -/

noncomputable section

open Idealize.ShloMosaic Idealize.ShloMosaic.TcCoe Idealize.SL.Sem

namespace Cert.Kernel21Ideal.Value

open Cert.Kernel21Ideal Cert.Kernel21Ideal.Gen

theorem ref_eq (a w : FVec Ideal S4096x4096 .bf16) :
    truncf .bf16 (Host.dotGeneral Cert.Reference21Ideal.dot_S4096x4096_S4096x4096_S4096x4096_1_1_0_0_n_n none
      (extf .f32 a Cert.Reference21Ideal.Gen.bitsLt_bf16_f32) (extf .f32 w Cert.Reference21Ideal.Gen.bitsLt_bf16_f32))
      Cert.Reference21Ideal.Gen.bitsLt_bf16_f32 = (Cert.Tiles.abt a w : FVec Ideal S4096x4096 .bf16) := by
  funext i
  rw [eq_ix2 i]
  pointwise [Cert.Tiles.abt]

theorem out_at (x w : Vec Ideal S1024x4096 .bf16) (r l : Fin 1024) : out0_2 x w (ix2 r l) = ∑ k : Fin 4096, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x4096 .bf16) :=
  (dats m 0 c).arrAt_eq_of_covers 2 _ (by decide +kernel) fun t _ y => (congrFun (after0_2 m c t) y).trans
    (Cert.Tiles.abt_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel21Ideal_Reference21Ideal := by
  intro m g m' g' hp hm
  refine ⟨_, (θ_run (defs (F := Ideal)) _ _).mono (fun r h c => ⟨(h c).1.trans (final m c), (h c).2⟩) (run_blocks (F := Ideal) m g),
    (θ_run (Cert.Reference21Ideal.defs (F := Ideal)) _ _).mono (fun r h c => ⟨(h c).1.trans ?_, (h c).2⟩) (Cert.Reference21Ideal.Value.run (F := Ideal) m' g')⟩
  obtain ⟨e0, e1⟩ := hm c
  rw [e0, e1]
  exact ref_eq _ _

end Cert.Kernel21Ideal.Value

namespace Cert.Kernel22Ideal.Value

open Cert.Kernel22Ideal Cert.Kernel22Ideal.Gen

theorem ref_eq (a w : FVec Ideal S4096x4096 .bf16) :
    Host.dotGeneral Cert.Reference22Ideal.dot_S4096x4096_S4096x4096_S4096x4096_1_0_0_1_n_n none
      (extf .f32 a Cert.Reference22Ideal.Gen.bitsLt_bf16_f32) (extf .f32 w Cert.Reference22Ideal.Gen.bitsLt_bf16_f32) =
      (Cert.Tiles.ab a w : FVec Ideal S4096x4096 .f32) := by
  funext i
  rw [eq_ix2 i]
  pointwise [Cert.Tiles.ab]

theorem out_at (x : Vec Ideal S1024x4096 .bf16) (w : Vec Ideal S4096x1024 .bf16) (r l : Fin 1024) :
    out0_2 x w (ix2 r l) = ∑ k : Fin 4096, x (ix2 r k) * w (ix2 k l) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem final : (dats m 0 c).arrAt 2 (cfgs 0).N =
    (Cert.Tiles.ab (m ((c.tc : Thread nD τ).loc main_arg0)) (m ((c.tc : Thread nD τ).loc main_arg1)) : FVec Ideal S4096x4096 .f32) :=
  (dats m 0 c).arrAt_eq_of_covers 2 _ (by decide +kernel) fun t _ y => (congrFun (after0_2 m c t) y).trans
    (Cert.Tiles.ab_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel22Ideal_Reference22Ideal := by
  intro m g m' g' hp hm
  refine ⟨_, (θ_run (defs (F := Ideal)) _ _).mono (fun r h c => ⟨(h c).1.trans (final m c), (h c).2⟩) (run_blocks (F := Ideal) m g),
    (θ_run (Cert.Reference22Ideal.defs (F := Ideal)) _ _).mono (fun r h c => ⟨(h c).1.trans ?_, (h c).2⟩) (Cert.Reference22Ideal.Value.run (F := Ideal) m' g')⟩
  obtain ⟨e0, e1⟩ := hm c
  rw [e0, e1]
  exact ref_eq _ _

end Cert.Kernel22Ideal.Value

end
-- ==== Proof.Lora.lean ====
module

public import proofs.«01_k».proof.Defs
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Tiles
public import Idealize.ShloMosaic.Lib.Pipeline.ValueKit

@[expose] public section

set_option maxRecDepth 16384

/-! The attention's low-rank projections of the queries and of the keys and values, and their gradients with respect to
    the compressed rows. -/

noncomputable section

open Idealize.ShloMosaic Idealize.ShloMosaic.TcCoe Idealize.SL.Sem

namespace Cert.Kernel23Ideal.Value

open Cert.Kernel23Ideal Cert.Kernel23Ideal.Gen

theorem ref_eq (a w : FVec Ideal S4096x1024 .bf16) :
    Host.dotGeneral Cert.Reference23Ideal.dot_S4096x1024_S1024x4096_S4096x4096_1_0_0_1_n_n none
      (extf .f32 a Cert.Reference23Ideal.Gen.bitsLt_bf16_f32)
      (transpose Cert.Reference23Ideal.S1024x4096 [1, 0] (extf .f32 w Cert.Reference23Ideal.Gen.bitsLt_bf16_f32)
        Cert.Reference23Ideal.Gen.transposes_S4096x1024_S1024x4096_1_0) = (Cert.Tiles.abt a w : FVec Ideal S4096x4096 .f32) := by
  funext i
  rw [eq_ix2 i]
  pointwise [Cert.Tiles.abt]

theorem out_at (x w : Vec Ideal S1024x1024 .bf16) (r l : Fin 1024) : out0_2 x w (ix2 r l) = ∑ k : Fin 1024, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x4096 .f32) :=
  (dats m 0 c).arrAt_eq_of_covers 2 _ (by decide +kernel) fun t _ y => (congrFun (after0_2 m c t) y).trans
    (Cert.Tiles.abt_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel23Ideal_Reference23Ideal := by
  intro m g m' g' hp hm
  refine ⟨_, (θ_run (defs (F := Ideal)) _ _).mono (fun r h c => ⟨(h c).1.trans (final m c), (h c).2⟩) (run_blocks (F := Ideal) m g),
    (θ_run (Cert.Reference23Ideal.defs (F := Ideal)) _ _).mono (fun r h c => ⟨(h c).1.trans ?_, (h c).2⟩) (Cert.Reference23Ideal.Value.run (F := Ideal) m' g')⟩
  obtain ⟨e0, e1⟩ := hm c
  rw [e0, e1]
  exact ref_eq _ _

end Cert.Kernel23Ideal.Value

namespace Cert.Kernel24Ideal.Value

open Cert.Kernel24Ideal Cert.Kernel24Ideal.Gen

theorem ref_eq (a w : FVec Ideal S4096x512 .bf16) :
    truncf .bf16 (Host.dotGeneral Cert.Reference24Ideal.dot_S4096x512_S512x4096_S4096x4096_1_0_0_1_n_n none
      (extf .f32 a Cert.Reference24Ideal.Gen.bitsLt_bf16_f32)
      (transpose Cert.Reference24Ideal.S512x4096 [1, 0] (extf .f32 w Cert.Reference24Ideal.Gen.bitsLt_bf16_f32)
        Cert.Reference24Ideal.Gen.transposes_S4096x512_S512x4096_1_0)) Cert.Reference24Ideal.Gen.bitsLt_bf16_f32 =
      (Cert.Tiles.abt a w : FVec Ideal S4096x4096 .bf16) := by
  funext i
  rw [eq_ix2 i]
  pointwise [Cert.Tiles.abt]

theorem out_at (x w : Vec Ideal S1024x512 .bf16) (r l : Fin 1024) : out0_2 x w (ix2 r l) = ∑ k : Fin 512, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x4096 .bf16) :=
  (dats m 0 c).arrAt_eq_of_covers 2 _ (by decide +kernel) fun t _ y => (congrFun (after0_2 m c t) y).trans
    (Cert.Tiles.abt_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel24Ideal_Reference24Ideal := by
  intro m g m' g' hp hm
  refine ⟨_, (θ_run (defs (F := Ideal)) _ _).mono (fun r h c => ⟨(h c).1.trans (final m c), (h c).2⟩) (run_blocks (F := Ideal) m g),
    (θ_run (Cert.Reference24Ideal.defs (F := Ideal)) _ _).mono (fun r h c => ⟨(h c).1.trans ?_, (h c).2⟩) (Cert.Reference24Ideal.Value.run (F := Ideal) m' g')⟩
  obtain ⟨e0, e1⟩ := hm c
  rw [e0, e1]
  exact ref_eq _ _

end Cert.Kernel24Ideal.Value

namespace Cert.Kernel25Ideal.Value

open Cert.Kernel25Ideal Cert.Kernel25Ideal.Gen

theorem ref_eq (a : FVec Ideal S4096x4096 .bf16) (w : FVec Ideal S4096x1024 .bf16) :
    Host.dotGeneral Cert.Reference25Ideal.dot_S4096x4096_S1024x4096_S4096x1024_1_1_0_0_n_n none
      (extf .f32 a Cert.Reference25Ideal.Gen.bitsLt_bf16_f32)
      (transpose Cert.Reference25Ideal.S1024x4096 [1, 0] (extf .f32 w Cert.Reference25Ideal.Gen.bitsLt_bf16_f32)
        Cert.Reference25Ideal.Gen.transposes_S4096x1024_S1024x4096_1_0) = (Cert.Tiles.ab a w : FVec Ideal S4096x1024 .f32) := by
  funext i
  rw [eq_ix2 i]
  pointwise [Cert.Tiles.ab]

theorem out_at (x : Vec Ideal S1024x4096 .bf16) (w : Vec Ideal S4096x1024 .bf16) (r l : Fin 1024) :
    out0_2 x w (ix2 r l) = ∑ k : Fin 4096, x (ix2 r k) * w (ix2 k l) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N =
    (Cert.Tiles.ab (m ((c.tc : Thread nD τ).loc main_arg0)) (m ((c.tc : Thread nD τ).loc main_arg1)) : FVec Ideal S4096x1024 .f32) :=
  (dats m 0 c).arrAt_eq_of_covers 2 _ (by decide +kernel) fun t _ y => (congrFun (after0_2 m c t) y).trans
    (Cert.Tiles.ab_block (p := t.val * 1024) (q := 0 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel25Ideal_Reference25Ideal := by
  intro m g m' g' hp hm
  refine ⟨_, (θ_run (defs (F := Ideal)) _ _).mono (fun r h c => ⟨(h c).1.trans (final m c), (h c).2⟩) (run_blocks (F := Ideal) m g),
    (θ_run (Cert.Reference25Ideal.defs (F := Ideal)) _ _).mono (fun r h c => ⟨(h c).1.trans ?_, (h c).2⟩) (Cert.Reference25Ideal.Value.run (F := Ideal) m' g')⟩
  obtain ⟨e0, e1⟩ := hm c
  rw [e0, e1]
  exact ref_eq _ _

end Cert.Kernel25Ideal.Value

namespace Cert.Kernel26Ideal.Value

open Cert.Kernel26Ideal Cert.Kernel26Ideal.Gen

theorem ref_eq (a : FVec Ideal S4096x4096 .bf16) (w : FVec Ideal S4096x512 .bf16) :
    Host.dotGeneral Cert.Reference26Ideal.dot_S4096x4096_S512x4096_S4096x512_1_1_0_0_n_n none
      (extf .f32 a Cert.Reference26Ideal.Gen.bitsLt_bf16_f32)
      (transpose Cert.Reference26Ideal.S512x4096 [1, 0] (extf .f32 w Cert.Reference26Ideal.Gen.bitsLt_bf16_f32)
        Cert.Reference26Ideal.Gen.transposes_S4096x512_S512x4096_1_0) = (Cert.Tiles.ab a w : FVec Ideal S4096x512 .f32) := by
  funext i
  rw [eq_ix2 i]
  pointwise [Cert.Tiles.ab]

theorem out_at (x : Vec Ideal S1024x4096 .bf16) (w : Vec Ideal S4096x512 .bf16) (r : Fin 1024) (l : Fin 512) :
    out0_2 x w (ix2 r l) = ∑ k : Fin 4096, x (ix2 r k) * w (ix2 k l) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 (cfgs 0).N =
    (Cert.Tiles.ab (m ((c.tc : Thread nD τ).loc main_arg0)) (m ((c.tc : Thread nD τ).loc main_arg1)) : FVec Ideal S4096x512 .f32) :=
  (dats m 0 c).arrAt_eq_of_covers 2 _ (by decide +kernel) fun t _ y => (congrFun (after0_2 m c t) y).trans
    (Cert.Tiles.ab_block (p := t.val * 1024) (q := 0 * 512) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel26Ideal_Reference26Ideal := by
  intro m g m' g' hp hm
  refine ⟨_, (θ_run (defs (F := Ideal)) _ _).mono (fun r h c => ⟨(h c).1.trans (final m c), (h c).2⟩) (run_blocks (F := Ideal) m g),
    (θ_run (Cert.Reference26Ideal.defs (F := Ideal)) _ _).mono (fun r h c => ⟨(h c).1.trans ?_, (h c).2⟩) (Cert.Reference26Ideal.Value.run (F := Ideal) m' g')⟩
  obtain ⟨e0, e1⟩ := hm c
  rw [e0, e1]
  exact ref_eq _ _

end Cert.Kernel26Ideal.Value

end
-- ==== Proof.PleProj.lean ====
module

public import proofs.«01_k».proof.Defs
public import proofs.«01_k».proof.Proof.Gen.Kernel27Ideal.Value
public import proofs.«01_k».proof.Proof.Gen.Reference27Ideal.Run
public import proofs.«01_k».proof.Proof.Tiles
public import Idealize.ShloMosaic.Lib.Pipeline.ValueKit

@[expose] public section

set_option maxRecDepth 16384

/-! The projection of the per-layer embedding. -/

noncomputable section

open Idealize.ShloMosaic Idealize.ShloMosaic.TcCoe Idealize.SL.Sem

namespace Cert.Kernel27Ideal.Value

open Cert.Kernel27Ideal Cert.Kernel27Ideal.Gen

theorem ref_eq (a w : FVec Ideal S4096x256 .bf16) :
    Host.dotGeneral Cert.Reference27Ideal.dot_S4096x256_S256x4096_S4096x4096_1_0_0_1_n_n none
      (extf .f32 a Cert.Reference27Ideal.Gen.bitsLt_bf16_f32)
      (transpose Cert.Reference27Ideal.S256x4096 [1, 0] (extf .f32 w Cert.Reference27Ideal.Gen.bitsLt_bf16_f32)
        Cert.Reference27Ideal.Gen.transposes_S4096x256_S256x4096_1_0) = (Cert.Tiles.abt a w : FVec Ideal S4096x4096 .f32) := by
  funext i
  rw [eq_ix2 i]
  pointwise [Cert.Tiles.abt]

theorem out_at (x w : Vec Ideal S1024x256 .bf16) (r l : Fin 1024) : out0_2 x w (ix2 r l) = ∑ k : Fin 256, x (ix2 r k) * w (ix2 l k) := by
  unfold out0_2
  canon_tiles x h
  case piece0 =>
    idx_vars x
    open_payloads
    pointwise [h0, h1]
    rw [Fin.ext h0, Fin.ext h1]

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem final : (dats m 0 c).arrAt 2 (cfgs 0).N =
    (Cert.Tiles.abt (m ((c.tc : Thread nD τ).loc main_arg0)) (m ((c.tc : Thread nD τ).loc main_arg1)) : FVec Ideal S4096x4096 .f32) :=
  (dats m 0 c).arrAt_eq_of_covers 2 _ (by decide +kernel) fun t _ y => (congrFun (after0_2 m c t) y).trans
    (Cert.Tiles.abt_block (p := t.val / 4 * 1024) (q := t.val % 4 * 1024) (out_at _ _)
      (fun r ⟨R, hR⟩ h k => by subst h; blk_point [iblk, V, (idx t).1])
      (fun l ⟨L, hL⟩ h k => by subst h; blk_point [iblk, V, (idx t).2.1]) y _
      (by blk_simp [(idx t).2.2]) (by blk_simp [(idx t).2.2]))

theorem algebraic : Cert.algebraic_Kernel27Ideal_Reference27Ideal := by
  intro m g m' g' hp hm
  refine ⟨_, (θ_run (defs (F := Ideal)) _ _).mono (fun r h c => ⟨(h c).1.trans (final m c), (h c).2⟩) (run_blocks (F := Ideal) m g),
    (θ_run (Cert.Reference27Ideal.defs (F := Ideal)) _ _).mono (fun r h c => ⟨(h c).1.trans ?_, (h c).2⟩) (Cert.Reference27Ideal.Value.run (F := Ideal) m' g')⟩
  obtain ⟨e0, e1⟩ := hm c
  rw [e0, e1]
  exact ref_eq _ _

end Cert.Kernel27Ideal.Value

end
-- ==== Proof.RmsFwd.lean ====
module

public import proofs.«01_k».proof.Defs
public import proofs.«01_k».proof.Proof.Gen.Kernel28Ideal.Value
public import proofs.«01_k».proof.Proof.Gen.Reference28Ideal.Run
public import proofs.«01_k».proof.Proof.RmsMath
public import proofs.«01_k».proof.Proof.Tiles
public import Idealize.ShloMosaic.Lib.Pipeline.ValueKit

@[expose] public section

set_option maxRecDepth 16384

/-! The root-mean-square norm of rows: each block of rows of the kernel's is the reference's. -/

noncomputable section

open Idealize.ShloMosaic Idealize.ShloMosaic.TcCoe Idealize.SL.Sem

namespace Cert.Kernel28Ideal.Value

open Cert.Kernel28Ideal Cert.Kernel28Ideal.Gen Cert.Rms

/-- The norm of the rows as a function of the rows and the scale. -/
def norm (x : FVec Ideal S4096x4096 .f32) (g : FVec Ideal S1x4096 .f32) : FVec Ideal S4096x4096 .bf16 :=
  fun i => (x i : EReal) * krs (fun k => x (ix2 (i 0 : Fin 4096) k)) * (g (ix2 0 (i 1 : Fin 4096)) : EReal)

section
open Cert.Reference28Ideal.Gen

/-- One over the root of the rows' mean squares, as the reference takes it. -/
def frs (x : FVec Ideal S4096x4096 .f32) : FVec Ideal Cert.Reference28Ideal.S4096x1 .f32 :=
  Host.rsqrt (addf (Host.divf (broadcastInDim Cert.Reference28Ideal.S4096x1 ![0] bcast_S4096_S4096x1_0
    (Host.reduceAdd (mulf x x) (constant Cert.Reference28Ideal.S_ .f32 0x00000000#32) reducesTo_S4096x4096_S4096_d1 h_S_))
    (broadcastInDim Cert.Reference28Ideal.S4096x1 ![] bcast_S_S4096x1 (constant Cert.Reference28Ideal.S_ .f32 0x45800000#32)))
    (broadcastInDim Cert.Reference28Ideal.S4096x1 ![] bcast_S_S4096x1 (constant Cert.Reference28Ideal.S_ .f32 0x358637BD#32)))

theorem frs_at (x : FVec Ideal S4096x4096 .f32) (r : Fin 4096) : frs x (ix2 r 0) = krs (fun k => x (ix2 r k)) := by
  unfold frs
  pointwise []
  rfl

theorem ref_eq (x : FVec Ideal S4096x4096 .f32) (g : FVec Ideal S1x4096 .f32) :
    truncf .bf16 (mulf (mulf x (broadcastInDim S4096x4096 ![0, 1] bcast_S4096x1_S4096x4096_0_1 (frs x)))
      (broadcastInDim S4096x4096 ![0, 1] bcast_S1x4096_S4096x4096_0_1 (broadcastInDim S1x4096 ![1] bcast_S4096_S1x4096_1
        (shapeCast Cert.Reference28Ideal.S4096 g shapeCasts_S1x4096_S4096)))) Cert.Reference28Ideal.Gen.bitsLt_bf16_f32 = norm x g := by
  funext i
  rw [eq_ix2 i]
  pointwise [norm]
  exact congrArg₂ (fun a b : EReal => a * b) (congrArg₂ (fun a b : EReal => a * b) rfl (frs_at x _)) rfl

end

theorem out_at (x : Vec Ideal S256x4096 .f32) (g : Vec Ideal S1x4096 .f32) (r : Fin 256) (l : Fin 4096) :
    out0_2 x g (ix2 r l) = (x (ix2 r l) : EReal) * krs (fun k => x (ix2 r k)) * (g (ix2 0 l) : EReal) := by
  unfold out0_2
  canon_tiles x h
  case piece0 =>
    idx_vars x
    open_payloads
    pointwise [h0, h1]
    rw [Fin.ext h0, Fin.ext h1]
    rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem blk0 (t : Fin cfg0.N) (r : Fin 256) (R : Fin 4096) (h : R.val = t.val * 256 + r.val) (k : Fin 4096) :
    iblk m c 0 t (ix2 r k) = m ((c.tc : Thread nD τ).loc main_arg0) (ix2 R k) := by
  obtain ⟨R, hR⟩ := R
  subst h
  blk_point [iblk, V, (idx t).1]
theorem blk1 (t : Fin cfg0.N) (k : Fin 4096) :
    iblk m c 1 t (ix2 0 k) = m ((c.tc : Thread nD τ).loc main_arg1) (ix2 0 k) := by
  blk_point [iblk, V, (idx t).2.1]

theorem final : (dats m 0 c).arrAt 2 (cfgs 0).N =
    norm (m ((c.tc : Thread nD τ).loc main_arg0)) (m ((c.tc : Thread nD τ).loc main_arg1)) :=
  (dats m 0 c).arrAt_eq_of_covers 2 _ (by decide +kernel) fun t _ y => (congrFun (after0_2 m c t) y).trans
    (Cert.Tiles.tile (p := t.val * 256) (q := 0 * 4096) (out0_2 (iblk m c 0 t) (iblk m c 1 t)) _ (fun r l R L hR hL => by
      obtain rfl : L = l := Fin.ext (by omega)
      rw [out_at]
      simp only [blk0 m c t r R hR, blk1 m c t]
      rfl) y _ (by blk_simp [(idx t).2.2]) (by blk_simp [(idx t).2.2]))

theorem algebraic : Cert.algebraic_Kernel28Ideal_Reference28Ideal := by
  intro m g m' g' hp hm
  refine ⟨_, (θ_run (defs (F := Ideal)) _ _).mono (fun r h c => ⟨(h c).1.trans (final m c), (h c).2⟩) (run_blocks (F := Ideal) m g),
    (θ_run (Cert.Reference28Ideal.defs (F := Ideal)) _ _).mono (fun r h c => ⟨(h c).1.trans ?_, (h c).2⟩) (Cert.Reference28Ideal.Value.run (F := Ideal) m' g')⟩
  obtain ⟨e0, e1⟩ := hm c
  rw [e0, e1]
  exact ref_eq _ _

end Cert.Kernel28Ideal.Value

end
-- ==== Proof.RmsX.lean ====
module

public import proofs.«01_k».proof.Proof.RmsClaim
public import proofs.«01_k».proof.Proof.Gen.Kernel29Ideal.Value
public import proofs.«01_k».proof.Proof.Gen.Reference29Ideal.Run
public import proofs.«01_k».proof.Proof.Tiles

@[expose] public section

set_option maxRecDepth 16384

/-! The gradient of the first row norm, which with the residual stream's gradient added is the gradient of the step's
    input. The element forms of a block's result and of the reference are those of the later norms' gradient. -/

noncomputable section

open Idealize.ShloMosaic Idealize.ShloMosaic.TcCoe Idealize.SL.Sem

namespace Cert.Kernel29Ideal.Value

open Cert.Kernel29Ideal Cert.Kernel29Ideal.Gen Cert.Rms
open Cert.Kernel11Ideal.Value (dxAt part term rowN sum_rows)
open Cert.Reference11Ideal.Value (ref0 ref2 ref0_at ref2_at)

variable (m : (ℓ : Loc nD τ sig) → Buf (Elt Ideal) ℓ) (c : Dev nD)

/-- What a grid point computes is what a grid point of the later norms' gradient does. -/
theorem pay_dx (x : Vec Ideal S256x4096 .f32) (d : Vec Ideal S256x4096 .bf16) (g : Vec Ideal S1x4096 .f32) (e : Vec Ideal S256x4096 .f32)
    (r : Fin 256) (l : Fin 4096) : k0_pay4 x d g e (ix2 r l) = dxAt x d g e r l :=
  Cert.Kernel11Ideal.Value.pay4_at x d g e r l
theorem pay_dg (x : Vec Ideal S256x4096 .f32) (d : Vec Ideal S256x4096 .bf16) (l : Fin 4096) : k0_pay5 x d (ix2 0 l) = part x d l :=
  Cert.Kernel11Ideal.Value.pay6_at x d l

theorem dx_out (t : Fin cfg0.N) : (outsAt0 m c t.val t.isLt).1 = k0_pay4 (iblk m c 0 t) (iblk m c 1 t) (iblk m c 2 t) (iblk m c 3 t) := by
  have h16 : t.val < 16 := lt_of_lt_of_eq t.isLt N_0
  rcases Nat.eq_zero_or_pos t.val with h | h
  · rw [outsAt0_A m c t (by omega) (by omega)]
    frame_out
  · rw [outsAt0_B m c t (by omega) h]
    frame_out
theorem dg_first (t : Fin cfg0.N) (h : t.val = 0) (l : Fin 4096) :
    (outsAt0 m c t.val t.isLt).2 (ix2 0 l) = part (iblk m c 0 t) (iblk m c 1 t) l := by
  rw [outsAt0_A m c t (by omega) (by omega)]
  frame_out
  exact pay_dg _ _ _
theorem dg_next (t : Fin cfg0.N) (h : 1 ≤ t.val) (l : Fin 4096) :
    (outsAt0 m c t.val t.isLt).2 (ix2 0 l) =
      ((outsAt0 m c (t.val - 1) (lt_of_le_of_lt (Nat.sub_le _ _) t.isLt)).2 (ix2 0 l) : EReal) + part (iblk m c 0 t) (iblk m c 1 t) l := by
  rw [outsAt0_B m c t (by have : t.val < 16 := lt_of_lt_of_eq t.isLt N_0; omega) h]
  frame_out
  unfold k0_pay1
  pointwise []
  exact congrArg₂ (fun x y : EReal => x + y) rfl (pay_dg _ _ _)

theorem idx : ∀ t : Fin cfg0.N, win0_0.index t = ![t.val, 0] ∧ win0_1.index t = ![t.val, 0] ∧ win0_2.index t = ![0, 0] ∧ win0_3.index t = ![t.val, 0] ∧
    win0_4.index t = ![t.val, 0] ∧ win0_5.index t = ![0, 0] := (by decide +kernel : ∀ t : Fin grid0.N, _)

theorem blk0 (t : Fin cfg0.N) (r : Fin 256) (R : Fin 4096) (h : R.val = t.val * 256 + r.val) (k : Fin 4096) :
    iblk m c 0 t (ix2 r k) = m ((c.tc : Thread nD τ).loc main_arg0) (ix2 R k) := by
  obtain ⟨R, hR⟩ := R
  subst h
  blk_point [iblk, V, (idx t).1]
theorem blk1 (t : Fin cfg0.N) (r : Fin 256) (R : Fin 4096) (h : R.val = t.val * 256 + r.val) (k : Fin 4096) :
    iblk m c 1 t (ix2 r k) = m ((c.tc : Thread nD τ).loc main_arg1) (ix2 R k) := by
  obtain ⟨R, hR⟩ := R
  subst h
  blk_point [iblk, V, (idx t).2.1]
theorem blk2 (t : Fin cfg0.N) (k : Fin 4096) : iblk m c 2 t (ix2 0 k) = m ((c.tc : Thread nD τ).loc main_arg2) (ix2 0 k) := by
  blk_point [iblk, V, (idx t).2.2.1]
theorem blk3 (t : Fin cfg0.N) (r : Fin 256) (R : Fin 4096) (h : R.val = t.val * 256 + r.val) (k : Fin 4096) :
    iblk m c 3 t (ix2 r k) = m ((c.tc : Thread nD τ).loc main_arg3) (ix2 R k) := by
  obtain ⟨R, hR⟩ := R
  subst h
  blk_point [iblk, V, (idx t).2.2.2.1]

theorem part_eq (t : Fin cfg0.N) (h16 : t.val < 16) (l : Fin 4096) : part (iblk m c 0 t) (iblk m c 1 t) l =
    ∑ r : Fin 256, term (m ((c.tc : Thread nD τ).loc main_arg0)) (m ((c.tc : Thread nD τ).loc main_arg1)) l (rowN t.val h16 r) := by
  unfold part term
  exact Finset.sum_congr rfl fun r _ => by simp only [blk0 m c t r (rowN t.val h16 r) rfl, blk1 m c t r (rowN t.val h16 r) rfl]

/-- After point `n` the second output holds the terms of the rows up to that point's. -/
theorem dg_acc (l : Fin 4096) : ∀ (n : ℕ) (hn : n < cfg0.N) (h16 : n < 16), (outsAt0 m c n hn).2 (ix2 0 l) =
    ∑ p : Fin (n + 1), ∑ r : Fin 256, term (m ((c.tc : Thread nD τ).loc main_arg0)) (m ((c.tc : Thread nD τ).loc main_arg1)) l
      (rowN p.val (by omega) r)
  | 0, hn, h16 => by
    rw [Fin.sum_univ_one]
    exact (dg_first m c ⟨0, hn⟩ rfl l).trans (part_eq m c ⟨0, hn⟩ h16 l)
  | n + 1, hn, h16 => by
    rw [Fin.sum_univ_castSucc]
    exact (dg_next m c ⟨n + 1, hn⟩ (by show 1 ≤ n + 1; omega) l).trans (congrArg₂ (fun x y : EReal => x + y)
      (dg_acc l n (lt_trans (Nat.lt_succ_self n) hn) (by omega)) (part_eq m c ⟨n + 1, hn⟩ h16 l))

theorem dx_final : (dats m 0 c).arrAt 4 (cfgs 0).N = ref0 (m ((c.tc : Thread nD τ).loc main_arg0)) (m ((c.tc : Thread nD τ).loc main_arg1))
    (m ((c.tc : Thread nD τ).loc main_arg2)) (m ((c.tc : Thread nD τ).loc main_arg3)) :=
  (dats m 0 c).arrAt_eq_of_covers 4 _ (by decide +kernel) fun t _ y => (congrFun ((after0_4 m c t).trans (dx_out m c t)) y).trans
    (Cert.Tiles.tile (p := t.val * 256) (q := 0 * 4096) (k0_pay4 (iblk m c 0 t) (iblk m c 1 t) (iblk m c 2 t) (iblk m c 3 t)) _ (fun r l R L hR hL => by
      obtain rfl : L = l := Fin.ext (by omega)
      rw [pay_dx, ref0_at]
      unfold dxAt
      simp only [blk0 m c t r R hR, blk1 m c t r R hR, blk2 m c t, blk3 m c t r R hR]) y _
      (by blk_simp [(idx t).2.2.2.2.1]) (by blk_simp [(idx t).2.2.2.2.1]))

theorem dg_final : (dats m 0 c).arrAt 5 (cfgs 0).N = ref2 (m ((c.tc : Thread nD τ).loc main_arg0)) (m ((c.tc : Thread nD τ).loc main_arg1)) :=
  (dats m 0 c).arrAt_eq_of_covers 5 _ (by decide +kernel) fun t hf y => (congrFun (after0_5 m c t) y).trans
    (Cert.Tiles.tile (p := 0) (q := 0) (outsAt0 m c t.val t.isLt).2 _ (fun r l R L hR hL => by
      have h16 : t.val < 16 := lt_of_lt_of_eq t.isLt N_0
      have h15 : t.val = 15 := by have := (flush0_5 t).1 hf; omega
      obtain rfl : L = l := Fin.ext (by omega)
      obtain rfl : R = 0 := Subsingleton.elim _ _
      obtain rfl : r = 0 := Subsingleton.elim _ _
      obtain ⟨n, hn⟩ := t
      obtain rfl : n = 15 := h15
      exact (dg_acc m c _ 15 hn (by decide)).trans ((sum_rows _).trans (ref2_at _ _ _).symm)) y _
      (by blk_simp [(idx t).2.2.2.2.2]) (by blk_simp [(idx t).2.2.2.2.2]))

theorem algebraic : Cert.algebraic_Kernel29Ideal_Reference29Ideal := by
  intro m g m' g' hp hm
  refine ⟨_, _, (θ_run (defs (F := Ideal)) _ _).mono (fun r h c => ⟨(h c).1.trans (dx_final m c), (h c).2.1.trans (dg_final m c), (h c).2.2⟩) (run_blocks (F := Ideal) m g),
    (θ_run (Cert.Reference29Ideal.defs (F := Ideal)) _ _).mono (fun r h c => ⟨(h c).1.trans ?_, (h c).2.1.trans ?_, (h c).2.2⟩)
      (Cert.Reference29Ideal.Value.run (F := Ideal) m' g')⟩ <;> obtain ⟨e0, e1, e2, e3⟩ := hm c
  · rw [← e0, ← e1, ← e2, ← e3]
    rfl
  · rw [← e0, ← e1]
    rfl

end Cert.Kernel29Ideal.Value

end
-- ==== Proof.lean ====
module

public import proofs.«01_k».proof.Defs
public import proofs.«01_k».proof.Proof.GateClaim
public import proofs.«01_k».proof.Proof.DactClaim
public import proofs.«01_k».proof.Proof.Acc4
public import proofs.«01_k».proof.Proof.Acc5
public import proofs.«01_k».proof.Proof.Half6
public import proofs.«01_k».proof.Proof.Grad6
public import proofs.«01_k».proof.Proof.Half7
public import proofs.«01_k».proof.Proof.Grad7
public import proofs.«01_k».proof.Proof.Acc8
public import proofs.«01_k».proof.Proof.Up9
public import proofs.«01_k».proof.Proof.RetPins
public import proofs.«01_k».proof.Proof.RetClaim
public import proofs.«01_k».proof.Proof.RmsClaim
public import proofs.«01_k».proof.Proof.RopeClaim
public import proofs.«01_k».proof.Proof.Tiles
public import proofs.«01_k».proof.Proof.Acc13
public import proofs.«01_k».proof.Proof.Win14
public import proofs.«01_k».proof.Proof.HalfO
public import proofs.«01_k».proof.Proof.GradORef
public import proofs.«01_k».proof.Proof.GradO
public import proofs.«01_k».proof.Proof.GradOwn
public import proofs.«01_k».proof.Proof.Attn17
public import proofs.«01_k».proof.Proof.Attn18
public import proofs.«01_k».proof.Proof.Proj19
public import proofs.«01_k».proof.Proof.Proj20
public import proofs.«01_k».proof.Proof.Ple
public import proofs.«01_k».proof.Proof.Lora
public import proofs.«01_k».proof.Proof.PleProj
public import proofs.«01_k».proof.Proof.RmsFwd
public import proofs.«01_k».proof.Proof.RmsX
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Flash
public import proofs.«01_k».proof.Proof.Gen.Kernel10Ideal.Flash
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Pre_finite2
public import proofs.«01_k».proof.Proof.Gen.Pre_core6
public import proofs.«01_k».proof.Proof.Gen.Pre_core7
public import proofs.«01_k».proof.Proof.Gen.Pre_tables
public import proofs.«01_k».proof.Proof.Gen.Pre_finite10
public import proofs.«01_k».proof.Proof.Gen.Pre_core15
public import proofs.«01_k».proof.Proof.Gen.Pre_core16

@[expose] public section

noncomputable section

namespace Cert.Proof

open Idealize.ShloMosaic Idealize.SL.Sem

/-- The reference of program 2 runs to the end and leaves its arguments unchanged. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The reference of program 3 runs to the end and leaves its arguments unchanged. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of program 4 runs to the end and leaves its arguments unchanged. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of program 5 runs to the end and leaves its arguments unchanged. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of program 6 runs to the end and leaves its arguments unchanged. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of program 7 runs to the end and leaves its arguments unchanged. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of program 8 runs to the end and leaves its arguments unchanged. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of program 9 runs to the end and leaves its arguments unchanged. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The reference of program 10 runs to the end and leaves its arguments unchanged. -/
theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The reference of program 11 runs to the end and leaves its arguments unchanged. -/
theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The reference of program 12 runs to the end and leaves its arguments unchanged. -/
theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The reference of program 13 runs to the end and leaves its arguments unchanged. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference of program 14 runs to the end and leaves its arguments unchanged. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference of program 15 runs to the end and leaves its arguments unchanged. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The reference of program 16 runs to the end and leaves its arguments unchanged. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The reference of program 17 runs to the end and leaves its arguments unchanged. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The reference of program 18 runs to the end and leaves its arguments unchanged. -/
theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The reference of program 19 runs to the end and leaves its arguments unchanged. -/
theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The reference of program 20 runs to the end and leaves its arguments unchanged. -/
theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- The reference of program 21 runs to the end and leaves its arguments unchanged. -/
theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

/-- The reference of program 22 runs to the end and leaves its arguments unchanged. -/
theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- The reference of program 23 runs to the end and leaves its arguments unchanged. -/
theorem frame_reference23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

/-- The reference of program 24 runs to the end and leaves its arguments unchanged. -/
theorem frame_reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- The reference of program 25 runs to the end and leaves its arguments unchanged. -/
theorem frame_reference25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- The reference of program 26 runs to the end and leaves its arguments unchanged. -/
theorem frame_reference26 : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- The reference of program 27 runs to the end and leaves its arguments unchanged. -/
theorem frame_reference27 : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The reference of program 28 runs to the end and leaves its arguments unchanged. -/
theorem frame_reference28 : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The reference of program 29 runs to the end and leaves its arguments unchanged. -/
theorem frame_reference29 : Cert.quiescent_Reference29Ideal := fun m ρ _ =>
  (θ_run Cert.Reference29Ideal.defs _ _).mono (fun r h => ⟨fun c => (h c).2.2, sem_eq_zero_of_no_sems (by decide) r.2⟩)
    (Cert.Reference29Ideal.Value.run (F := Ideal) m ρ)

/-- Every claim of the certificate. -/
theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Pre_finite2.Gen.facts, Cert.Pre_core6.Gen.facts, Cert.Pre_core7.Gen.facts, Cert.Pre_tables.Gen.facts, Cert.Pre_finite10.Gen.facts, Cert.Pre_core15.Gen.facts, Cert.Pre_core16.Gen.facts,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ h => Cert.Kernel6.Gen.frame m ρ (Cert.Kernel6Ideal.Half.ok_of_pre (F := Bits) m h),
    fun m ρ h => Cert.Kernel6Ideal.Gen.frame m ρ (Cert.Kernel6Ideal.Half.ok_of_pre (F := Ideal) m h),
    frame_reference6,
    fun m ρ _ => frame_reference6 m ρ trivial,
    fun m ρ h => Cert.Kernel7.Gen.frame m ρ (Cert.Kernel7Ideal.Half.ok_of_pre (F := Bits) m h),
    fun m ρ h => Cert.Kernel7Ideal.Gen.frame m ρ (Cert.Kernel7Ideal.Half.ok_of_pre (F := Ideal) m h),
    frame_reference7,
    fun m ρ _ => frame_reference7 m ρ trivial,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    Cert.RetPins.frame_bits,
    Cert.RetPins.frame_ideal,
    Cert.RetPins.frame_finite,
    frame_reference10,
    fun m ρ _ => frame_reference10 m ρ trivial,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    frame_reference12,
    fun m ρ _ => Cert.Kernel13.Gen.frame m ρ,
    fun m ρ _ => Cert.Kernel13Ideal.Gen.frame m ρ,
    frame_reference13,
    fun m ρ _ => Cert.Kernel14.Gen.frame m ρ,
    fun m ρ _ => Cert.Kernel14Ideal.Gen.frame m ρ,
    frame_reference14,
    fun m ρ h => Cert.Kernel15.Gen.frame m ρ (Cert.Kernel15Ideal.Half.ok_of m (Cert.Kernel15Ideal.Half.cls_of_pre (F := Bits) m h)),
    fun m ρ h => Cert.Kernel15Ideal.Gen.frame m ρ (Cert.Kernel15Ideal.Half.ok_of m (Cert.Kernel15Ideal.Half.cls_of_pre (F := Ideal) m h)),
    frame_reference15,
    fun m ρ _ => frame_reference15 m ρ trivial,
    fun m ρ h => Cert.Kernel16.Gen.frame m ρ (Cert.Kernel16Ideal.Half.ok_of m (Cert.Kernel16Ideal.Half.cls_of_pre (F := Bits) m h)),
    fun m ρ h => Cert.Kernel16Ideal.Gen.frame m ρ (Cert.Kernel16Ideal.Half.ok_of m (Cert.Kernel16Ideal.Half.cls_of_pre (F := Ideal) m h)),
    frame_reference16,
    fun m ρ _ => frame_reference16 m ρ trivial,
    fun m ρ _ => Cert.Kernel17.Gen.frame m ρ,
    fun m ρ _ => Cert.Kernel17Ideal.Gen.frame m ρ,
    frame_reference17,
    fun m ρ _ => Cert.Kernel18.Gen.frame m ρ,
    fun m ρ _ => Cert.Kernel18Ideal.Gen.frame m ρ,
    frame_reference18,
    fun m ρ _ => Cert.Kernel19.Gen.frame m ρ,
    fun m ρ _ => Cert.Kernel19Ideal.Gen.frame m ρ,
    frame_reference19,
    fun m ρ _ => Cert.Kernel20.Gen.frame m ρ,
    fun m ρ _ => Cert.Kernel20Ideal.Gen.frame m ρ,
    frame_reference20,
    fun m ρ _ => Cert.Kernel21.Gen.frame m ρ,
    fun m ρ _ => Cert.Kernel21Ideal.Gen.frame m ρ,
    frame_reference21,
    fun m ρ _ => Cert.Kernel22.Gen.frame m ρ,
    fun m ρ _ => Cert.Kernel22Ideal.Gen.frame m ρ,
    frame_reference22,
    fun m ρ _ => Cert.Kernel23.Gen.frame m ρ,
    fun m ρ _ => Cert.Kernel23Ideal.Gen.frame m ρ,
    frame_reference23,
    fun m ρ _ => Cert.Kernel24.Gen.frame m ρ,
    fun m ρ _ => Cert.Kernel24Ideal.Gen.frame m ρ,
    frame_reference24,
    fun m ρ _ => Cert.Kernel25.Gen.frame m ρ,
    fun m ρ _ => Cert.Kernel25Ideal.Gen.frame m ρ,
    frame_reference25,
    fun m ρ _ => Cert.Kernel26.Gen.frame m ρ,
    fun m ρ _ => Cert.Kernel26Ideal.Gen.frame m ρ,
    frame_reference26,
    fun m ρ _ => Cert.Kernel27.Gen.frame m ρ,
    fun m ρ _ => Cert.Kernel27Ideal.Gen.frame m ρ,
    frame_reference27,
    fun m ρ _ => Cert.Kernel28.Gen.frame m ρ,
    fun m ρ _ => Cert.Kernel28Ideal.Gen.frame m ρ,
    frame_reference28,
    fun m ρ _ => Cert.Kernel29.Gen.frame m ρ,
    fun m ρ _ => Cert.Kernel29Ideal.Gen.frame m ρ,
    frame_reference29,
    trivial,
    Cert.GateClaim.algebraic,
    trivial,
    Cert.DactClaim.algebraic,
    trivial,
    Cert.Acc4.algebraic,
    trivial,
    Cert.Acc5.algebraic,
    trivial,
    Cert.Kernel6Ideal.Half.algebraic,
    trivial,
    Cert.Kernel7Ideal.Half.algebraic,
    trivial,
    Cert.Acc8.algebraic,
    trivial,
    Cert.Up9.algebraic,
    trivial,
    Cert.RetClaim.algebraic,
    trivial,
    Cert.RmsClaim.algebraic,
    trivial,
    Cert.RopeClaim.algebraic,
    trivial,
    Cert.Kernel13Ideal.Value.algebraic,
    trivial,
    Cert.Kernel14Ideal.Value.algebraic,
    trivial,
    Cert.Kernel15Ideal.Half.algebraic,
    trivial,
    Cert.Kernel16Ideal.Half.algebraic,
    trivial,
    Cert.Kernel17Ideal.Value.algebraic,
    trivial,
    Cert.Kernel18Ideal.Value.algebraic,
    trivial,
    Cert.Kernel19Ideal.Value.algebraic,
    trivial,
    Cert.Kernel20Ideal.Value.algebraic,
    trivial,
    Cert.Kernel21Ideal.Value.algebraic,
    trivial,
    Cert.Kernel22Ideal.Value.algebraic,
    trivial,
    Cert.Kernel23Ideal.Value.algebraic,
    trivial,
    Cert.Kernel24Ideal.Value.algebraic,
    trivial,
    Cert.Kernel25Ideal.Value.algebraic,
    trivial,
    Cert.Kernel26Ideal.Value.algebraic,
    trivial,
    Cert.Kernel27Ideal.Value.algebraic,
    trivial,
    Cert.Kernel28Ideal.Value.algebraic,
    trivial,
    Cert.Kernel29Ideal.Value.algebraic⟩

end Cert.Proof

end

end
